-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mlps (m : (ℓ : Loc Cert.Mlps.nD Cert.Mlps.τ Cert.Mlps.sig) → Buf (Elt Bits) ℓ) : Prop :=
  True

def Pre_MlpsIdeal (m : (ℓ : Loc Cert.MlpsIdeal.nD Cert.MlpsIdeal.τ Cert.MlpsIdeal.sig) → Buf (Elt Ideal) ℓ) : Prop :=
  True

def Pre_MlpsRefIdeal (m : (ℓ : Loc Cert.MlpsRefIdeal.nD Cert.MlpsRefIdeal.τ Cert.MlpsRefIdeal.sig) → Buf (Elt Ideal) ℓ) : Prop :=
  True

def Pre_Inprojs (m : (ℓ : Loc Cert.Inprojs.nD Cert.Inprojs.τ Cert.Inprojs.sig) → Buf (Elt Bits) ℓ) : Prop :=
  True

def Pre_InprojsIdeal (m : (ℓ : Loc Cert.InprojsIdeal.nD Cert.InprojsIdeal.τ Cert.InprojsIdeal.sig) → Buf (Elt Ideal) ℓ) : Prop :=
  True

def Pre_InprojsRefIdeal (m : (ℓ : Loc Cert.InprojsRefIdeal.nD Cert.InprojsRefIdeal.τ Cert.InprojsRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepIdeal_steps_finite [hPre_steps_finite : Cert.Pre_steps_finite.Facts] (m : (ℓ : Loc Cert.StepIdeal.nD Cert.StepIdeal.τ Cert.StepIdeal.sig) → Buf (Elt Ideal) ℓ) : Prop :=
  ∀ c : Dev Cert.StepIdeal.nD,
    (Cert.Pre_steps_finite.fn (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6)) (m ((c.tc : Thread Cert.StepIdeal.nD Cert.StepIdeal.τ).loc Cert.StepIdeal.main_arg7)) (m ((c.tc : Thread Cert.StepIdeal.nD Cert.StepIdeal.τ).loc Cert.StepIdeal.main_arg8)) (m ((c.tc : Thread Cert.StepIdeal.nD Cert.StepIdeal.τ).loc Cert.StepIdeal.main_arg9)) (m ((c.tc : Thread Cert.StepIdeal.nD Cert.StepIdeal.τ).loc Cert.StepIdeal.main_arg10))) = (fun _ => 1#1)

def Pre_StepRefIdeal (m : (ℓ : Loc Cert.StepRefIdeal.nD Cert.StepRefIdeal.τ Cert.StepRefIdeal.sig) → Buf (Elt Ideal) ℓ) : Prop :=
  True

def Pre_StepRefIdeal_steps_finite [hPre_steps_finite : Cert.Pre_steps_finite.Facts] (m : (ℓ : Loc Cert.StepRefIdeal.nD Cert.StepRefIdeal.τ Cert.StepRefIdeal.sig) → Buf (Elt Ideal) ℓ) : Prop :=
  ∀ c : Dev Cert.StepRefIdeal.nD,
    (Cert.Pre_steps_finite.fn (F := Ideal) (m ((c.tc : Thread Cert.StepRefIdeal.nD Cert.StepRefIdeal.τ).loc Cert.StepRefIdeal.main_arg0)) (m ((c.tc : Thread Cert.StepRefIdeal.nD Cert.StepRefIdeal.τ).loc Cert.StepRefIdeal.main_arg1)) (m ((c.tc : Thread Cert.StepRefIdeal.nD Cert.StepRefIdeal.τ).loc Cert.StepRefIdeal.main_arg2)) (m ((c.tc : Thread Cert.StepRefIdeal.nD Cert.StepRefIdeal.τ).loc Cert.StepRefIdeal.main_arg3)) (m ((c.tc : Thread Cert.StepRefIdeal.nD Cert.StepRefIdeal.τ).loc Cert.StepRefIdeal.main_arg4)) (m ((c.tc : Thread Cert.StepRefIdeal.nD Cert.StepRefIdeal.τ).loc Cert.StepRefIdeal.main_arg5)) (m ((c.tc : Thread Cert.StepRefIdeal.nD Cert.StepRefIdeal.τ).loc Cert.StepRefIdeal.main_arg6)) (m ((c.tc : Thread Cert.StepRefIdeal.nD Cert.StepRefIdeal.τ).loc Cert.StepRefIdeal.main_arg7)) (m ((c.tc : Thread Cert.StepRefIdeal.nD Cert.StepRefIdeal.τ).loc Cert.StepRefIdeal.main_arg8)) (m ((c.tc : Thread Cert.StepRefIdeal.nD Cert.StepRefIdeal.τ).loc Cert.StepRefIdeal.main_arg9)) (m ((c.tc : Thread Cert.StepRefIdeal.nD Cert.StepRefIdeal.τ).loc Cert.StepRefIdeal.main_arg10))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Mlps [hMlps : Cert.Mlps.Facts] : Prop :=
  ∀ (m : (ℓ : Loc Cert.Mlps.nD Cert.Mlps.τ Cert.Mlps.sig) → Buf (Elt Bits) ℓ) (g : Dev Cert.Mlps.nD → PrngReg), Pre_Mlps m →
    θ_run (Cert.Mlps.defs (F := Bits)) (onTc (τ := Cert.Mlps.τ) (Cert.Mlps.main (F := Bits))) ⟨m, fun _ => 0, g⟩ (fun r => (∀ c : Dev Cert.Mlps.nD,
      r.2.mem ((c.tc : Thread Cert.Mlps.nD Cert.Mlps.τ).loc Cert.Mlps.main_arg0) = m ((c.tc : Thread Cert.Mlps.nD Cert.Mlps.τ).loc Cert.Mlps.main_arg0)
      ∧ r.2.mem ((c.tc : Thread Cert.Mlps.nD Cert.Mlps.τ).loc Cert.Mlps.main_arg1) = m ((c.tc : Thread Cert.Mlps.nD Cert.Mlps.τ).loc Cert.Mlps.main_arg1)
      ∧ r.2.mem ((c.tc : Thread Cert.Mlps.nD Cert.Mlps.τ).loc Cert.Mlps.main_arg2) = m ((c.tc : Thread Cert.Mlps.nD Cert.Mlps.τ).loc Cert.Mlps.main_arg2)
      ∧ r.2.mem ((c.tc : Thread Cert.Mlps.nD Cert.Mlps.τ).loc Cert.Mlps.main_arg3) = m ((c.tc : Thread Cert.Mlps.nD Cert.Mlps.τ).loc Cert.Mlps.main_arg3)
      ∧ r.2.mem ((c.tc : Thread Cert.Mlps.nD Cert.Mlps.τ).loc Cert.Mlps.main_arg4) = m ((c.tc : Thread Cert.Mlps.nD Cert.Mlps.τ).loc Cert.Mlps.main_arg4)
      ∧ r.2.mem ((c.tc : Thread Cert.Mlps.nD Cert.Mlps.τ).loc Cert.Mlps.main_arg5) = m ((c.tc : Thread Cert.Mlps.nD Cert.Mlps.τ).loc Cert.Mlps.main_arg5)
      ∧ r.2.mem ((c.tc : Thread Cert.Mlps.nD Cert.Mlps.τ).loc Cert.Mlps.main_arg6) = m ((c.tc : Thread Cert.Mlps.nD Cert.Mlps.τ).loc Cert.Mlps.main_arg6)
      ∧ r.2.mem ((c.tc : Thread Cert.Mlps.nD Cert.Mlps.τ).loc Cert.Mlps.main_arg7) = m ((c.tc : Thread Cert.Mlps.nD Cert.Mlps.τ).loc Cert.Mlps.main_arg7)
      ∧ r.2.mem ((c.tc : Thread Cert.Mlps.nD Cert.Mlps.τ).loc Cert.Mlps.main_arg8) = m ((c.tc : Thread Cert.Mlps.nD Cert.Mlps.τ).loc Cert.Mlps.main_arg8)
      ∧ r.2.mem ((c.tc : Thread Cert.Mlps.nD Cert.Mlps.τ).loc Cert.Mlps.main_arg9) = m ((c.tc : Thread Cert.Mlps.nD Cert.Mlps.τ).loc Cert.Mlps.main_arg9)
      ∧ r.2.mem ((c.tc : Thread Cert.Mlps.nD Cert.Mlps.τ).loc Cert.Mlps.main_arg10) = m ((c.tc : Thread Cert.Mlps.nD Cert.Mlps.τ).loc Cert.Mlps.main_arg10)
      ∧ r.2.mem ((c.tc : Thread Cert.Mlps.nD Cert.Mlps.τ).loc Cert.Mlps.main_arg11) = m ((c.tc : Thread Cert.Mlps.nD Cert.Mlps.τ).loc Cert.Mlps.main_arg11)
      ∧ r.2.mem ((c.tc : Thread Cert.Mlps.nD Cert.Mlps.τ).loc Cert.Mlps.main_arg12) = m ((c.tc : Thread Cert.Mlps.nD Cert.Mlps.τ).loc Cert.Mlps.main_arg12)
      ∧ r.2.mem ((c.tc : Thread Cert.Mlps.nD Cert.Mlps.τ).loc Cert.Mlps.main_arg13) = m ((c.tc : Thread Cert.Mlps.nD Cert.Mlps.τ).loc Cert.Mlps.main_arg13))
      ∧ r.2.sem = fun _ => 0)

def quiescent_MlpsIdeal [hMlpsIdeal : Cert.MlpsIdeal.Facts] : Prop :=
  ∀ (m : (ℓ : Loc Cert.MlpsIdeal.nD Cert.MlpsIdeal.τ Cert.MlpsIdeal.sig) → Buf (Elt Ideal) ℓ) (g : Dev Cert.MlpsIdeal.nD → PrngReg), Pre_MlpsIdeal m →
    θ_run (Cert.MlpsIdeal.defs (F := Ideal)) (onTc (τ := Cert.MlpsIdeal.τ) (Cert.MlpsIdeal.main (F := Ideal))) ⟨m, fun _ => 0, g⟩ (fun r => (∀ c : Dev Cert.MlpsIdeal.nD,
      r.2.mem ((c.tc : Thread Cert.MlpsIdeal.nD Cert.MlpsIdeal.τ).loc Cert.MlpsIdeal.main_arg0) = m ((c.tc : Thread Cert.MlpsIdeal.nD Cert.MlpsIdeal.τ).loc Cert.MlpsIdeal.main_arg0)
      ∧ r.2.mem ((c.tc : Thread Cert.MlpsIdeal.nD Cert.MlpsIdeal.τ).loc Cert.MlpsIdeal.main_arg1) = m ((c.tc : Thread Cert.MlpsIdeal.nD Cert.MlpsIdeal.τ).loc Cert.MlpsIdeal.main_arg1)
      ∧ r.2.mem ((c.tc : Thread Cert.MlpsIdeal.nD Cert.MlpsIdeal.τ).loc Cert.MlpsIdeal.main_arg2) = m ((c.tc : Thread Cert.MlpsIdeal.nD Cert.MlpsIdeal.τ).loc Cert.MlpsIdeal.main_arg2)
      ∧ r.2.mem ((c.tc : Thread Cert.MlpsIdeal.nD Cert.MlpsIdeal.τ).loc Cert.MlpsIdeal.main_arg3) = m ((c.tc : Thread Cert.MlpsIdeal.nD Cert.MlpsIdeal.τ).loc Cert.MlpsIdeal.main_arg3)
      ∧ r.2.mem ((c.tc : Thread Cert.MlpsIdeal.nD Cert.MlpsIdeal.τ).loc Cert.MlpsIdeal.main_arg4) = m ((c.tc : Thread Cert.MlpsIdeal.nD Cert.MlpsIdeal.τ).loc Cert.MlpsIdeal.main_arg4)
      ∧ r.2.mem ((c.tc : Thread Cert.MlpsIdeal.nD Cert.MlpsIdeal.τ).loc Cert.MlpsIdeal.main_arg5) = m ((c.tc : Thread Cert.MlpsIdeal.nD Cert.MlpsIdeal.τ).loc Cert.MlpsIdeal.main_arg5)
      ∧ r.2.mem ((c.tc : Thread Cert.MlpsIdeal.nD Cert.MlpsIdeal.τ).loc Cert.MlpsIdeal.main_arg6) = m ((c.tc : Thread Cert.MlpsIdeal.nD Cert.MlpsIdeal.τ).loc Cert.MlpsIdeal.main_arg6)
      ∧ r.2.mem ((c.tc : Thread Cert.MlpsIdeal.nD Cert.MlpsIdeal.τ).loc Cert.MlpsIdeal.main_arg7) = m ((c.tc : Thread Cert.MlpsIdeal.nD Cert.MlpsIdeal.τ).loc Cert.MlpsIdeal.main_arg7)
      ∧ r.2.mem ((c.tc : Thread Cert.MlpsIdeal.nD Cert.MlpsIdeal.τ).loc Cert.MlpsIdeal.main_arg8) = m ((c.tc : Thread Cert.MlpsIdeal.nD Cert.MlpsIdeal.τ).loc Cert.MlpsIdeal.main_arg8)
      ∧ r.2.mem ((c.tc : Thread Cert.MlpsIdeal.nD Cert.MlpsIdeal.τ).loc Cert.MlpsIdeal.main_arg9) = m ((c.tc : Thread Cert.MlpsIdeal.nD Cert.MlpsIdeal.τ).loc Cert.MlpsIdeal.main_arg9)
      ∧ r.2.mem ((c.tc : Thread Cert.MlpsIdeal.nD Cert.MlpsIdeal.τ).loc Cert.MlpsIdeal.main_arg10) = m ((c.tc : Thread Cert.MlpsIdeal.nD Cert.MlpsIdeal.τ).loc Cert.MlpsIdeal.main_arg10)
      ∧ r.2.mem ((c.tc : Thread Cert.MlpsIdeal.nD Cert.MlpsIdeal.τ).loc Cert.MlpsIdeal.main_arg11) = m ((c.tc : Thread Cert.MlpsIdeal.nD Cert.MlpsIdeal.τ).loc Cert.MlpsIdeal.main_arg11)
      ∧ r.2.mem ((c.tc : Thread Cert.MlpsIdeal.nD Cert.MlpsIdeal.τ).loc Cert.MlpsIdeal.main_arg12) = m ((c.tc : Thread Cert.MlpsIdeal.nD Cert.MlpsIdeal.τ).loc Cert.MlpsIdeal.main_arg12)
      ∧ r.2.mem ((c.tc : Thread Cert.MlpsIdeal.nD Cert.MlpsIdeal.τ).loc Cert.MlpsIdeal.main_arg13) = m ((c.tc : Thread Cert.MlpsIdeal.nD Cert.MlpsIdeal.τ).loc Cert.MlpsIdeal.main_arg13))
      ∧ r.2.sem = fun _ => 0)

def quiescent_MlpsRefIdeal [hMlpsRefIdeal : Cert.MlpsRefIdeal.Facts] : Prop :=
  ∀ (m : (ℓ : Loc Cert.MlpsRefIdeal.nD Cert.MlpsRefIdeal.τ Cert.MlpsRefIdeal.sig) → Buf (Elt Ideal) ℓ) (g : Dev Cert.MlpsRefIdeal.nD → PrngReg), Pre_MlpsRefIdeal m →
    θ_run (Cert.MlpsRefIdeal.defs (F := Ideal)) (onTc (τ := Cert.MlpsRefIdeal.τ) (Cert.MlpsRefIdeal.main (F := Ideal))) ⟨m, fun _ => 0, g⟩ (fun r => (∀ c : Dev Cert.MlpsRefIdeal.nD,
      r.2.mem ((c.tc : Thread Cert.MlpsRefIdeal.nD Cert.MlpsRefIdeal.τ).loc Cert.MlpsRefIdeal.main_arg0) = m ((c.tc : Thread Cert.MlpsRefIdeal.nD Cert.MlpsRefIdeal.τ).loc Cert.MlpsRefIdeal.main_arg0)
      ∧ r.2.mem ((c.tc : Thread Cert.MlpsRefIdeal.nD Cert.MlpsRefIdeal.τ).loc Cert.MlpsRefIdeal.main_arg1) = m ((c.tc : Thread Cert.MlpsRefIdeal.nD Cert.MlpsRefIdeal.τ).loc Cert.MlpsRefIdeal.main_arg1)
      ∧ r.2.mem ((c.tc : Thread Cert.MlpsRefIdeal.nD Cert.MlpsRefIdeal.τ).loc Cert.MlpsRefIdeal.main_arg2) = m ((c.tc : Thread Cert.MlpsRefIdeal.nD Cert.MlpsRefIdeal.τ).loc Cert.MlpsRefIdeal.main_arg2)
      ∧ r.2.mem ((c.tc : Thread Cert.MlpsRefIdeal.nD Cert.MlpsRefIdeal.τ).loc Cert.MlpsRefIdeal.main_arg3) = m ((c.tc : Thread Cert.MlpsRefIdeal.nD Cert.MlpsRefIdeal.τ).loc Cert.MlpsRefIdeal.main_arg3)
      ∧ r.2.mem ((c.tc : Thread Cert.MlpsRefIdeal.nD Cert.MlpsRefIdeal.τ).loc Cert.MlpsRefIdeal.main_arg4) = m ((c.tc : Thread Cert.MlpsRefIdeal.nD Cert.MlpsRefIdeal.τ).loc Cert.MlpsRefIdeal.main_arg4)
      ∧ r.2.mem ((c.tc : Thread Cert.MlpsRefIdeal.nD Cert.MlpsRefIdeal.τ).loc Cert.MlpsRefIdeal.main_arg5) = m ((c.tc : Thread Cert.MlpsRefIdeal.nD Cert.MlpsRefIdeal.τ).loc Cert.MlpsRefIdeal.main_arg5)
      ∧ r.2.mem ((c.tc : Thread Cert.MlpsRefIdeal.nD Cert.MlpsRefIdeal.τ).loc Cert.MlpsRefIdeal.main_arg6) = m ((c.tc : Thread Cert.MlpsRefIdeal.nD Cert.MlpsRefIdeal.τ).loc Cert.MlpsRefIdeal.main_arg6)
      ∧ r.2.mem ((c.tc : Thread Cert.MlpsRefIdeal.nD Cert.MlpsRefIdeal.τ).loc Cert.MlpsRefIdeal.main_arg7) = m ((c.tc : Thread Cert.MlpsRefIdeal.nD Cert.MlpsRefIdeal.τ).loc Cert.MlpsRefIdeal.main_arg7)
      ∧ r.2.mem ((c.tc : Thread Cert.MlpsRefIdeal.nD Cert.MlpsRefIdeal.τ).loc Cert.MlpsRefIdeal.main_arg8) = m ((c.tc : Thread Cert.MlpsRefIdeal.nD Cert.MlpsRefIdeal.τ).loc Cert.MlpsRefIdeal.main_arg8)
      ∧ r.2.mem ((c.tc : Thread Cert.MlpsRefIdeal.nD Cert.MlpsRefIdeal.τ).loc Cert.MlpsRefIdeal.main_arg9) = m ((c.tc : Thread Cert.MlpsRefIdeal.nD Cert.MlpsRefIdeal.τ).loc Cert.MlpsRefIdeal.main_arg9)
      ∧ r.2.mem ((c.tc : Thread Cert.MlpsRefIdeal.nD Cert.MlpsRefIdeal.τ).loc Cert.MlpsRefIdeal.main_arg10) = m ((c.tc : Thread Cert.MlpsRefIdeal.nD Cert.MlpsRefIdeal.τ).loc Cert.MlpsRefIdeal.main_arg10)
      ∧ r.2.mem ((c.tc : Thread Cert.MlpsRefIdeal.nD Cert.MlpsRefIdeal.τ).loc Cert.MlpsRefIdeal.main_arg11) = m ((c.tc : Thread Cert.MlpsRefIdeal.nD Cert.MlpsRefIdeal.τ).loc Cert.MlpsRefIdeal.main_arg11)
      ∧ r.2.mem ((c.tc : Thread Cert.MlpsRefIdeal.nD Cert.MlpsRefIdeal.τ).loc Cert.MlpsRefIdeal.main_arg12) = m ((c.tc : Thread Cert.MlpsRefIdeal.nD Cert.MlpsRefIdeal.τ).loc Cert.MlpsRefIdeal.main_arg12)
      ∧ r.2.mem ((c.tc : Thread Cert.MlpsRefIdeal.nD Cert.MlpsRefIdeal.τ).loc Cert.MlpsRefIdeal.main_arg13) = m ((c.tc : Thread Cert.MlpsRefIdeal.nD Cert.MlpsRefIdeal.τ).loc Cert.MlpsRefIdeal.main_arg13))
      ∧ r.2.sem = fun _ => 0)

def quiescent_Inprojs [hInprojs : Cert.Inprojs.Facts] : Prop :=
  ∀ (m : (ℓ : Loc Cert.Inprojs.nD Cert.Inprojs.τ Cert.Inprojs.sig) → Buf (Elt Bits) ℓ) (g : Dev Cert.Inprojs.nD → PrngReg), Pre_Inprojs m →
    θ_run (Cert.Inprojs.defs (F := Bits)) (onTc (τ := Cert.Inprojs.τ) (Cert.Inprojs.main (F := Bits))) ⟨m, fun _ => 0, g⟩ (fun r => (∀ c : Dev Cert.Inprojs.nD,
      r.2.mem ((c.tc : Thread Cert.Inprojs.nD Cert.Inprojs.τ).loc Cert.Inprojs.main_arg0) = m ((c.tc : Thread Cert.Inprojs.nD Cert.Inprojs.τ).loc Cert.Inprojs.main_arg0)
      ∧ r.2.mem ((c.tc : Thread Cert.Inprojs.nD Cert.Inprojs.τ).loc Cert.Inprojs.main_arg1) = m ((c.tc : Thread Cert.Inprojs.nD Cert.Inprojs.τ).loc Cert.Inprojs.main_arg1)
      ∧ r.2.mem ((c.tc : Thread Cert.Inprojs.nD Cert.Inprojs.τ).loc Cert.Inprojs.main_arg2) = m ((c.tc : Thread Cert.Inprojs.nD Cert.Inprojs.τ).loc Cert.Inprojs.main_arg2)
      ∧ r.2.mem ((c.tc : Thread Cert.Inprojs.nD Cert.Inprojs.τ).loc Cert.Inprojs.main_arg3) = m ((c.tc : Thread Cert.Inprojs.nD Cert.Inprojs.τ).loc Cert.Inprojs.main_arg3)
      ∧ r.2.mem ((c.tc : Thread Cert.Inprojs.nD Cert.Inprojs.τ).loc Cert.Inprojs.main_arg4) = m ((c.tc : Thread Cert.Inprojs.nD Cert.Inprojs.τ).loc Cert.Inprojs.main_arg4))
      ∧ r.2.sem = fun _ => 0)

def quiescent_InprojsIdeal [hInprojsIdeal : Cert.InprojsIdeal.Facts] : Prop :=
  ∀ (m : (ℓ : Loc Cert.InprojsIdeal.nD Cert.InprojsIdeal.τ Cert.InprojsIdeal.sig) → Buf (Elt Ideal) ℓ) (g : Dev Cert.InprojsIdeal.nD → PrngReg), Pre_InprojsIdeal m →
    θ_run (Cert.InprojsIdeal.defs (F := Ideal)) (onTc (τ := Cert.InprojsIdeal.τ) (Cert.InprojsIdeal.main (F := Ideal))) ⟨m, fun _ => 0, g⟩ (fun r => (∀ c : Dev Cert.InprojsIdeal.nD,
      r.2.mem ((c.tc : Thread Cert.InprojsIdeal.nD Cert.InprojsIdeal.τ).loc Cert.InprojsIdeal.main_arg0) = m ((c.tc : Thread Cert.InprojsIdeal.nD Cert.InprojsIdeal.τ).loc Cert.InprojsIdeal.main_arg0)
      ∧ r.2.mem ((c.tc : Thread Cert.InprojsIdeal.nD Cert.InprojsIdeal.τ).loc Cert.InprojsIdeal.main_arg1) = m ((c.tc : Thread Cert.InprojsIdeal.nD Cert.InprojsIdeal.τ).loc Cert.InprojsIdeal.main_arg1)
      ∧ r.2.mem ((c.tc : Thread Cert.InprojsIdeal.nD Cert.InprojsIdeal.τ).loc Cert.InprojsIdeal.main_arg2) = m ((c.tc : Thread Cert.InprojsIdeal.nD Cert.InprojsIdeal.τ).loc Cert.InprojsIdeal.main_arg2)
      ∧ r.2.mem ((c.tc : Thread Cert.InprojsIdeal.nD Cert.InprojsIdeal.τ).loc Cert.InprojsIdeal.main_arg3) = m ((c.tc : Thread Cert.InprojsIdeal.nD Cert.InprojsIdeal.τ).loc Cert.InprojsIdeal.main_arg3)
      ∧ r.2.mem ((c.tc : Thread Cert.InprojsIdeal.nD Cert.InprojsIdeal.τ).loc Cert.InprojsIdeal.main_arg4) = m ((c.tc : Thread Cert.InprojsIdeal.nD Cert.InprojsIdeal.τ).loc Cert.InprojsIdeal.main_arg4))
      ∧ r.2.sem = fun _ => 0)

def quiescent_InprojsRefIdeal [hInprojsRefIdeal : Cert.InprojsRefIdeal.Facts] : Prop :=
  ∀ (m : (ℓ : Loc Cert.InprojsRefIdeal.nD Cert.InprojsRefIdeal.τ Cert.InprojsRefIdeal.sig) → Buf (Elt Ideal) ℓ) (g : Dev Cert.InprojsRefIdeal.nD → PrngReg), Pre_InprojsRefIdeal m →
    θ_run (Cert.InprojsRefIdeal.defs (F := Ideal)) (onTc (τ := Cert.InprojsRefIdeal.τ) (Cert.InprojsRefIdeal.main (F := Ideal))) ⟨m, fun _ => 0, g⟩ (fun r => (∀ c : Dev Cert.InprojsRefIdeal.nD,
      r.2.mem ((c.tc : Thread Cert.InprojsRefIdeal.nD Cert.InprojsRefIdeal.τ).loc Cert.InprojsRefIdeal.main_arg0) = m ((c.tc : Thread Cert.InprojsRefIdeal.nD Cert.InprojsRefIdeal.τ).loc Cert.InprojsRefIdeal.main_arg0)
      ∧ r.2.mem ((c.tc : Thread Cert.InprojsRefIdeal.nD Cert.InprojsRefIdeal.τ).loc Cert.InprojsRefIdeal.main_arg1) = m ((c.tc : Thread Cert.InprojsRefIdeal.nD Cert.InprojsRefIdeal.τ).loc Cert.InprojsRefIdeal.main_arg1)
      ∧ r.2.mem ((c.tc : Thread Cert.InprojsRefIdeal.nD Cert.InprojsRefIdeal.τ).loc Cert.InprojsRefIdeal.main_arg2) = m ((c.tc : Thread Cert.InprojsRefIdeal.nD Cert.InprojsRefIdeal.τ).loc Cert.InprojsRefIdeal.main_arg2)
      ∧ r.2.mem ((c.tc : Thread Cert.InprojsRefIdeal.nD Cert.InprojsRefIdeal.τ).loc Cert.InprojsRefIdeal.main_arg3) = m ((c.tc : Thread Cert.InprojsRefIdeal.nD Cert.InprojsRefIdeal.τ).loc Cert.InprojsRefIdeal.main_arg3)
      ∧ r.2.mem ((c.tc : Thread Cert.InprojsRefIdeal.nD Cert.InprojsRefIdeal.τ).loc Cert.InprojsRefIdeal.main_arg4) = m ((c.tc : Thread Cert.InprojsRefIdeal.nD Cert.InprojsRefIdeal.τ).loc Cert.InprojsRefIdeal.main_arg4))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9)
      ∧ r.2.mem ((c.tc : Thread Cert.Step.nD Cert.Step.τ).loc Cert.Step.main_arg10) = m ((c.tc : Thread Cert.Step.nD Cert.Step.τ).loc Cert.Step.main_arg10))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ r.2.sem = fun _ => 0)

def quiescent_StepIdeal_pre_steps_finite [hStepIdeal : Cert.StepIdeal.Facts] [hPre_steps_finite : Cert.Pre_steps_finite.Facts] : Prop :=
  ∀ (m : (ℓ : Loc Cert.StepIdeal.nD Cert.StepIdeal.τ Cert.StepIdeal.sig) → Buf (Elt Ideal) ℓ) (g : Dev Cert.StepIdeal.nD → PrngReg), Pre_StepIdeal_steps_finite m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9)
      ∧ r.2.mem ((c.tc : Thread Cert.StepRefIdeal.nD Cert.StepRefIdeal.τ).loc Cert.StepRefIdeal.main_arg10) = m ((c.tc : Thread Cert.StepRefIdeal.nD Cert.StepRefIdeal.τ).loc Cert.StepRefIdeal.main_arg10))
      ∧ r.2.sem = fun _ => 0)

def quiescent_StepRefIdeal_pre_steps_finite [hStepRefIdeal : Cert.StepRefIdeal.Facts] [hPre_steps_finite : Cert.Pre_steps_finite.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal_steps_finite m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9)
      ∧ r.2.mem ((c.tc : Thread Cert.StepRefIdeal.nD Cert.StepRefIdeal.τ).loc Cert.StepRefIdeal.main_arg10) = m ((c.tc : Thread Cert.StepRefIdeal.nD Cert.StepRefIdeal.τ).loc Cert.StepRefIdeal.main_arg10))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)) →
    ∃ (v0 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v66) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v50_0)) (v1 : (c : Dev Cert.InprojIdeal.nD) → Buf (Elt Ideal) ((c.tc : Thread Cert.InprojIdeal.nD Cert.InprojIdeal.τ).loc Cert.InprojIdeal.main_v50_1)) (v2 : (c : Dev Cert.InprojIdeal.nD) → Buf (Elt Ideal) ((c.tc : Thread Cert.InprojIdeal.nD Cert.InprojIdeal.τ).loc Cert.InprojIdeal.main_v50_2)) (v3 : (c : Dev Cert.InprojIdeal.nD) → Buf (Elt Ideal) ((c.tc : Thread Cert.InprojIdeal.nD Cert.InprojIdeal.τ).loc Cert.InprojIdeal.main_v50_3)) (v4 : (c : Dev Cert.InprojIdeal.nD) → Buf (Elt Ideal) ((c.tc : Thread Cert.InprojIdeal.nD Cert.InprojIdeal.τ).loc Cert.InprojIdeal.main_v50_4)) (v5 : (c : Dev Cert.InprojIdeal.nD) → Buf (Elt Ideal) ((c.tc : Thread Cert.InprojIdeal.nD Cert.InprojIdeal.τ).loc Cert.InprojIdeal.main_v50_5)) (v6 : (c : Dev Cert.InprojIdeal.nD) → Buf (Elt Ideal) ((c.tc : Thread Cert.InprojIdeal.nD Cert.InprojIdeal.τ).loc Cert.InprojIdeal.main_v50_6)) (v7 : (c : Dev Cert.InprojIdeal.nD) → Buf (Elt Ideal) ((c.tc : Thread Cert.InprojIdeal.nD Cert.InprojIdeal.τ).loc Cert.InprojIdeal.main_v50_7)) (v8 : (c : Dev Cert.InprojIdeal.nD) → Buf (Elt Ideal) ((c.tc : Thread Cert.InprojIdeal.nD Cert.InprojIdeal.τ).loc Cert.InprojIdeal.main_v50_8)) (v9 : (c : Dev Cert.InprojIdeal.nD) → Buf (Elt Ideal) ((c.tc : Thread Cert.InprojIdeal.nD Cert.InprojIdeal.τ).loc Cert.InprojIdeal.main_v50_9)) (v10 : (c : Dev Cert.InprojIdeal.nD) → Buf (Elt Ideal) ((c.tc : Thread Cert.InprojIdeal.nD Cert.InprojIdeal.τ).loc Cert.InprojIdeal.main_v50_10)) (v11 : (c : Dev Cert.InprojIdeal.nD) → Buf (Elt Ideal) ((c.tc : Thread Cert.InprojIdeal.nD Cert.InprojIdeal.τ).loc Cert.InprojIdeal.main_v50_11)) (v12 : (c : Dev Cert.InprojIdeal.nD) → Buf (Elt Ideal) ((c.tc : Thread Cert.InprojIdeal.nD Cert.InprojIdeal.τ).loc Cert.InprojIdeal.main_v50_12)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v50_0) = v0 c
          ∧ r.2.mem ((c.tc : Thread Cert.InprojIdeal.nD Cert.InprojIdeal.τ).loc Cert.InprojIdeal.main_v50_1) = v1 c
          ∧ r.2.mem ((c.tc : Thread Cert.InprojIdeal.nD Cert.InprojIdeal.τ).loc Cert.InprojIdeal.main_v50_2) = v2 c
          ∧ r.2.mem ((c.tc : Thread Cert.InprojIdeal.nD Cert.InprojIdeal.τ).loc Cert.InprojIdeal.main_v50_3) = v3 c
          ∧ r.2.mem ((c.tc : Thread Cert.InprojIdeal.nD Cert.InprojIdeal.τ).loc Cert.InprojIdeal.main_v50_4) = v4 c
          ∧ r.2.mem ((c.tc : Thread Cert.InprojIdeal.nD Cert.InprojIdeal.τ).loc Cert.InprojIdeal.main_v50_5) = v5 c
          ∧ r.2.mem ((c.tc : Thread Cert.InprojIdeal.nD Cert.InprojIdeal.τ).loc Cert.InprojIdeal.main_v50_6) = v6 c
          ∧ r.2.mem ((c.tc : Thread Cert.InprojIdeal.nD Cert.InprojIdeal.τ).loc Cert.InprojIdeal.main_v50_7) = v7 c
          ∧ r.2.mem ((c.tc : Thread Cert.InprojIdeal.nD Cert.InprojIdeal.τ).loc Cert.InprojIdeal.main_v50_8) = v8 c
          ∧ r.2.mem ((c.tc : Thread Cert.InprojIdeal.nD Cert.InprojIdeal.τ).loc Cert.InprojIdeal.main_v50_9) = v9 c
          ∧ r.2.mem ((c.tc : Thread Cert.InprojIdeal.nD Cert.InprojIdeal.τ).loc Cert.InprojIdeal.main_v50_10) = v10 c
          ∧ r.2.mem ((c.tc : Thread Cert.InprojIdeal.nD Cert.InprojIdeal.τ).loc Cert.InprojIdeal.main_v50_11) = v11 c
          ∧ r.2.mem ((c.tc : Thread Cert.InprojIdeal.nD Cert.InprojIdeal.τ).loc Cert.InprojIdeal.main_v50_12) = v12 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v197) = v0 c
          ∧ r.2.mem ((c.tc : Thread Cert.InprojRefIdeal.nD Cert.InprojRefIdeal.τ).loc Cert.InprojRefIdeal.main_v187) = v1 c
          ∧ r.2.mem ((c.tc : Thread Cert.InprojRefIdeal.nD Cert.InprojRefIdeal.τ).loc Cert.InprojRefIdeal.main_v198) = v2 c
          ∧ r.2.mem ((c.tc : Thread Cert.InprojRefIdeal.nD Cert.InprojRefIdeal.τ).loc Cert.InprojRefIdeal.main_v189) = v3 c
          ∧ r.2.mem ((c.tc : Thread Cert.InprojRefIdeal.nD Cert.InprojRefIdeal.τ).loc Cert.InprojRefIdeal.main_v200) = v4 c
          ∧ r.2.mem ((c.tc : Thread Cert.InprojRefIdeal.nD Cert.InprojRefIdeal.τ).loc Cert.InprojRefIdeal.main_v202) = v5 c
          ∧ r.2.mem ((c.tc : Thread Cert.InprojRefIdeal.nD Cert.InprojRefIdeal.τ).loc Cert.InprojRefIdeal.main_v193) = v6 c
          ∧ r.2.mem ((c.tc : Thread Cert.InprojRefIdeal.nD Cert.InprojRefIdeal.τ).loc Cert.InprojRefIdeal.main_v203) = v7 c
          ∧ r.2.mem ((c.tc : Thread Cert.InprojRefIdeal.nD Cert.InprojRefIdeal.τ).loc Cert.InprojRefIdeal.main_v204) = v8 c
          ∧ r.2.mem ((c.tc : Thread Cert.InprojRefIdeal.nD Cert.InprojRefIdeal.τ).loc Cert.InprojRefIdeal.main_v205) = v9 c
          ∧ r.2.mem ((c.tc : Thread Cert.InprojRefIdeal.nD Cert.InprojRefIdeal.τ).loc Cert.InprojRefIdeal.main_v206) = v10 c
          ∧ r.2.mem ((c.tc : Thread Cert.InprojRefIdeal.nD Cert.InprojRefIdeal.τ).loc Cert.InprojRefIdeal.main_v207) = v11 c
          ∧ r.2.mem ((c.tc : Thread Cert.InprojRefIdeal.nD Cert.InprojRefIdeal.τ).loc Cert.InprojRefIdeal.main_v208) = v12 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Mlps_MlpsIdeal : Prop :=
  True

def algebraic_MlpsIdeal_MlpsRefIdeal [hMlpsIdeal : Cert.MlpsIdeal.Facts] [hMlpsRefIdeal : Cert.MlpsRefIdeal.Facts] : Prop :=
  ∀ (m : (ℓ : Loc Cert.MlpsIdeal.nD Cert.MlpsIdeal.τ Cert.MlpsIdeal.sig) → Buf (Elt Ideal) ℓ) (g : Dev Cert.MlpsIdeal.nD → PrngReg)
    (m' : (ℓ : Loc Cert.MlpsRefIdeal.nD Cert.MlpsRefIdeal.τ Cert.MlpsRefIdeal.sig) → Buf (Elt Ideal) ℓ) (g' : Dev Cert.MlpsRefIdeal.nD → PrngReg), Pre_MlpsIdeal m →
    (∀ c : Dev Cert.MlpsIdeal.nD,
      m' ((c.tc : Thread Cert.MlpsRefIdeal.nD Cert.MlpsRefIdeal.τ).loc Cert.MlpsRefIdeal.main_arg0) = m ((c.tc : Thread Cert.MlpsIdeal.nD Cert.MlpsIdeal.τ).loc Cert.MlpsIdeal.main_arg0)
      ∧ m' ((c.tc : Thread Cert.MlpsRefIdeal.nD Cert.MlpsRefIdeal.τ).loc Cert.MlpsRefIdeal.main_arg1) = m ((c.tc : Thread Cert.MlpsIdeal.nD Cert.MlpsIdeal.τ).loc Cert.MlpsIdeal.main_arg1)
      ∧ m' ((c.tc : Thread Cert.MlpsRefIdeal.nD Cert.MlpsRefIdeal.τ).loc Cert.MlpsRefIdeal.main_arg2) = m ((c.tc : Thread Cert.MlpsIdeal.nD Cert.MlpsIdeal.τ).loc Cert.MlpsIdeal.main_arg2)
      ∧ m' ((c.tc : Thread Cert.MlpsRefIdeal.nD Cert.MlpsRefIdeal.τ).loc Cert.MlpsRefIdeal.main_arg3) = m ((c.tc : Thread Cert.MlpsIdeal.nD Cert.MlpsIdeal.τ).loc Cert.MlpsIdeal.main_arg3)
      ∧ m' ((c.tc : Thread Cert.MlpsRefIdeal.nD Cert.MlpsRefIdeal.τ).loc Cert.MlpsRefIdeal.main_arg4) = m ((c.tc : Thread Cert.MlpsIdeal.nD Cert.MlpsIdeal.τ).loc Cert.MlpsIdeal.main_arg4)
      ∧ m' ((c.tc : Thread Cert.MlpsRefIdeal.nD Cert.MlpsRefIdeal.τ).loc Cert.MlpsRefIdeal.main_arg5) = m ((c.tc : Thread Cert.MlpsIdeal.nD Cert.MlpsIdeal.τ).loc Cert.MlpsIdeal.main_arg5)
      ∧ m' ((c.tc : Thread Cert.MlpsRefIdeal.nD Cert.MlpsRefIdeal.τ).loc Cert.MlpsRefIdeal.main_arg6) = m ((c.tc : Thread Cert.MlpsIdeal.nD Cert.MlpsIdeal.τ).loc Cert.MlpsIdeal.main_arg6)
      ∧ m' ((c.tc : Thread Cert.MlpsRefIdeal.nD Cert.MlpsRefIdeal.τ).loc Cert.MlpsRefIdeal.main_arg7) = m ((c.tc : Thread Cert.MlpsIdeal.nD Cert.MlpsIdeal.τ).loc Cert.MlpsIdeal.main_arg7)
      ∧ m' ((c.tc : Thread Cert.MlpsRefIdeal.nD Cert.MlpsRefIdeal.τ).loc Cert.MlpsRefIdeal.main_arg8) = m ((c.tc : Thread Cert.MlpsIdeal.nD Cert.MlpsIdeal.τ).loc Cert.MlpsIdeal.main_arg8)
      ∧ m' ((c.tc : Thread Cert.MlpsRefIdeal.nD Cert.MlpsRefIdeal.τ).loc Cert.MlpsRefIdeal.main_arg9) = m ((c.tc : Thread Cert.MlpsIdeal.nD Cert.MlpsIdeal.τ).loc Cert.MlpsIdeal.main_arg9)
      ∧ m' ((c.tc : Thread Cert.MlpsRefIdeal.nD Cert.MlpsRefIdeal.τ).loc Cert.MlpsRefIdeal.main_arg10) = m ((c.tc : Thread Cert.MlpsIdeal.nD Cert.MlpsIdeal.τ).loc Cert.MlpsIdeal.main_arg10)
      ∧ m' ((c.tc : Thread Cert.MlpsRefIdeal.nD Cert.MlpsRefIdeal.τ).loc Cert.MlpsRefIdeal.main_arg11) = m ((c.tc : Thread Cert.MlpsIdeal.nD Cert.MlpsIdeal.τ).loc Cert.MlpsIdeal.main_arg11)
      ∧ m' ((c.tc : Thread Cert.MlpsRefIdeal.nD Cert.MlpsRefIdeal.τ).loc Cert.MlpsRefIdeal.main_arg12) = m ((c.tc : Thread Cert.MlpsIdeal.nD Cert.MlpsIdeal.τ).loc Cert.MlpsIdeal.main_arg12)
      ∧ m' ((c.tc : Thread Cert.MlpsRefIdeal.nD Cert.MlpsRefIdeal.τ).loc Cert.MlpsRefIdeal.main_arg13) = m ((c.tc : Thread Cert.MlpsIdeal.nD Cert.MlpsIdeal.τ).loc Cert.MlpsIdeal.main_arg13)) →
    ∃ (v0 : (c : Dev Cert.MlpsIdeal.nD) → Buf (Elt Ideal) ((c.tc : Thread Cert.MlpsIdeal.nD Cert.MlpsIdeal.τ).loc Cert.MlpsIdeal.main_v8)),
      θ_run (Cert.MlpsIdeal.defs (F := Ideal)) (onTc (τ := Cert.MlpsIdeal.τ) (Cert.MlpsIdeal.main (F := Ideal))) ⟨m, fun _ => 0, g⟩ (fun r => ∀ c : Dev Cert.MlpsIdeal.nD,
          r.2.mem ((c.tc : Thread Cert.MlpsIdeal.nD Cert.MlpsIdeal.τ).loc Cert.MlpsIdeal.main_v8) = v0 c
          ∧ r.2.mem ((c.tc : Thread Cert.MlpsIdeal.nD Cert.MlpsIdeal.τ).loc Cert.MlpsIdeal.main_arg0) = m ((c.tc : Thread Cert.MlpsIdeal.nD Cert.MlpsIdeal.τ).loc Cert.MlpsIdeal.main_arg0)
          ∧ r.2.mem ((c.tc : Thread Cert.MlpsIdeal.nD Cert.MlpsIdeal.τ).loc Cert.MlpsIdeal.main_arg1) = m ((c.tc : Thread Cert.MlpsIdeal.nD Cert.MlpsIdeal.τ).loc Cert.MlpsIdeal.main_arg1)
          ∧ r.2.mem ((c.tc : Thread Cert.MlpsIdeal.nD Cert.MlpsIdeal.τ).loc Cert.MlpsIdeal.main_arg2) = m ((c.tc : Thread Cert.MlpsIdeal.nD Cert.MlpsIdeal.τ).loc Cert.MlpsIdeal.main_arg2)
          ∧ r.2.mem ((c.tc : Thread Cert.MlpsIdeal.nD Cert.MlpsIdeal.τ).loc Cert.MlpsIdeal.main_arg3) = m ((c.tc : Thread Cert.MlpsIdeal.nD Cert.MlpsIdeal.τ).loc Cert.MlpsIdeal.main_arg3)
          ∧ r.2.mem ((c.tc : Thread Cert.MlpsIdeal.nD Cert.MlpsIdeal.τ).loc Cert.MlpsIdeal.main_arg4) = m ((c.tc : Thread Cert.MlpsIdeal.nD Cert.MlpsIdeal.τ).loc Cert.MlpsIdeal.main_arg4)
          ∧ r.2.mem ((c.tc : Thread Cert.MlpsIdeal.nD Cert.MlpsIdeal.τ).loc Cert.MlpsIdeal.main_arg5) = m ((c.tc : Thread Cert.MlpsIdeal.nD Cert.MlpsIdeal.τ).loc Cert.MlpsIdeal.main_arg5)
          ∧ r.2.mem ((c.tc : Thread Cert.MlpsIdeal.nD Cert.MlpsIdeal.τ).loc Cert.MlpsIdeal.main_arg6) = m ((c.tc : Thread Cert.MlpsIdeal.nD Cert.MlpsIdeal.τ).loc Cert.MlpsIdeal.main_arg6)
          ∧ r.2.mem ((c.tc : Thread Cert.MlpsIdeal.nD Cert.MlpsIdeal.τ).loc Cert.MlpsIdeal.main_arg7) = m ((c.tc : Thread Cert.MlpsIdeal.nD Cert.MlpsIdeal.τ).loc Cert.MlpsIdeal.main_arg7)
          ∧ r.2.mem ((c.tc : Thread Cert.MlpsIdeal.nD Cert.MlpsIdeal.τ).loc Cert.MlpsIdeal.main_arg8) = m ((c.tc : Thread Cert.MlpsIdeal.nD Cert.MlpsIdeal.τ).loc Cert.MlpsIdeal.main_arg8)
          ∧ r.2.mem ((c.tc : Thread Cert.MlpsIdeal.nD Cert.MlpsIdeal.τ).loc Cert.MlpsIdeal.main_arg9) = m ((c.tc : Thread Cert.MlpsIdeal.nD Cert.MlpsIdeal.τ).loc Cert.MlpsIdeal.main_arg9)
          ∧ r.2.mem ((c.tc : Thread Cert.MlpsIdeal.nD Cert.MlpsIdeal.τ).loc Cert.MlpsIdeal.main_arg10) = m ((c.tc : Thread Cert.MlpsIdeal.nD Cert.MlpsIdeal.τ).loc Cert.MlpsIdeal.main_arg10)
          ∧ r.2.mem ((c.tc : Thread Cert.MlpsIdeal.nD Cert.MlpsIdeal.τ).loc Cert.MlpsIdeal.main_arg11) = m ((c.tc : Thread Cert.MlpsIdeal.nD Cert.MlpsIdeal.τ).loc Cert.MlpsIdeal.main_arg11)
          ∧ r.2.mem ((c.tc : Thread Cert.MlpsIdeal.nD Cert.MlpsIdeal.τ).loc Cert.MlpsIdeal.main_arg12) = m ((c.tc : Thread Cert.MlpsIdeal.nD Cert.MlpsIdeal.τ).loc Cert.MlpsIdeal.main_arg12)
          ∧ r.2.mem ((c.tc : Thread Cert.MlpsIdeal.nD Cert.MlpsIdeal.τ).loc Cert.MlpsIdeal.main_arg13) = m ((c.tc : Thread Cert.MlpsIdeal.nD Cert.MlpsIdeal.τ).loc Cert.MlpsIdeal.main_arg13))
      ∧ θ_run (Cert.MlpsRefIdeal.defs (F := Ideal)) (onTc (τ := Cert.MlpsRefIdeal.τ) (Cert.MlpsRefIdeal.main (F := Ideal))) ⟨m', fun _ => 0, g'⟩ (fun r => ∀ c : Dev Cert.MlpsRefIdeal.nD,
          r.2.mem ((c.tc : Thread Cert.MlpsRefIdeal.nD Cert.MlpsRefIdeal.τ).loc Cert.MlpsRefIdeal.main_v66) = v0 c
          ∧ r.2.mem ((c.tc : Thread Cert.MlpsRefIdeal.nD Cert.MlpsRefIdeal.τ).loc Cert.MlpsRefIdeal.main_arg0) = m' ((c.tc : Thread Cert.MlpsRefIdeal.nD Cert.MlpsRefIdeal.τ).loc Cert.MlpsRefIdeal.main_arg0)
          ∧ r.2.mem ((c.tc : Thread Cert.MlpsRefIdeal.nD Cert.MlpsRefIdeal.τ).loc Cert.MlpsRefIdeal.main_arg1) = m' ((c.tc : Thread Cert.MlpsRefIdeal.nD Cert.MlpsRefIdeal.τ).loc Cert.MlpsRefIdeal.main_arg1)
          ∧ r.2.mem ((c.tc : Thread Cert.MlpsRefIdeal.nD Cert.MlpsRefIdeal.τ).loc Cert.MlpsRefIdeal.main_arg2) = m' ((c.tc : Thread Cert.MlpsRefIdeal.nD Cert.MlpsRefIdeal.τ).loc Cert.MlpsRefIdeal.main_arg2)
          ∧ r.2.mem ((c.tc : Thread Cert.MlpsRefIdeal.nD Cert.MlpsRefIdeal.τ).loc Cert.MlpsRefIdeal.main_arg3) = m' ((c.tc : Thread Cert.MlpsRefIdeal.nD Cert.MlpsRefIdeal.τ).loc Cert.MlpsRefIdeal.main_arg3)
          ∧ r.2.mem ((c.tc : Thread Cert.MlpsRefIdeal.nD Cert.MlpsRefIdeal.τ).loc Cert.MlpsRefIdeal.main_arg4) = m' ((c.tc : Thread Cert.MlpsRefIdeal.nD Cert.MlpsRefIdeal.τ).loc Cert.MlpsRefIdeal.main_arg4)
          ∧ r.2.mem ((c.tc : Thread Cert.MlpsRefIdeal.nD Cert.MlpsRefIdeal.τ).loc Cert.MlpsRefIdeal.main_arg5) = m' ((c.tc : Thread Cert.MlpsRefIdeal.nD Cert.MlpsRefIdeal.τ).loc Cert.MlpsRefIdeal.main_arg5)
          ∧ r.2.mem ((c.tc : Thread Cert.MlpsRefIdeal.nD Cert.MlpsRefIdeal.τ).loc Cert.MlpsRefIdeal.main_arg6) = m' ((c.tc : Thread Cert.MlpsRefIdeal.nD Cert.MlpsRefIdeal.τ).loc Cert.MlpsRefIdeal.main_arg6)
          ∧ r.2.mem ((c.tc : Thread Cert.MlpsRefIdeal.nD Cert.MlpsRefIdeal.τ).loc Cert.MlpsRefIdeal.main_arg7) = m' ((c.tc : Thread Cert.MlpsRefIdeal.nD Cert.MlpsRefIdeal.τ).loc Cert.MlpsRefIdeal.main_arg7)
          ∧ r.2.mem ((c.tc : Thread Cert.MlpsRefIdeal.nD Cert.MlpsRefIdeal.τ).loc Cert.MlpsRefIdeal.main_arg8) = m' ((c.tc : Thread Cert.MlpsRefIdeal.nD Cert.MlpsRefIdeal.τ).loc Cert.MlpsRefIdeal.main_arg8)
          ∧ r.2.mem ((c.tc : Thread Cert.MlpsRefIdeal.nD Cert.MlpsRefIdeal.τ).loc Cert.MlpsRefIdeal.main_arg9) = m' ((c.tc : Thread Cert.MlpsRefIdeal.nD Cert.MlpsRefIdeal.τ).loc Cert.MlpsRefIdeal.main_arg9)
          ∧ r.2.mem ((c.tc : Thread Cert.MlpsRefIdeal.nD Cert.MlpsRefIdeal.τ).loc Cert.MlpsRefIdeal.main_arg10) = m' ((c.tc : Thread Cert.MlpsRefIdeal.nD Cert.MlpsRefIdeal.τ).loc Cert.MlpsRefIdeal.main_arg10)
          ∧ r.2.mem ((c.tc : Thread Cert.MlpsRefIdeal.nD Cert.MlpsRefIdeal.τ).loc Cert.MlpsRefIdeal.main_arg11) = m' ((c.tc : Thread Cert.MlpsRefIdeal.nD Cert.MlpsRefIdeal.τ).loc Cert.MlpsRefIdeal.main_arg11)
          ∧ r.2.mem ((c.tc : Thread Cert.MlpsRefIdeal.nD Cert.MlpsRefIdeal.τ).loc Cert.MlpsRefIdeal.main_arg12) = m' ((c.tc : Thread Cert.MlpsRefIdeal.nD Cert.MlpsRefIdeal.τ).loc Cert.MlpsRefIdeal.main_arg12)
          ∧ r.2.mem ((c.tc : Thread Cert.MlpsRefIdeal.nD Cert.MlpsRefIdeal.τ).loc Cert.MlpsRefIdeal.main_arg13) = m' ((c.tc : Thread Cert.MlpsRefIdeal.nD Cert.MlpsRefIdeal.τ).loc Cert.MlpsRefIdeal.main_arg13))

def preserves_Inprojs_InprojsIdeal : Prop :=
  True

def algebraic_InprojsIdeal_InprojsRefIdeal [hInprojsIdeal : Cert.InprojsIdeal.Facts] [hInprojsRefIdeal : Cert.InprojsRefIdeal.Facts] : Prop :=
  ∀ (m : (ℓ : Loc Cert.InprojsIdeal.nD Cert.InprojsIdeal.τ Cert.InprojsIdeal.sig) → Buf (Elt Ideal) ℓ) (g : Dev Cert.InprojsIdeal.nD → PrngReg)
    (m' : (ℓ : Loc Cert.InprojsRefIdeal.nD Cert.InprojsRefIdeal.τ Cert.InprojsRefIdeal.sig) → Buf (Elt Ideal) ℓ) (g' : Dev Cert.InprojsRefIdeal.nD → PrngReg), Pre_InprojsIdeal m →
    (∀ c : Dev Cert.InprojsIdeal.nD,
      m' ((c.tc : Thread Cert.InprojsRefIdeal.nD Cert.InprojsRefIdeal.τ).loc Cert.InprojsRefIdeal.main_arg0) = m ((c.tc : Thread Cert.InprojsIdeal.nD Cert.InprojsIdeal.τ).loc Cert.InprojsIdeal.main_arg0)
      ∧ m' ((c.tc : Thread Cert.InprojsRefIdeal.nD Cert.InprojsRefIdeal.τ).loc Cert.InprojsRefIdeal.main_arg1) = m ((c.tc : Thread Cert.InprojsIdeal.nD Cert.InprojsIdeal.τ).loc Cert.InprojsIdeal.main_arg1)
      ∧ m' ((c.tc : Thread Cert.InprojsRefIdeal.nD Cert.InprojsRefIdeal.τ).loc Cert.InprojsRefIdeal.main_arg2) = m ((c.tc : Thread Cert.InprojsIdeal.nD Cert.InprojsIdeal.τ).loc Cert.InprojsIdeal.main_arg2)
      ∧ m' ((c.tc : Thread Cert.InprojsRefIdeal.nD Cert.InprojsRefIdeal.τ).loc Cert.InprojsRefIdeal.main_arg3) = m ((c.tc : Thread Cert.InprojsIdeal.nD Cert.InprojsIdeal.τ).loc Cert.InprojsIdeal.main_arg3)
      ∧ m' ((c.tc : Thread Cert.InprojsRefIdeal.nD Cert.InprojsRefIdeal.τ).loc Cert.InprojsRefIdeal.main_arg4) = m ((c.tc : Thread Cert.InprojsIdeal.nD Cert.InprojsIdeal.τ).loc Cert.InprojsIdeal.main_arg4)) →
    ∃ (v0 : (c : Dev Cert.InprojsIdeal.nD) → Buf (Elt Ideal) ((c.tc : Thread Cert.InprojsIdeal.nD Cert.InprojsIdeal.τ).loc Cert.InprojsIdeal.main_v49_0)) (v1 : (c : Dev Cert.InprojsIdeal.nD) → Buf (Elt Ideal) ((c.tc : Thread Cert.InprojsIdeal.nD Cert.InprojsIdeal.τ).loc Cert.InprojsIdeal.main_v49_1)) (v2 : (c : Dev Cert.InprojsIdeal.nD) → Buf (Elt Ideal) ((c.tc : Thread Cert.InprojsIdeal.nD Cert.InprojsIdeal.τ).loc Cert.InprojsIdeal.main_v49_2)) (v3 : (c : Dev Cert.InprojsIdeal.nD) → Buf (Elt Ideal) ((c.tc : Thread Cert.InprojsIdeal.nD Cert.InprojsIdeal.τ).loc Cert.InprojsIdeal.main_v49_3)) (v4 : (c : Dev Cert.InprojsIdeal.nD) → Buf (Elt Ideal) ((c.tc : Thread Cert.InprojsIdeal.nD Cert.InprojsIdeal.τ).loc Cert.InprojsIdeal.main_v49_4)) (v5 : (c : Dev Cert.InprojsIdeal.nD) → Buf (Elt Ideal) ((c.tc : Thread Cert.InprojsIdeal.nD Cert.InprojsIdeal.τ).loc Cert.InprojsIdeal.main_v49_5)) (v6 : (c : Dev Cert.InprojsIdeal.nD) → Buf (Elt Ideal) ((c.tc : Thread Cert.InprojsIdeal.nD Cert.InprojsIdeal.τ).loc Cert.InprojsIdeal.main_v49_6)) (v7 : (c : Dev Cert.InprojsIdeal.nD) → Buf (Elt Ideal) ((c.tc : Thread Cert.InprojsIdeal.nD Cert.InprojsIdeal.τ).loc Cert.InprojsIdeal.main_v49_7)) (v8 : (c : Dev Cert.InprojsIdeal.nD) → Buf (Elt Ideal) ((c.tc : Thread Cert.InprojsIdeal.nD Cert.InprojsIdeal.τ).loc Cert.InprojsIdeal.main_v49_8)),
      θ_run (Cert.InprojsIdeal.defs (F := Ideal)) (onTc (τ := Cert.InprojsIdeal.τ) (Cert.InprojsIdeal.main (F := Ideal))) ⟨m, fun _ => 0, g⟩ (fun r => ∀ c : Dev Cert.InprojsIdeal.nD,
          r.2.mem ((c.tc : Thread Cert.InprojsIdeal.nD Cert.InprojsIdeal.τ).loc Cert.InprojsIdeal.main_v49_0) = v0 c
          ∧ r.2.mem ((c.tc : Thread Cert.InprojsIdeal.nD Cert.InprojsIdeal.τ).loc Cert.InprojsIdeal.main_v49_1) = v1 c
          ∧ r.2.mem ((c.tc : Thread Cert.InprojsIdeal.nD Cert.InprojsIdeal.τ).loc Cert.InprojsIdeal.main_v49_2) = v2 c
          ∧ r.2.mem ((c.tc : Thread Cert.InprojsIdeal.nD Cert.InprojsIdeal.τ).loc Cert.InprojsIdeal.main_v49_3) = v3 c
          ∧ r.2.mem ((c.tc : Thread Cert.InprojsIdeal.nD Cert.InprojsIdeal.τ).loc Cert.InprojsIdeal.main_v49_4) = v4 c
          ∧ r.2.mem ((c.tc : Thread Cert.InprojsIdeal.nD Cert.InprojsIdeal.τ).loc Cert.InprojsIdeal.main_v49_5) = v5 c
          ∧ r.2.mem ((c.tc : Thread Cert.InprojsIdeal.nD Cert.InprojsIdeal.τ).loc Cert.InprojsIdeal.main_v49_6) = v6 c
          ∧ r.2.mem ((c.tc : Thread Cert.InprojsIdeal.nD Cert.InprojsIdeal.τ).loc Cert.InprojsIdeal.main_v49_7) = v7 c
          ∧ r.2.mem ((c.tc : Thread Cert.InprojsIdeal.nD Cert.InprojsIdeal.τ).loc Cert.InprojsIdeal.main_v49_8) = v8 c
          ∧ r.2.mem ((c.tc : Thread Cert.InprojsIdeal.nD Cert.InprojsIdeal.τ).loc Cert.InprojsIdeal.main_arg0) = m ((c.tc : Thread Cert.InprojsIdeal.nD Cert.InprojsIdeal.τ).loc Cert.InprojsIdeal.main_arg0)
          ∧ r.2.mem ((c.tc : Thread Cert.InprojsIdeal.nD Cert.InprojsIdeal.τ).loc Cert.InprojsIdeal.main_arg1) = m ((c.tc : Thread Cert.InprojsIdeal.nD Cert.InprojsIdeal.τ).loc Cert.InprojsIdeal.main_arg1)
          ∧ r.2.mem ((c.tc : Thread Cert.InprojsIdeal.nD Cert.InprojsIdeal.τ).loc Cert.InprojsIdeal.main_arg2) = m ((c.tc : Thread Cert.InprojsIdeal.nD Cert.InprojsIdeal.τ).loc Cert.InprojsIdeal.main_arg2)
          ∧ r.2.mem ((c.tc : Thread Cert.InprojsIdeal.nD Cert.InprojsIdeal.τ).loc Cert.InprojsIdeal.main_arg3) = m ((c.tc : Thread Cert.InprojsIdeal.nD Cert.InprojsIdeal.τ).loc Cert.InprojsIdeal.main_arg3)
          ∧ r.2.mem ((c.tc : Thread Cert.InprojsIdeal.nD Cert.InprojsIdeal.τ).loc Cert.InprojsIdeal.main_arg4) = m ((c.tc : Thread Cert.InprojsIdeal.nD Cert.InprojsIdeal.τ).loc Cert.InprojsIdeal.main_arg4))
      ∧ θ_run (Cert.InprojsRefIdeal.defs (F := Ideal)) (onTc (τ := Cert.InprojsRefIdeal.τ) (Cert.InprojsRefIdeal.main (F := Ideal))) ⟨m', fun _ => 0, g'⟩ (fun r => ∀ c : Dev Cert.InprojsRefIdeal.nD,
          r.2.mem ((c.tc : Thread Cert.InprojsRefIdeal.nD Cert.InprojsRefIdeal.τ).loc Cert.InprojsRefIdeal.main_v186) = v0 c
          ∧ r.2.mem ((c.tc : Thread Cert.InprojsRefIdeal.nD Cert.InprojsRefIdeal.τ).loc Cert.InprojsRefIdeal.main_v187) = v1 c
          ∧ r.2.mem ((c.tc : Thread Cert.InprojsRefIdeal.nD Cert.InprojsRefIdeal.τ).loc Cert.InprojsRefIdeal.main_v188) = v2 c
          ∧ r.2.mem ((c.tc : Thread Cert.InprojsRefIdeal.nD Cert.InprojsRefIdeal.τ).loc Cert.InprojsRefIdeal.main_v190) = v3 c
          ∧ r.2.mem ((c.tc : Thread Cert.InprojsRefIdeal.nD Cert.InprojsRefIdeal.τ).loc Cert.InprojsRefIdeal.main_v191) = v4 c
          ∧ r.2.mem ((c.tc : Thread Cert.InprojsRefIdeal.nD Cert.InprojsRefIdeal.τ).loc Cert.InprojsRefIdeal.main_v192) = v5 c
          ∧ r.2.mem ((c.tc : Thread Cert.InprojsRefIdeal.nD Cert.InprojsRefIdeal.τ).loc Cert.InprojsRefIdeal.main_v193) = v6 c
          ∧ r.2.mem ((c.tc : Thread Cert.InprojsRefIdeal.nD Cert.InprojsRefIdeal.τ).loc Cert.InprojsRefIdeal.main_v194) = v7 c
          ∧ r.2.mem ((c.tc : Thread Cert.InprojsRefIdeal.nD Cert.InprojsRefIdeal.τ).loc Cert.InprojsRefIdeal.main_v195) = v8 c
          ∧ r.2.mem ((c.tc : Thread Cert.InprojsRefIdeal.nD Cert.InprojsRefIdeal.τ).loc Cert.InprojsRefIdeal.main_arg0) = m' ((c.tc : Thread Cert.InprojsRefIdeal.nD Cert.InprojsRefIdeal.τ).loc Cert.InprojsRefIdeal.main_arg0)
          ∧ r.2.mem ((c.tc : Thread Cert.InprojsRefIdeal.nD Cert.InprojsRefIdeal.τ).loc Cert.InprojsRefIdeal.main_arg1) = m' ((c.tc : Thread Cert.InprojsRefIdeal.nD Cert.InprojsRefIdeal.τ).loc Cert.InprojsRefIdeal.main_arg1)
          ∧ r.2.mem ((c.tc : Thread Cert.InprojsRefIdeal.nD Cert.InprojsRefIdeal.τ).loc Cert.InprojsRefIdeal.main_arg2) = m' ((c.tc : Thread Cert.InprojsRefIdeal.nD Cert.InprojsRefIdeal.τ).loc Cert.InprojsRefIdeal.main_arg2)
          ∧ r.2.mem ((c.tc : Thread Cert.InprojsRefIdeal.nD Cert.InprojsRefIdeal.τ).loc Cert.InprojsRefIdeal.main_arg3) = m' ((c.tc : Thread Cert.InprojsRefIdeal.nD Cert.InprojsRefIdeal.τ).loc Cert.InprojsRefIdeal.main_arg3)
          ∧ r.2.mem ((c.tc : Thread Cert.InprojsRefIdeal.nD Cert.InprojsRefIdeal.τ).loc Cert.InprojsRefIdeal.main_arg4) = m' ((c.tc : Thread Cert.InprojsRefIdeal.nD Cert.InprojsRefIdeal.τ).loc Cert.InprojsRefIdeal.main_arg4))

def preserves_Step_StepIdeal : Prop :=
  True

def algebraic_StepIdeal_StepRefIdeal_pre_steps_finite [hStepIdeal : Cert.StepIdeal.Facts] [hStepRefIdeal : Cert.StepRefIdeal.Facts] [hPre_steps_finite : Cert.Pre_steps_finite.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal_steps_finite m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)
      ∧ m' ((c.tc : Thread Cert.StepRefIdeal.nD Cert.StepRefIdeal.τ).loc Cert.StepRefIdeal.main_arg10) = m ((c.tc : Thread Cert.StepIdeal.nD Cert.StepIdeal.τ).loc Cert.StepIdeal.main_arg10)) →
    ∃ (v0 : (c : Dev Cert.StepIdeal.nD) → Buf (Elt Ideal) ((c.tc : Thread Cert.StepIdeal.nD Cert.StepIdeal.τ).loc Cert.StepIdeal.main_v35_0)) (v1 : (c : Dev Cert.StepIdeal.nD) → Buf (Elt Ideal) ((c.tc : Thread Cert.StepIdeal.nD Cert.StepIdeal.τ).loc Cert.StepIdeal.main_v35_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v35_0) = v0 c
          ∧ r.2.mem ((c.tc : Thread Cert.StepIdeal.nD Cert.StepIdeal.τ).loc Cert.StepIdeal.main_v35_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
          ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v100) = v0 c
          ∧ r.2.mem ((c.tc : Thread Cert.StepRefIdeal.nD Cert.StepRefIdeal.τ).loc Cert.StepRefIdeal.main_v101) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9)
          ∧ r.2.mem ((c.tc : Thread Cert.StepRefIdeal.nD Cert.StepRefIdeal.τ).loc Cert.StepRefIdeal.main_arg10) = m' ((c.tc : Thread Cert.StepRefIdeal.nD Cert.StepRefIdeal.τ).loc Cert.StepRefIdeal.main_arg10))

def Claim : Prop :=
  ∃ (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hMlps : Cert.Mlps.Facts) (hMlpsIdeal : Cert.MlpsIdeal.Facts) (hMlpsRefIdeal : Cert.MlpsRefIdeal.Facts) (hInprojs : Cert.Inprojs.Facts) (hInprojsIdeal : Cert.InprojsIdeal.Facts) (hInprojsRefIdeal : Cert.InprojsRefIdeal.Facts) (hStep : Cert.Step.Facts) (hStepIdeal : Cert.StepIdeal.Facts) (hStepRefIdeal : Cert.StepRefIdeal.Facts) (hPre_steps_finite : Cert.Pre_steps_finite.Facts),
    quiescent_Mlp (hMlp := hMlp)
    ∧ quiescent_MlpIdeal (hMlpIdeal := hMlpIdeal)
    ∧ quiescent_MlpRefIdeal (hMlpRefIdeal := hMlpRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mlps (hMlps := hMlps)
    ∧ quiescent_MlpsIdeal (hMlpsIdeal := hMlpsIdeal)
    ∧ quiescent_MlpsRefIdeal (hMlpsRefIdeal := hMlpsRefIdeal)
    ∧ quiescent_Inprojs (hInprojs := hInprojs)
    ∧ quiescent_InprojsIdeal (hInprojsIdeal := hInprojsIdeal)
    ∧ quiescent_InprojsRefIdeal (hInprojsRefIdeal := hInprojsRefIdeal)
    ∧ quiescent_Step (hStep := hStep)
    ∧ quiescent_StepIdeal (hStepIdeal := hStepIdeal)
    ∧ quiescent_StepIdeal_pre_steps_finite (hStepIdeal := hStepIdeal) (hPre_steps_finite := hPre_steps_finite)
    ∧ quiescent_StepRefIdeal (hStepRefIdeal := hStepRefIdeal)
    ∧ quiescent_StepRefIdeal_pre_steps_finite (hStepRefIdeal := hStepRefIdeal) (hPre_steps_finite := hPre_steps_finite)
    ∧ preserves_Mlp_MlpIdeal
    ∧ algebraic_MlpIdeal_MlpRefIdeal (hMlpIdeal := hMlpIdeal) (hMlpRefIdeal := hMlpRefIdeal)
    ∧ preserves_Inproj_InprojIdeal
    ∧ algebraic_InprojIdeal_InprojRefIdeal (hInprojIdeal := hInprojIdeal) (hInprojRefIdeal := hInprojRefIdeal)
    ∧ preserves_Mlps_MlpsIdeal
    ∧ algebraic_MlpsIdeal_MlpsRefIdeal (hMlpsIdeal := hMlpsIdeal) (hMlpsRefIdeal := hMlpsRefIdeal)
    ∧ preserves_Inprojs_InprojsIdeal
    ∧ algebraic_InprojsIdeal_InprojsRefIdeal (hInprojsIdeal := hInprojsIdeal) (hInprojsRefIdeal := hInprojsRefIdeal)
    ∧ preserves_Step_StepIdeal
    ∧ algebraic_StepIdeal_StepRefIdeal_pre_steps_finite (hStepIdeal := hStepIdeal) (hStepRefIdeal := hStepRefIdeal) (hPre_steps_finite := hPre_steps_finite)
-- ==== Pre_steps_finite.lean ====
abbrev S32x2048 : Shape := ⟨2, ![32, 2048]⟩
abbrev S1x32x3x2048 : Shape := ⟨4, ![1, 32, 3, 2048]⟩
abbrev S32x128 : Shape := ⟨2, ![32, 128]⟩
abbrev S32x1024 : Shape := ⟨2, ![32, 1024]⟩
abbrev S1x32x16x64x128 : Shape := ⟨5, ![1, 32, 16, 64, 128]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S32x16 : Shape := ⟨2, ![32, 16]⟩
abbrev S_ : Shape := ⟨0, ![]⟩

class Facts : Prop where
  slices_S32x128_S32x16_0_72 : S32x128.Slices ![0, 72] S32x16
  bcast_S1x16_S32x16_0_1 : S1x16.BroadcastsInDim S32x16 (![0, 1] : Fin 2 → Fin S32x16.rank)
  bcast_S_S32x16 : S_.BroadcastsInDim S32x16 (![] : Fin 0 → Fin S32x16.rank)

variable [Facts]

def fn {F : FTy → Type} [FloatOps F] (main_arg0 : FVec F S32x2048 .f32) (main_arg1 : FVec F S1x32x3x2048 .f32) (main_arg2 : FVec F S32x128 .f32) (main_arg3 : FVec F S32x1024 .f32) (main_arg4 : FVec F S1x32x16x64x128 .f32) (main_arg5 : FVec F S1x4x2048 .f32) (main_arg6 : FVec F S1x2048 .f32) (main_arg7 : FVec F S1x16 .f32) (main_arg8 : FVec F S1x16 .f32) (main_arg9 : FVec F S1x16 .f32) (main_arg10 : FVec F S1x1024 .f32) : IVec S32x16 1 :=
  let main_v0 : FVec F S32x16 .f32 := (extractStridedSlice S32x16 ![0, 72] · slices_S32x128_S32x16_0_72) main_arg2
  let main_v1 : FVec F S32x16 .f32 := broadcastInDim S32x16 ![0, 1] bcast_S1x16_S32x16_0_1 main_arg7
  let main_v2 : FVec F S32x16 .f32 := addf main_v0 main_v1
  let main_cst : FVec F S_ .f32 := constant S_ .f32 0x7F800000#32
  let main_v3 : FVec F S32x16 .f32 := broadcastInDim S32x16 ![] bcast_S_S32x16 main_cst
  let main_v4 : IVec S32x16 1 := cmpf .olt main_v2 main_v3
  main_v4
-- ==== Mlp.lean ====
abbrev S2x8192x1024 : Shape := ⟨3, ![2, 8192, 1024]⟩
abbrev S16384x1024 : Shape := ⟨2, ![16384, 1024]⟩
abbrev S2x1x1024 : Shape := ⟨3, ![2, 1, 1024]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 25
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .hbm, ⟨10, _⟩ => ⟨S1024, .f32⟩
  | .hbm, ⟨11, _⟩ => ⟨S1x1024x1024, .f32⟩
  | .hbm, ⟨12, _⟩ => ⟨S1x1024x4096, .f32⟩
  | .hbm, ⟨13, _⟩ => ⟨S1x4096x1024, .f32⟩
  | .hbm, ⟨14, _⟩ => ⟨S1024x1024, .f32⟩
  | .hbm, ⟨15, _⟩ => ⟨S1024x1024, .bf16⟩
  | .hbm, ⟨16, _⟩ => ⟨S1024x4096, .f32⟩
  | .hbm, ⟨17, _⟩ => ⟨S1024x4096, .bf16⟩
  | .hbm, ⟨18, _⟩ => ⟨S4096x1024, .f32⟩
  | .hbm, ⟨19, _⟩ => ⟨S4096x1024, .bf16⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S1024x4096, .bf16⟩
  | .local _ .vmem, ⟨22, _⟩ => ⟨S4096x1024, .bf16⟩
  | .local _ .vmem, ⟨23, _⟩ => ⟨S256x1024, .f32⟩
  | .local _ .vmem, ⟨24, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MlpRefIdeal.lean ====
abbrev S2x8192x1024 : Shape := ⟨3, ![2, 8192, 1024]⟩
abbrev S16384x1024 : Shape := ⟨2, ![16384, 1024]⟩
abbrev S2x1x1024 : Shape := ⟨3, ![2, 1, 1024]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S4096x1024 : Shape := ⟨2, ![4096, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .hbm, ⟨10, _⟩ => ⟨S1024, .f32⟩
  | .hbm, ⟨11, _⟩ => ⟨S1x1024x1024, .f32⟩
  | .hbm, ⟨12, _⟩ => ⟨S1x1024x4096, .f32⟩
  | .hbm, ⟨13, _⟩ => ⟨S1x4096x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S1024x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S1024, .f32⟩
  | .hbm, ⟨43, _⟩ => ⟨S2x8192x1024, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x1024, .f32⟩
  | .hbm, ⟨55, _⟩ => ⟨S2x8192x1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S1024x4096, .f32⟩
  | .hbm, ⟨67, _⟩ => ⟨S2x8192x4096, .f32⟩
  | .hbm, ⟨68, _⟩ => ⟨S_, .f32⟩
  | .hbm, ⟨69, _⟩ => ⟨S2x8192x4096, .f32⟩
  | .hbm, ⟨70, _⟩ => ⟨S2x8192x4096, .f32⟩
  | .hbm, ⟨71, _⟩ => ⟨S2x8192x4096, .f32⟩
  | .hbm, ⟨72, _⟩ => ⟨S4096x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S2x8192x1024, .f32⟩
  | .hbm, ⟨78, _⟩ => ⟨S_, .f32⟩
  | .hbm, ⟨79, _⟩ => ⟨S2x8192, .f32⟩
  | .hbm, ⟨80, _⟩ => ⟨S2x8192x1, .f32⟩
  | .hbm, ⟨81, _⟩ => ⟨S_, .f32⟩
  | .hbm, ⟨82, _⟩ => ⟨S2x8192x1, .f32⟩
  | .hbm, ⟨83, _⟩ => ⟨S2x8192x1, .f32⟩
  | .hbm, ⟨84, _⟩ => ⟨S_, .f32⟩
  | .hbm, ⟨85, _⟩ => ⟨S2x8192x1, .f32⟩
  | .hbm, ⟨86, _⟩ => ⟨S2x8192x1, .f32⟩
  | .hbm, ⟨87, _⟩ => ⟨S2x8192x1, .f32⟩
  | .hbm, ⟨88, _⟩ => ⟨S2x8192x1024, .f32⟩
  | .hbm, ⟨89, _⟩ => ⟨S2x8192x1024, .f32⟩
  | .hbm, ⟨90, _⟩ => ⟨S1x1x1024, .f32⟩
  | .hbm, ⟨91, _⟩ => ⟨S2x8192x1024, .f32⟩
  | .hbm, ⟨92, _⟩ => ⟨S2x8192x1024, .f32⟩
  | .hbm, ⟨93, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Inproj.lean ====
abbrev S2x8192x1024 : Shape := ⟨3, ![2, 8192, 1024]⟩
abbrev S2x1x1024 : Shape := ⟨3, ![2, 1, 1024]⟩
abbrev S1x1024 : Shape := ⟨2, ![1, 1024]⟩
abbrev S1x1024x7256 : Shape := ⟨3, ![1, 1024, 7256]⟩
abbrev S1024x7256 : Shape := ⟨2, ![1024, 7256]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x2048 : Shape := ⟨2, ![1024, 2048]⟩
abbrev S1024x16 : Shape := ⟨2, ![1024, 16]⟩
abbrev S_ : Shape := ⟨0, ![]⟩
abbrev S1024x40 : Shape := ⟨2, ![1024, 40]⟩
abbrev S1024x128 : Shape := ⟨2, ![1024, 128]⟩
abbrev S1024x7296 : Shape := ⟨2, ![1024, 7296]⟩
abbrev S16384x1024 : Shape := ⟨2, ![16384, 1024]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S2x16x8192x64 : Shape := ⟨4, ![2, 16, 8192, 64]⟩
abbrev S2x256x8192 : Shape := ⟨3, ![2, 256, 8192]⟩
abbrev S2x4x8192x128 : Shape := ⟨4, ![2, 4, 8192, 128]⟩
abbrev S2x8x8192x64 : Shape := ⟨4, ![2, 8, 8192, 64]⟩
abbrev S2x64x8192 : Shape := ⟨3, ![2, 64, 8192]⟩
abbrev S16384x128 : Shape := ⟨2, ![16384, 128]⟩
abbrev S16384x2048 : Shape := ⟨2, ![16384, 2048]⟩
abbrev S256x1024 : Shape := ⟨2, ![256, 1024]⟩
abbrev S1x1x1024 : Shape := ⟨3, ![1, 1, 1024]⟩
abbrev S256x128 : Shape := ⟨2, ![256, 128]⟩
abbrev S1x16x256x64 : Shape := ⟨4, ![1, 16, 256, 64]⟩
abbrev S1x256x256 : Shape := ⟨3, ![1, 256, 256]⟩
abbrev S1x4x256x128 : Shape := ⟨4, ![1, 4, 256, 128]⟩
abbrev S1x8x256x64 : Shape := ⟨4, ![1, 8, 256, 64]⟩
abbrev S1x64x256 : Shape := ⟨3, ![1, 64, 256]⟩
abbrev S256x2048 : Shape := ⟨2, ![256, 2048]⟩
abbrev S256 : Shape := ⟨1, ![256]⟩
abbrev S256x1 : Shape := ⟨2, ![256, 1]⟩
abbrev S256x64 : Shape := ⟨2, ![256, 64]⟩
abbrev S1x1x256x64 : Shape := ⟨4, ![1, 1, 256, 64]⟩
abbrev S256x256 : Shape := ⟨2, ![256, 256]⟩
abbrev S128x256 : Shape := ⟨2, ![128, 256]⟩
abbrev S1x128x256 : Shape := ⟨3, ![1, 128, 256]⟩
abbrev S1x1x256x128 : Shape := ⟨4, ![1, 1, 256, 128]⟩
abbrev S256x512 : Shape := ⟨2, ![256, 512]⟩
abbrev S64x256 : Shape := ⟨2, ![64, 256]⟩

abbrev nBuf : Space → Nat
  | .hbm => 75
  | .vmem => 40
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1x1024x7256, .f32⟩
  | .hbm, ⟨5, _⟩ => ⟨S1024x7256, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x64, .f32⟩
  | .hbm, ⟨11, _⟩ => ⟨S1024x8, .f32⟩
  | .hbm, ⟨12, _⟩ => ⟨S1024x1024, .f32⟩
  | .hbm, ⟨13, _⟩ => ⟨S1024x2048, .f32⟩
  | .hbm, ⟨14, _⟩ => ⟨S1024x16, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x40, .f32⟩
  | .hbm, ⟨19, _⟩ => ⟨S1024x128, .f32⟩
  | .hbm, ⟨20, _⟩ => ⟨S1024x7296, .f32⟩
  | .hbm, ⟨21, _⟩ => ⟨S1024x7296, .bf16⟩
  | .hbm, ⟨22, _⟩ => ⟨S16384x1024, .f32⟩
  | .hbm, ⟨23, _⟩ => ⟨S8192, .i32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8192, .f32⟩
  | .hbm, ⟨36, _⟩ => ⟨S8192x1, .f32⟩
  | .hbm, ⟨37, _⟩ => ⟨S1x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S_, .f32⟩
  | .hbm, ⟨44, _⟩ => ⟨S8192x48, .f32⟩
  | .hbm, ⟨45, _⟩ => ⟨S_, .f32⟩
  | .hbm, ⟨46, _⟩ => ⟨S8192x48, .f32⟩
  | .hbm, ⟨47, _⟩ => ⟨S_, .f32⟩
  | .hbm, ⟨48, _⟩ => ⟨S8192x8, .f32⟩
  | .hbm, ⟨49, _⟩ => ⟨S8192x64, .f32⟩
  | .hbm, ⟨50, _⟩ => ⟨S8192x8, .f32⟩
  | .hbm, ⟨51, _⟩ => ⟨S8192x64, .f32⟩
  | .hbm, ⟨52, _⟩ => ⟨S8192x64, .f32⟩
  | .hbm, ⟨53, _⟩ => ⟨S1x8192x1x64, .f32⟩
  | .hbm, ⟨54, _⟩ => ⟨S1x8192x2x64, .f32⟩
  | .hbm, ⟨55, _⟩ => ⟨S8192x128, .f32⟩
  | .hbm, ⟨56, _⟩ => ⟨S1x8192x1x64, .f32⟩
  | .hbm, ⟨57, _⟩ => ⟨S1x8192x2x64, .f32⟩
  | .hbm, ⟨58, _⟩ => ⟨S8192x128, .f32⟩
  | .hbm, ⟨59, _⟩ => ⟨S1x8192x1x64, .f32⟩
  | .hbm, ⟨60, _⟩ => ⟨S1x8192x2x64, .f32⟩
  | .hbm, ⟨61, _⟩ => ⟨S8192x128, .f32⟩
  | .hbm, ⟨62, _⟩ => ⟨S2x16x8192x64, .bf16⟩
  | .hbm, ⟨63, _⟩ => ⟨S2x256x8192, .f32⟩
  | .hbm, ⟨64, _⟩ => ⟨S2x256x8192, .bf16⟩
  | .hbm, ⟨65, _⟩ => ⟨S2x256x8192, .f32⟩
  | .hbm, ⟨66, _⟩ => ⟨S2x4x8192x128, .bf16⟩
  | .hbm, ⟨67, _⟩ => ⟨S2x8x8192x64, .bf16⟩
  | .hbm, ⟨68, _⟩ => ⟨S2x64x8192, .f32⟩
  | .hbm, ⟨69, _⟩ => ⟨S2x64x8192, .bf16⟩
  | .hbm, ⟨70, _⟩ => ⟨S16384x128, .f32⟩
  | .hbm, ⟨71, _⟩ => ⟨S16384x1024, .f32⟩
  | .hbm, ⟨72, _⟩ => ⟨S16384x2048, .f32⟩
  | .hbm, ⟨73, _⟩ => ⟨S16384x1024, .f32⟩
  | .hbm, ⟨74, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x7296, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x16x256x64, .bf16⟩
  | .local _ .vmem, ⟨15, _⟩ => ⟨S1x16x256x64, .bf16⟩
  | .local _ .vmem, ⟨16, _⟩ => ⟨S1x256x256, .f32⟩
  | .local _ .vmem, ⟨17, _⟩ => ⟨S1x256x256, .f32⟩
  | .local _ .vmem, ⟨18, _⟩ => ⟨S1x256x256, .bf16⟩
  | .local _ .vmem, ⟨19, _⟩ => ⟨S1x256x256, .bf16⟩
  | .local _ .vmem, ⟨20, _⟩ => ⟨S1x256x256, .f32⟩
  | .local _ .vmem, ⟨21, _⟩ => ⟨S1x256x256, .f32⟩
  | .local _ .vmem, ⟨22, _⟩ => ⟨S1x4x256x128, .bf16⟩
  | .local _ .vmem, ⟨23, _⟩ => ⟨S1x4x256x128, .bf16⟩
  | .local _ .vmem, ⟨24, _⟩ => ⟨S1x8x256x64, .bf16⟩
  | .local _ .vmem, ⟨25, _⟩ => ⟨S1x8x256x64, .bf16⟩
  | .local _ .vmem, ⟨26, _⟩ => ⟨S1x64x256, .f32⟩
  | .local _ .vmem, ⟨27, _⟩ => ⟨S1x64x256, .f32⟩
  | .local _ .vmem, ⟨28, _⟩ => ⟨S1x64x256, .bf16⟩
  | .local _ .vmem, ⟨29, _⟩ => ⟨S1x64x256, .bf16⟩
  | .local _ .vmem, ⟨30, _⟩ => ⟨S256x128, .f32⟩
  | .local _ .vmem, ⟨31, _⟩ => ⟨S256x128, .f32⟩
  | .local _ .vmem, ⟨32, _⟩ => ⟨S256x1024, .f32⟩
  | .local _ .vmem, ⟨33, _⟩ => ⟨S256x1024, .f32⟩
  | .local _ .vmem, ⟨34, _⟩ => ⟨S256x2048, .f32⟩
  | .local _ .vmem, ⟨35, _⟩ => ⟨S256x2048, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50_0 : Ref sig .tc := ⟨.hbm, 62, rfl⟩
abbrev main_v50_1 : Ref sig .tc := ⟨.hbm, 63, rfl⟩
abbrev main_v50_2 : Ref sig .tc := ⟨.hbm, 64, rfl⟩
abbrev main_v50_3 : Ref sig .tc := ⟨.hbm, 65, rfl⟩
abbrev main_v50_4 : Ref sig .tc := ⟨.hbm, 66, rfl⟩
abbrev main_v50_5 : Ref sig .tc := ⟨.hbm, 67, rfl⟩
abbrev main_v50_6 : Ref sig .tc := ⟨.hbm, 68, rfl⟩
abbrev main_v50_7 : Ref sig .tc := ⟨.hbm, 69, rfl⟩
abbrev main_v50_8 : Ref sig .tc := ⟨.hbm, 70, rfl⟩
abbrev main_v50_9 : Ref sig .tc := ⟨.hbm, 71, rfl⟩
abbrev main_v50_10 : Ref sig .tc := ⟨.hbm, 72, rfl⟩
abbrev main_v50_11 : Ref sig .tc := ⟨.hbm, 73, rfl⟩
abbrev main_v50_12 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7296 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InprojRefIdeal.lean ====
abbrev S2x8192x1024 : Shape := ⟨3, ![2, 8192, 1024]⟩
abbrev S2x1x1024 : Shape := ⟨3, ![2, 1, 1024]⟩
abbrev S1x1024 : Shape := ⟨2, ![1, 1024]⟩
abbrev S1x1024x7256 : Shape := ⟨3, ![1, 1024, 7256]⟩
abbrev S8192 : Shape := ⟨1, ![8192]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x7256 : Shape := ⟨2, ![1024, 7256]⟩
abbrev S2x8192x7256 : Shape := ⟨3, ![2, 8192, 7256]⟩
abbrev S2x8192x256 : Shape := ⟨3, ![2, 8192, 256]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192x2048 : Shape := ⟨3, ![2, 8192, 2048]⟩
abbrev S2x8192x16 : Shape := ⟨3, ![2, 8192, 16]⟩
abbrev S2x8192x16x64 : Shape := ⟨4, ![2, 8192, 16, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x16x8 : Shape := ⟨4, ![2, 8192, 16, 8]⟩
abbrev S1x8192x1x8 : Shape := ⟨4, ![1, 8192, 1, 8]⟩
abbrev S2x8192x16x48 : Shape := ⟨4, ![2, 8192, 16, 48]⟩
abbrev S2x8192x4x64 : Shape := ⟨4, ![2, 8192, 4, 64]⟩
abbrev S2x8192x4x8 : Shape := ⟨4, ![2, 8192, 4, 8]⟩
abbrev S2x8192x4x48 : Shape := ⟨4, ![2, 8192, 4, 48]⟩
abbrev S2x8192x8x64 : Shape := ⟨4, ![2, 8192, 8, 64]⟩
abbrev S2x8192x8x8 : Shape := ⟨4, ![2, 8192, 8, 8]⟩
abbrev S2x8192x8x48 : Shape := ⟨4, ![2, 8192, 8, 48]⟩
abbrev S2x8192x1x64 : Shape := ⟨4, ![2, 8192, 1, 64]⟩
abbrev S2x8192x1x8 : Shape := ⟨4, ![2, 8192, 1, 8]⟩
abbrev S2x8192x1x48 : Shape := ⟨4, ![2, 8192, 1, 48]⟩
abbrev S2x256x8192 : Shape := ⟨3, ![2, 256, 8192]⟩
abbrev S2x8192x4x1 : Shape := ⟨4, ![2, 8192, 4, 1]⟩
abbrev S2x8192x4x63 : Shape := ⟨4, ![2, 8192, 4, 63]⟩
abbrev S2x8192x4x128 : Shape := ⟨4, ![2, 8192, 4, 128]⟩
abbrev S2x64x8192 : Shape := ⟨3, ![2, 64, 8192]⟩
abbrev S2x8192x40 : Shape := ⟨3, ![2, 8192, 40]⟩
abbrev S2x8192x128 : Shape := ⟨3, ![2, 8192, 128]⟩
abbrev S2x16x8192x64 : Shape := ⟨4, ![2, 16, 8192, 64]⟩
abbrev S2x4x8192x128 : Shape := ⟨4, ![2, 4, 8192, 128]⟩
abbrev S2x8x8192x64 : Shape := ⟨4, ![2, 8, 8192, 64]⟩
abbrev S16384x128 : Shape := ⟨2, ![16384, 128]⟩
abbrev S16384x1024 : Shape := ⟨2, ![16384, 1024]⟩
abbrev S16384x2048 : Shape := ⟨2, ![16384, 2048]⟩

abbrev nBuf : Space → Nat
  | .hbm => 234
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1x1024, .f32⟩
  | 4 => ⟨S1x1024x7256, .f32⟩
  | 5 => ⟨S8192, .i32⟩
  | 6 => ⟨S1024, .f32⟩
  | 7 => ⟨S2x8192x1024, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S_, .f32⟩
  | 24 => ⟨S2x1x1024, .f32⟩
  | 25 => ⟨S2x1x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S1024x7256, .f32⟩
  | 31 => ⟨S2x8192x7256, .f32⟩
  | 32 => ⟨S2x8192x1024, .f32⟩
  | 33 => ⟨S2x8192x256, .f32⟩
  | 34 => ⟨S2x8192x256, .f32⟩
  | 35 => ⟨S2x8192x512, .f32⟩
  | 36 => ⟨S2x8192x64, .f32⟩
  | 37 => ⟨S2x8192x8, .f32⟩
  | 38 => ⟨S2x8192x1024, .f32⟩
  | 39 => ⟨S2x8192x2048, .f32⟩
  | 40 => ⟨S2x8192x16, .f32⟩
  | 41 => ⟨S2x8192x1024, .f32⟩
  | 42 => ⟨S2x8192x1024, .f32⟩
  | 43 => ⟨S2x8192x16x64, .f32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S8192, .f32⟩
  | 56 => ⟨S8192x1, .f32⟩
  | 57 => ⟨S1x8, .f32⟩
  | 58 => ⟨S8192x8, .f32⟩
  | 59 => ⟨S8192x8, .f32⟩
  | 60 => ⟨S8192x8, .f32⟩
  | 61 => ⟨S8192x8, .f32⟩
  | 62 => ⟨S8192x1x8, .f32⟩
  | 63 => ⟨S8192x8, .f32⟩
  | 64 => ⟨S8192x1x8, .f32⟩
  | 65 => ⟨S2x8192x16x8, .f32⟩
  | 66 => ⟨S2x8192x16x8, .f32⟩
  | 67 => ⟨S1x8192x1x8, .f32⟩
  | 68 => ⟨S2x8192x16x8, .f32⟩
  | 69 => ⟨S2x8192x16x8, .f32⟩
  | 70 => ⟨S1x8192x1x8, .f32⟩
  | 71 => ⟨S2x8192x16x8, .f32⟩
  | 72 => ⟨S2x8192x16x8, .f32⟩
  | 73 => ⟨S2x8192x16x8, .f32⟩
  | 74 => ⟨S1x8192x1x8, .f32⟩
  | 75 => ⟨S2x8192x16x8, .f32⟩
  | 76 => ⟨S2x8192x16x8, .f32⟩
  | 77 => ⟨S1x8192x1x8, .f32⟩
  | 78 => ⟨S2x8192x16x8, .f32⟩
  | 79 => ⟨S2x8192x16x8, .f32⟩
  | 80 => ⟨S2x8192x16x8, .f32⟩
  | 81 => ⟨S2x8192x16x48, .f32⟩
  | 82 => ⟨S2x8192x16x64, .f32⟩
  | 83 => ⟨S2x8192x4x64, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8192, .f32⟩
  | 96 => ⟨S8192x1, .f32⟩
  | 97 => ⟨S1x8, .f32⟩
  | 98 => ⟨S8192x8, .f32⟩
  | 99 => ⟨S8192x8, .f32⟩
  | 100 => ⟨S8192x8, .f32⟩
  | 101 => ⟨S8192x8, .f32⟩
  | 102 => ⟨S8192x1x8, .f32⟩
  | 103 => ⟨S8192x8, .f32⟩
  | 104 => ⟨S8192x1x8, .f32⟩
  | 105 => ⟨S2x8192x4x8, .f32⟩
  | 106 => ⟨S2x8192x4x8, .f32⟩
  | 107 => ⟨S1x8192x1x8, .f32⟩
  | 108 => ⟨S2x8192x4x8, .f32⟩
  | 109 => ⟨S2x8192x4x8, .f32⟩
  | 110 => ⟨S1x8192x1x8, .f32⟩
  | 111 => ⟨S2x8192x4x8, .f32⟩
  | 112 => ⟨S2x8192x4x8, .f32⟩
  | 113 => ⟨S2x8192x4x8, .f32⟩
  | 114 => ⟨S1x8192x1x8, .f32⟩
  | 115 => ⟨S2x8192x4x8, .f32⟩
  | 116 => ⟨S2x8192x4x8, .f32⟩
  | 117 => ⟨S1x8192x1x8, .f32⟩
  | 118 => ⟨S2x8192x4x8, .f32⟩
  | 119 => ⟨S2x8192x4x8, .f32⟩
  | 120 => ⟨S2x8192x4x8, .f32⟩
  | 121 => ⟨S2x8192x4x48, .f32⟩
  | 122 => ⟨S2x8192x4x64, .f32⟩
  | 123 => ⟨S2x8192x4x64, .f32⟩
  | 124 => ⟨S2x8192x8x64, .f32⟩
  | 125 => ⟨S8, .f32⟩
  | 126 => ⟨S8, .f32⟩
  | 127 => ⟨S_, .f32⟩
  | _ => ⟨S2x8192x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S8192, .f32⟩
  | 9 => ⟨S8192x1, .f32⟩
  | 10 => ⟨S1x8, .f32⟩
  | 11 => ⟨S8192x8, .f32⟩
  | 12 => ⟨S8192x8, .f32⟩
  | 13 => ⟨S8192x8, .f32⟩
  | 14 => ⟨S8192x8, .f32⟩
  | 15 => ⟨S8192x1x8, .f32⟩
  | 16 => ⟨S8192x8, .f32⟩
  | 17 => ⟨S8192x1x8, .f32⟩
  | 18 => ⟨S2x8192x8x8, .f32⟩
  | 19 => ⟨S2x8192x8x8, .f32⟩
  | 20 => ⟨S1x8192x1x8, .f32⟩
  | 21 => ⟨S2x8192x8x8, .f32⟩
  | 22 => ⟨S2x8192x8x8, .f32⟩
  | 23 => ⟨S1x8192x1x8, .f32⟩
  | 24 => ⟨S2x8192x8x8, .f32⟩
  | 25 => ⟨S2x8192x8x8, .f32⟩
  | 26 => ⟨S2x8192x8x8, .f32⟩
  | 27 => ⟨S1x8192x1x8, .f32⟩
  | 28 => ⟨S2x8192x8x8, .f32⟩
  | 29 => ⟨S2x8192x8x8, .f32⟩
  | 30 => ⟨S1x8192x1x8, .f32⟩
  | 31 => ⟨S2x8192x8x8, .f32⟩
  | 32 => ⟨S2x8192x8x8, .f32⟩
  | 33 => ⟨S2x8192x8x8, .f32⟩
  | 34 => ⟨S2x8192x8x48, .f32⟩
  | 35 => ⟨S2x8192x8x64, .f32⟩
  | 36 => ⟨S2x8192x1x64, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S8192, .f32⟩
  | 49 => ⟨S8192x1, .f32⟩
  | 50 => ⟨S1x8, .f32⟩
  | 51 => ⟨S8192x8, .f32⟩
  | 52 => ⟨S8192x8, .f32⟩
  | 53 => ⟨S8192x8, .f32⟩
  | 54 => ⟨S8192x8, .f32⟩
  | 55 => ⟨S8192x1x8, .f32⟩
  | 56 => ⟨S8192x8, .f32⟩
  | 57 => ⟨S8192x1x8, .f32⟩
  | 58 => ⟨S2x8192x1x8, .f32⟩
  | 59 => ⟨S2x8192x1x8, .f32⟩
  | 60 => ⟨S1x8192x1x8, .f32⟩
  | 61 => ⟨S2x8192x1x8, .f32⟩
  | 62 => ⟨S2x8192x1x8, .f32⟩
  | 63 => ⟨S1x8192x1x8, .f32⟩
  | 64 => ⟨S2x8192x1x8, .f32⟩
  | 65 => ⟨S2x8192x1x8, .f32⟩
  | 66 => ⟨S2x8192x1x8, .f32⟩
  | 67 => ⟨S1x8192x1x8, .f32⟩
  | 68 => ⟨S2x8192x1x8, .f32⟩
  | 69 => ⟨S2x8192x1x8, .f32⟩
  | 70 => ⟨S1x8192x1x8, .f32⟩
  | 71 => ⟨S2x8192x1x8, .f32⟩
  | 72 => ⟨S2x8192x1x8, .f32⟩
  | 73 => ⟨S2x8192x1x8, .f32⟩
  | 74 => ⟨S2x8192x1x48, .f32⟩
  | 75 => ⟨S2x8192x1x64, .f32⟩
  | 76 => ⟨S2x8192x64, .f32⟩
  | 77 => ⟨S_, .f32⟩
  | 78 => ⟨S2x8192x16x64, .f32⟩
  | 79 => ⟨S2x8192x16x64, .f32⟩
  | 80 => ⟨S2x8192x256, .f32⟩
  | 81 => ⟨S2x256x8192, .f32⟩
  | 82 => ⟨S2x8192x256, .f32⟩
  | 83 => ⟨S2x256x8192, .f32⟩
  | 84 => ⟨S_, .f32⟩
  | 85 => ⟨S2x8192x4x1, .f32⟩
  | 86 => ⟨S_, .f32⟩
  | 87 => ⟨S2x8192x4x63, .f32⟩
  | 88 => ⟨S2x8192x4x128, .f32⟩
  | 89 => ⟨S2x64x8192, .f32⟩
  | 90 => ⟨S_, .f32⟩
  | 91 => ⟨S2x8192x40, .f32⟩
  | 92 => ⟨S2x8192x128, .f32⟩
  | 93 => ⟨S2x16x8192x64, .f32⟩
  | 94 => ⟨S2x16x8192x64, .bf16⟩
  | 95 => ⟨S2x256x8192, .bf16⟩
  | 96 => ⟨S2x4x8192x128, .f32⟩
  | 97 => ⟨S2x4x8192x128, .bf16⟩
  | 98 => ⟨S2x8x8192x64, .f32⟩
  | 99 => ⟨S2x8x8192x64, .bf16⟩
  | 100 => ⟨S2x64x8192, .bf16⟩
  | 101 => ⟨S16384x128, .f32⟩
  | 102 => ⟨S16384x1024, .f32⟩
  | 103 => ⟨S16384x2048, .f32⟩
  | 104 => ⟨S16384x1024, .f32⟩
  | 105 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_6 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_9 : Ref sig .tc := ⟨.hbm, 127, rfl⟩
abbrev main_v112 : Ref sig .tc := ⟨.hbm, 128, rfl⟩
abbrev main_v113 : Ref sig .tc := ⟨.hbm, 129, rfl⟩
abbrev main_cst_10 : Ref sig .tc := ⟨.hbm, 130, rfl⟩
abbrev main_v114 : Ref sig .tc := ⟨.hbm, 131, rfl⟩
abbrev main_v115 : Ref sig .tc := ⟨.hbm, 132, rfl⟩
abbrev main_cst_11 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_cst_12 : Ref sig .tc := ⟨.hbm, 167, rfl⟩
abbrev main_v149 : Ref sig .tc := ⟨.hbm, 168, rfl⟩
abbrev main_v150 : Ref sig .tc := ⟨.hbm, 169, rfl⟩
abbrev main_cst_13 : Ref sig .tc := ⟨.hbm, 170, rfl⟩
abbrev main_v151 : Ref sig .tc := ⟨.hbm, 171, rfl⟩
abbrev main_v152 : Ref sig .tc := ⟨.hbm, 172, rfl⟩
abbrev main_cst_14 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_cst_15 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_cst_16 : Ref sig .tc := ⟨.hbm, 212, rfl⟩
abbrev main_v190 : Ref sig .tc := ⟨.hbm, 213, rfl⟩
abbrev main_cst_17 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_cst_18 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩

abbrev nD : Nat := 1
abbrev τ : Topo := Topo.v7x

variable {F : FTy → Type} [FloatOps F]
-- ==== Mlps.lean ====
abbrev S32x1x1024 : Shape := ⟨3, ![32, 1, 1024]⟩
abbrev S32x1024 : Shape := ⟨2, ![32, 1024]⟩
abbrev S1x32x1024 : Shape := ⟨3, ![1, 32, 1024]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024x4096 : Shape := ⟨2, ![1024, 4096]⟩
abbrev S4096x1024 : Shape := ⟨2, ![4096, 1024]⟩
abbrev S32 : Shape := ⟨1, ![32]⟩
abbrev S32x1 : Shape := ⟨2, ![32, 1]⟩

abbrev nBuf : Space → Nat
  | .hbm => 23
  | .vmem => 15
  | .smem => 0
  | _ => 0

abbrev bufTy : (tb : Table) → Fin (tcTables nBuf tb) → BufTy
  | .hbm, ⟨0, _⟩ => ⟨S32x1x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S1x32x1024, .f32⟩
  | .hbm, ⟨6, _⟩ => ⟨S1x32x1024, .f32⟩
  | .hbm, ⟨7, _⟩ => ⟨S1x32x1024, .f32⟩
  | .hbm, ⟨8, _⟩ => ⟨S1x32x1024, .f32⟩
  | .hbm, ⟨9, _⟩ => ⟨S1x1024, .f32⟩
  | .hbm, ⟨10, _⟩ => ⟨S1024, .f32⟩
  | .hbm, ⟨11, _⟩ => ⟨S1x1024x1024, .f32⟩
  | .hbm, ⟨12, _⟩ => ⟨S1x1024x4096, .f32⟩
  | .hbm, ⟨13, _⟩ => ⟨S1x4096x1024, .f32⟩
  | .hbm, ⟨14, _⟩ => ⟨S1024x1024, .f32⟩
  | .hbm, ⟨15, _⟩ => ⟨S1024x1024, .bf16⟩
  | .hbm, ⟨16, _⟩ => ⟨S1024x4096, .f32⟩
  | .hbm, ⟨17, _⟩ => ⟨S1024x4096, .bf16⟩
  | .hbm, ⟨18, _⟩ => ⟨S4096x1024, .f32⟩
  | .hbm, ⟨19, _⟩ => ⟨S4096x1024, .bf16⟩
  | .hbm, ⟨20, _⟩ => ⟨S1x1024, .f32⟩
  | .hbm, ⟨21, _⟩ => ⟨S32x1024, .f32⟩
  | .hbm, ⟨22, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x4096, .bf16⟩
  | .local _ .vmem, ⟨13, _⟩ => ⟨S4096x1024, .bf16⟩
  | .local _ .vmem, ⟨14, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== MlpsRefIdeal.lean ====
abbrev S32x1x1024 : Shape := ⟨3, ![32, 1, 1024]⟩
abbrev S32x1024 : Shape := ⟨2, ![32, 1024]⟩
abbrev S1x32x1024 : Shape := ⟨3, ![1, 32, 1024]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩
abbrev S1024x1024 : Shape := ⟨2, ![1024, 1024]⟩
abbrev S32x1 : Shape := ⟨2, ![32, 1]⟩
abbrev S32x1x1 : Shape := ⟨3, ![32, 1, 1]⟩
abbrev S1x1x1024 : Shape := ⟨3, ![1, 1, 1024]⟩
abbrev S1024x4096 : Shape := ⟨2, ![1024, 4096]⟩
abbrev S32x1x4096 : Shape := ⟨3, ![32, 1, 4096]⟩
abbrev S4096x1024 : Shape := ⟨2, ![4096, 1024]⟩

abbrev nBuf : Space → Nat
  | .hbm => 94
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S1x32x1024, .f32⟩
  | .hbm, ⟨6, _⟩ => ⟨S1x32x1024, .f32⟩
  | .hbm, ⟨7, _⟩ => ⟨S1x32x1024, .f32⟩
  | .hbm, ⟨8, _⟩ => ⟨S1x32x1024, .f32⟩
  | .hbm, ⟨9, _⟩ => ⟨S1x1024, .f32⟩
  | .hbm, ⟨10, _⟩ => ⟨S1024, .f32⟩
  | .hbm, ⟨11, _⟩ => ⟨S1x1024x1024, .f32⟩
  | .hbm, ⟨12, _⟩ => ⟨S1x1024x4096, .f32⟩
  | .hbm, ⟨13, _⟩ => ⟨S1x4096x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S32x1x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S_, .f32⟩
  | .hbm, ⟨37, _⟩ => ⟨S32x1x1024, .f32⟩
  | .hbm, ⟨38, _⟩ => ⟨S32x1x1024, .f32⟩
  | .hbm, ⟨39, _⟩ => ⟨S32x1x1024, .f32⟩
  | .hbm, ⟨40, _⟩ => ⟨S32x1x1024, .f32⟩
  | .hbm, ⟨41, _⟩ => ⟨S1024x1024, .f32⟩
  | .hbm, ⟨42, _⟩ => ⟨S32x1x1024, .f32⟩
  | .hbm, ⟨43, _⟩ => ⟨S32x1x1024, .f32⟩
  | .hbm, ⟨44, _⟩ => ⟨S32x1x1024, .f32⟩
  | .hbm, ⟨45, _⟩ => ⟨S1024, .f32⟩
  | .hbm, ⟨46, _⟩ => ⟨S32x1x1024, .f32⟩
  | .hbm, ⟨47, _⟩ => ⟨S_, .f32⟩
  | .hbm, ⟨48, _⟩ => ⟨S32x1, .f32⟩
  | .hbm, ⟨49, _⟩ => ⟨S32x1x1, .f32⟩
  | .hbm, ⟨50, _⟩ => ⟨S_, .f32⟩
  | .hbm, ⟨51, _⟩ => ⟨S32x1x1, .f32⟩
  | .hbm, ⟨52, _⟩ => ⟨S32x1x1, .f32⟩
  | .hbm, ⟨53, _⟩ => ⟨S_, .f32⟩
  | .hbm, ⟨54, _⟩ => ⟨S32x1x1, .f32⟩
  | .hbm, ⟨55, _⟩ => ⟨S32x1x1, .f32⟩
  | .hbm, ⟨56, _⟩ => ⟨S32x1x1, .f32⟩
  | .hbm, ⟨57, _⟩ => ⟨S32x1x1024, .f32⟩
  | .hbm, ⟨58, _⟩ => ⟨S32x1x1024, .f32⟩
  | .hbm, ⟨59, _⟩ => ⟨S1x1x1024, .f32⟩
  | .hbm, ⟨60, _⟩ => ⟨S32x1x1024, .f32⟩
  | .hbm, ⟨61, _⟩ => ⟨S32x1x1024, .f32⟩
  | .hbm, ⟨62, _⟩ => ⟨S_, .f32⟩
  | .hbm, ⟨63, _⟩ => ⟨S32x1x1024, .f32⟩
  | .hbm, ⟨64, _⟩ => ⟨S32x1x1024, .f32⟩
  | .hbm, ⟨65, _⟩ => ⟨S32x1x1024, .f32⟩
  | .hbm, ⟨66, _⟩ => ⟨S32x1x1024, .f32⟩
  | .hbm, ⟨67, _⟩ => ⟨S1024x4096, .f32⟩
  | .hbm, ⟨68, _⟩ => ⟨S32x1x4096, .f32⟩
  | .hbm, ⟨69, _⟩ => ⟨S_, .f32⟩
  | .hbm, ⟨70, _⟩ => ⟨S32x1x4096, .f32⟩
  | .hbm, ⟨71, _⟩ => ⟨S32x1x4096, .f32⟩
  | .hbm, ⟨72, _⟩ => ⟨S32x1x4096, .f32⟩
  | .hbm, ⟨73, _⟩ => ⟨S4096x1024, .f32⟩
  | .hbm, ⟨74, _⟩ => ⟨S32x1x1024, .f32⟩
  | .hbm, ⟨75, _⟩ => ⟨S32x1x1024, .f32⟩
  | .hbm, ⟨76, _⟩ => ⟨S32x1x1024, .f32⟩
  | .hbm, ⟨77, _⟩ => ⟨S32x1x1024, .f32⟩
  | .hbm, ⟨78, _⟩ => ⟨S_, .f32⟩
  | .hbm, ⟨79, _⟩ => ⟨S32x1, .f32⟩
  | .hbm, ⟨80, _⟩ => ⟨S32x1x1, .f32⟩
  | .hbm, ⟨81, _⟩ => ⟨S_, .f32⟩
  | .hbm, ⟨82, _⟩ => ⟨S32x1x1, .f32⟩
  | .hbm, ⟨83, _⟩ => ⟨S32x1x1, .f32⟩
  | .hbm, ⟨84, _⟩ => ⟨S_, .f32⟩
  | .hbm, ⟨85, _⟩ => ⟨S32x1x1, .f32⟩
  | .hbm, ⟨86, _⟩ => ⟨S32x1x1, .f32⟩
  | .hbm, ⟨87, _⟩ => ⟨S32x1x1, .f32⟩
  | .hbm, ⟨88, _⟩ => ⟨S32x1x1024, .f32⟩
  | .hbm, ⟨89, _⟩ => ⟨S32x1x1024, .f32⟩
  | .hbm, ⟨90, _⟩ => ⟨S1x1x1024, .f32⟩
  | .hbm, ⟨91, _⟩ => ⟨S32x1x1024, .f32⟩
  | .hbm, ⟨92, _⟩ => ⟨S32x1x1024, .f32⟩
  | .hbm, ⟨93, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call0_cst : Ref sig .tc := ⟨.hbm, 69, rfl⟩
abbrev main_call0_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Inprojs.lean ====
abbrev S32x1x1024 : Shape := ⟨3, ![32, 1, 1024]⟩
abbrev S1x32x1024 : Shape := ⟨3, ![1, 32, 1024]⟩
abbrev S1x1024 : Shape := ⟨2, ![1, 1024]⟩
abbrev S1x1024x7256 : Shape := ⟨3, ![1, 1024, 7256]⟩
abbrev S1024x7256 : Shape := ⟨2, ![1024, 7256]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x2048 : Shape := ⟨2, ![1024, 2048]⟩
abbrev S1024x16 : Shape := ⟨2, ![1024, 16]⟩
abbrev S_ : Shape := ⟨0, ![]⟩
abbrev S1024x40 : Shape := ⟨2, ![1024, 40]⟩
abbrev S1024x128 : Shape := ⟨2, ![1024, 128]⟩
abbrev S1024x7296 : Shape := ⟨2, ![1024, 7296]⟩
abbrev S32x1024 : Shape := ⟨2, ![32, 1024]⟩
abbrev S1 : Shape := ⟨1, ![1]⟩
abbrev S8 : Shape := ⟨1, ![8]⟩
abbrev S1x1 : Shape := ⟨2, ![1, 1]⟩
abbrev S1x8 : Shape := ⟨2, ![1, 8]⟩
abbrev S1x48 : Shape := ⟨2, ![1, 48]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S32x256 : Shape := ⟨2, ![32, 256]⟩
abbrev S32x512 : Shape := ⟨2, ![32, 512]⟩
abbrev S32x128 : Shape := ⟨2, ![32, 128]⟩
abbrev S32x2048 : Shape := ⟨2, ![32, 2048]⟩
abbrev S32 : Shape := ⟨1, ![32]⟩
abbrev S32x1 : Shape := ⟨2, ![32, 1]⟩

abbrev nBuf : Space → Nat
  | .hbm => 71
  | .vmem => 17
  | .smem => 0
  | _ => 0

abbrev bufTy : (tb : Table) → Fin (tcTables nBuf tb) → BufTy
  | .hbm, ⟨0, _⟩ => ⟨S32x1x1024, .f32⟩
  | .hbm, ⟨1, _⟩ => ⟨S1x32x1024, .f32⟩
  | .hbm, ⟨2, _⟩ => ⟨S1x32x1024, .f32⟩
  | .hbm, ⟨3, _⟩ => ⟨S1x1024, .f32⟩
  | .hbm, ⟨4, _⟩ => ⟨S1x1024x7256, .f32⟩
  | .hbm, ⟨5, _⟩ => ⟨S1024x7256, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x64, .f32⟩
  | .hbm, ⟨11, _⟩ => ⟨S1024x8, .f32⟩
  | .hbm, ⟨12, _⟩ => ⟨S1024x1024, .f32⟩
  | .hbm, ⟨13, _⟩ => ⟨S1024x2048, .f32⟩
  | .hbm, ⟨14, _⟩ => ⟨S1024x16, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x40, .f32⟩
  | .hbm, ⟨19, _⟩ => ⟨S1024x128, .f32⟩
  | .hbm, ⟨20, _⟩ => ⟨S1024x7296, .f32⟩
  | .hbm, ⟨21, _⟩ => ⟨S1024x7296, .bf16⟩
  | .hbm, ⟨22, _⟩ => ⟨S32x1024, .f32⟩
  | .hbm, ⟨23, _⟩ => ⟨S_, .i32⟩
  | .hbm, ⟨24, _⟩ => ⟨S1, .i32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S1, .f32⟩
  | .hbm, ⟨37, _⟩ => ⟨S1x1, .f32⟩
  | .hbm, ⟨38, _⟩ => ⟨S1x8, .f32⟩
  | .hbm, ⟨39, _⟩ => ⟨S1x8, .f32⟩
  | .hbm, ⟨40, _⟩ => ⟨S1x8, .f32⟩
  | .hbm, ⟨41, _⟩ => ⟨S1x8, .f32⟩
  | .hbm, ⟨42, _⟩ => ⟨S1x8, .f32⟩
  | .hbm, ⟨43, _⟩ => ⟨S_, .f32⟩
  | .hbm, ⟨44, _⟩ => ⟨S1x48, .f32⟩
  | .hbm, ⟨45, _⟩ => ⟨S_, .f32⟩
  | .hbm, ⟨46, _⟩ => ⟨S1x48, .f32⟩
  | .hbm, ⟨47, _⟩ => ⟨S_, .f32⟩
  | .hbm, ⟨48, _⟩ => ⟨S1x8, .f32⟩
  | .hbm, ⟨49, _⟩ => ⟨S1x64, .f32⟩
  | .hbm, ⟨50, _⟩ => ⟨S1x8, .f32⟩
  | .hbm, ⟨51, _⟩ => ⟨S1x64, .f32⟩
  | .hbm, ⟨52, _⟩ => ⟨S1x64, .f32⟩
  | .hbm, ⟨53, _⟩ => ⟨S1x1x1x64, .f32⟩
  | .hbm, ⟨54, _⟩ => ⟨S1x1x2x64, .f32⟩
  | .hbm, ⟨55, _⟩ => ⟨S1x128, .f32⟩
  | .hbm, ⟨56, _⟩ => ⟨S1x1x1x64, .f32⟩
  | .hbm, ⟨57, _⟩ => ⟨S1x1x2x64, .f32⟩
  | .hbm, ⟨58, _⟩ => ⟨S1x128, .f32⟩
  | .hbm, ⟨59, _⟩ => ⟨S1x1x1x64, .f32⟩
  | .hbm, ⟨60, _⟩ => ⟨S1x1x2x64, .f32⟩
  | .hbm, ⟨61, _⟩ => ⟨S1x128, .f32⟩
  | .hbm, ⟨62, _⟩ => ⟨S32x1024, .f32⟩
  | .hbm, ⟨63, _⟩ => ⟨S32x256, .f32⟩
  | .hbm, ⟨64, _⟩ => ⟨S32x256, .f32⟩
  | .hbm, ⟨65, _⟩ => ⟨S32x512, .bf16⟩
  | .hbm, ⟨66, _⟩ => ⟨S32x128, .f32⟩
  | .hbm, ⟨67, _⟩ => ⟨S32x1024, .f32⟩
  | .hbm, ⟨68, _⟩ => ⟨S32x2048, .f32⟩
  | .hbm, ⟨69, _⟩ => ⟨S32x1024, .f32⟩
  | .hbm, ⟨70, _⟩ => ⟨S32x1024, .f32⟩
  | .local _ .vmem, ⟨0, _⟩ => ⟨S32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x1024, .f32⟩
  | .local _ .vmem, ⟨4, _⟩ => ⟨S1024x7296, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S32x1024, .f32⟩
  | .local _ .vmem, ⟨9, _⟩ => ⟨S32x256, .f32⟩
  | .local _ .vmem, ⟨10, _⟩ => ⟨S32x256, .f32⟩
  | .local _ .vmem, ⟨11, _⟩ => ⟨S32x512, .bf16⟩
  | .local _ .vmem, ⟨12, _⟩ => ⟨S32x128, .f32⟩
  | .local _ .vmem, ⟨13, _⟩ => ⟨S32x1024, .f32⟩
  | .local _ .vmem, ⟨14, _⟩ => ⟨S32x2048, .f32⟩
  | .local _ .vmem, ⟨15, _⟩ => ⟨S32x1024, .f32⟩
  | .local _ .vmem, ⟨16, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev main_v49_3 : Ref sig .tc := ⟨.hbm, 65, rfl⟩
abbrev main_v49_4 : Ref sig .tc := ⟨.hbm, 66, rfl⟩
abbrev main_v49_5 : Ref sig .tc := ⟨.hbm, 67, rfl⟩
abbrev main_v49_6 : Ref sig .tc := ⟨.hbm, 68, rfl⟩
abbrev main_v49_7 : Ref sig .tc := ⟨.hbm, 69, rfl⟩
abbrev main_v49_8 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7296 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== InprojsRefIdeal.lean ====
abbrev S32x1x1024 : Shape := ⟨3, ![32, 1, 1024]⟩
abbrev S1x32x1024 : Shape := ⟨3, ![1, 32, 1024]⟩
abbrev S1x1024 : Shape := ⟨2, ![1, 1024]⟩
abbrev S1x1024x7256 : Shape := ⟨3, ![1, 1024, 7256]⟩
abbrev S1 : Shape := ⟨1, ![1]⟩
abbrev S_ : Shape := ⟨0, ![]⟩
abbrev S1024 : Shape := ⟨1, ![1024]⟩
abbrev S32x1 : Shape := ⟨2, ![32, 1]⟩
abbrev S32x1x1 : Shape := ⟨3, ![32, 1, 1]⟩
abbrev S1x1x1024 : Shape := ⟨3, ![1, 1, 1024]⟩
abbrev S1024x7256 : Shape := ⟨2, ![1024, 7256]⟩
abbrev S32x1x7256 : Shape := ⟨3, ![32, 1, 7256]⟩
abbrev S32x1x256 : Shape := ⟨3, ![32, 1, 256]⟩
abbrev S32x1x512 : Shape := ⟨3, ![32, 1, 512]⟩
abbrev S32x1x64 : Shape := ⟨3, ![32, 1, 64]⟩
abbrev S32x1x8 : Shape := ⟨3, ![32, 1, 8]⟩
abbrev S32x1x2048 : Shape := ⟨3, ![32, 1, 2048]⟩
abbrev S32x1x16 : Shape := ⟨3, ![32, 1, 16]⟩
abbrev S32x1x16x64 : Shape := ⟨4, ![32, 1, 16, 64]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S32x1x16x8 : Shape := ⟨4, ![32, 1, 16, 8]⟩
abbrev S1x1x1x8 : Shape := ⟨4, ![1, 1, 1, 8]⟩
abbrev S32x1x16x48 : Shape := ⟨4, ![32, 1, 16, 48]⟩
abbrev S32x1x4x64 : Shape := ⟨4, ![32, 1, 4, 64]⟩
abbrev S32x1x4x8 : Shape := ⟨4, ![32, 1, 4, 8]⟩
abbrev S32x1x4x48 : Shape := ⟨4, ![32, 1, 4, 48]⟩
abbrev S32x1x8x64 : Shape := ⟨4, ![32, 1, 8, 64]⟩
abbrev S32x1x8x8 : Shape := ⟨4, ![32, 1, 8, 8]⟩
abbrev S32x1x8x48 : Shape := ⟨4, ![32, 1, 8, 48]⟩
abbrev S32x1x1x64 : Shape := ⟨4, ![32, 1, 1, 64]⟩
abbrev S32x1x1x8 : Shape := ⟨4, ![32, 1, 1, 8]⟩
abbrev S32x1x1x48 : Shape := ⟨4, ![32, 1, 1, 48]⟩
abbrev S32x1x40 : Shape := ⟨3, ![32, 1, 40]⟩
abbrev S32x1x128 : Shape := ⟨3, ![32, 1, 128]⟩
abbrev S32x1024 : Shape := ⟨2, ![32, 1024]⟩
abbrev S32x256 : Shape := ⟨2, ![32, 256]⟩
abbrev S32x512 : Shape := ⟨2, ![32, 512]⟩
abbrev S32x128 : Shape := ⟨2, ![32, 128]⟩
abbrev S32x2048 : Shape := ⟨2, ![32, 2048]⟩

abbrev nBuf : Space → Nat
  | .hbm => 220
  | .vmem => 0
  | .smem => 0
  | _ => 0

abbrev hbmTy0_0 (i : Nat) : BufTy := match i % 128 with
  | 0 => ⟨S32x1x1024, .f32⟩
  | 1 => ⟨S1x32x1024, .f32⟩
  | 2 => ⟨S1x32x1024, .f32⟩
  | 3 => ⟨S1x1024, .f32⟩
  | 4 => ⟨S1x1024x7256, .f32⟩
  | 5 => ⟨S32x1x1024, .f32⟩
  | 6 => ⟨S32x1x1024, .f32⟩
  | 7 => ⟨S1, .i32⟩
  | 8 => ⟨S_, .i32⟩
  | 9 => ⟨S1, .i32⟩
  | 10 => ⟨S1, .i32⟩
  | 11 => ⟨S1024, .f32⟩
  | 12 => ⟨S32x1x1024, .f32⟩
  | 13 => ⟨S_, .f32⟩
  | 14 => ⟨S32x1, .f32⟩
  | 15 => ⟨S32x1x1, .f32⟩
  | 16 => ⟨S_, .f32⟩
  | 17 => ⟨S32x1x1, .f32⟩
  | 18 => ⟨S32x1x1, .f32⟩
  | 19 => ⟨S_, .f32⟩
  | 20 => ⟨S32x1x1, .f32⟩
  | 21 => ⟨S32x1x1, .f32⟩
  | 22 => ⟨S32x1x1, .f32⟩
  | 23 => ⟨S32x1x1024, .f32⟩
  | 24 => ⟨S32x1x1024, .f32⟩
  | 25 => ⟨S1x1x1024, .f32⟩
  | 26 => ⟨S32x1x1024, .f32⟩
  | 27 => ⟨S32x1x1024, .f32⟩
  | 28 => ⟨S_, .f32⟩
  | 29 => ⟨S32x1x1024, .f32⟩
  | 30 => ⟨S32x1x1024, .f32⟩
  | 31 => ⟨S32x1x1024, .f32⟩
  | 32 => ⟨S32x1x1024, .f32⟩
  | 33 => ⟨S1024x7256, .f32⟩
  | 34 => ⟨S32x1x7256, .f32⟩
  | 35 => ⟨S32x1x1024, .f32⟩
  | 36 => ⟨S32x1x256, .f32⟩
  | 37 => ⟨S32x1x256, .f32⟩
  | 38 => ⟨S32x1x512, .f32⟩
  | 39 => ⟨S32x1x64, .f32⟩
  | 40 => ⟨S32x1x8, .f32⟩
  | 41 => ⟨S32x1x1024, .f32⟩
  | 42 => ⟨S32x1x2048, .f32⟩
  | 43 => ⟨S32x1x16, .f32⟩
  | 44 => ⟨S32x1x1024, .f32⟩
  | 45 => ⟨S32x1x1024, .f32⟩
  | 46 => ⟨S32x1x16x64, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S1, .f32⟩
  | 59 => ⟨S1x1, .f32⟩
  | 60 => ⟨S1x8, .f32⟩
  | 61 => ⟨S1x8, .f32⟩
  | 62 => ⟨S1x8, .f32⟩
  | 63 => ⟨S1x8, .f32⟩
  | 64 => ⟨S1x1x8, .f32⟩
  | 65 => ⟨S1x8, .f32⟩
  | 66 => ⟨S1x1x8, .f32⟩
  | 67 => ⟨S32x1x16x8, .f32⟩
  | 68 => ⟨S32x1x16x8, .f32⟩
  | 69 => ⟨S1x1x1x8, .f32⟩
  | 70 => ⟨S32x1x16x8, .f32⟩
  | 71 => ⟨S32x1x16x8, .f32⟩
  | 72 => ⟨S1x1x1x8, .f32⟩
  | 73 => ⟨S32x1x16x8, .f32⟩
  | 74 => ⟨S32x1x16x8, .f32⟩
  | 75 => ⟨S32x1x16x8, .f32⟩
  | 76 => ⟨S1x1x1x8, .f32⟩
  | 77 => ⟨S32x1x16x8, .f32⟩
  | 78 => ⟨S32x1x16x8, .f32⟩
  | 79 => ⟨S1x1x1x8, .f32⟩
  | 80 => ⟨S32x1x16x8, .f32⟩
  | 81 => ⟨S32x1x16x8, .f32⟩
  | 82 => ⟨S32x1x16x8, .f32⟩
  | 83 => ⟨S32x1x16x48, .f32⟩
  | 84 => ⟨S32x1x16x64, .f32⟩
  | 85 => ⟨S32x1x4x64, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S1, .f32⟩
  | 98 => ⟨S1x1, .f32⟩
  | 99 => ⟨S1x8, .f32⟩
  | 100 => ⟨S1x8, .f32⟩
  | 101 => ⟨S1x8, .f32⟩
  | 102 => ⟨S1x8, .f32⟩
  | 103 => ⟨S1x1x8, .f32⟩
  | 104 => ⟨S1x8, .f32⟩
  | 105 => ⟨S1x1x8, .f32⟩
  | 106 => ⟨S32x1x4x8, .f32⟩
  | 107 => ⟨S32x1x4x8, .f32⟩
  | 108 => ⟨S1x1x1x8, .f32⟩
  | 109 => ⟨S32x1x4x8, .f32⟩
  | 110 => ⟨S32x1x4x8, .f32⟩
  | 111 => ⟨S1x1x1x8, .f32⟩
  | 112 => ⟨S32x1x4x8, .f32⟩
  | 113 => ⟨S32x1x4x8, .f32⟩
  | 114 => ⟨S32x1x4x8, .f32⟩
  | 115 => ⟨S1x1x1x8, .f32⟩
  | 116 => ⟨S32x1x4x8, .f32⟩
  | 117 => ⟨S32x1x4x8, .f32⟩
  | 118 => ⟨S1x1x1x8, .f32⟩
  | 119 => ⟨S32x1x4x8, .f32⟩
  | 120 => ⟨S32x1x4x8, .f32⟩
  | 121 => ⟨S32x1x4x8, .f32⟩
  | 122 => ⟨S32x1x4x48, .f32⟩
  | 123 => ⟨S32x1x4x64, .f32⟩
  | 124 => ⟨S32x1x4x64, .f32⟩
  | 125 => ⟨S32x1x8x64, .f32⟩
  | 126 => ⟨S8, .f32⟩
  | 127 => ⟨S8, .f32⟩
  | _ => ⟨S32x1x1024, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S1, .f32⟩
  | 10 => ⟨S1x1, .f32⟩
  | 11 => ⟨S1x8, .f32⟩
  | 12 => ⟨S1x8, .f32⟩
  | 13 => ⟨S1x8, .f32⟩
  | 14 => ⟨S1x8, .f32⟩
  | 15 => ⟨S1x1x8, .f32⟩
  | 16 => ⟨S1x8, .f32⟩
  | 17 => ⟨S1x1x8, .f32⟩
  | 18 => ⟨S32x1x8x8, .f32⟩
  | 19 => ⟨S32x1x8x8, .f32⟩
  | 20 => ⟨S1x1x1x8, .f32⟩
  | 21 => ⟨S32x1x8x8, .f32⟩
  | 22 => ⟨S32x1x8x8, .f32⟩
  | 23 => ⟨S1x1x1x8, .f32⟩
  | 24 => ⟨S32x1x8x8, .f32⟩
  | 25 => ⟨S32x1x8x8, .f32⟩
  | 26 => ⟨S32x1x8x8, .f32⟩
  | 27 => ⟨S1x1x1x8, .f32⟩
  | 28 => ⟨S32x1x8x8, .f32⟩
  | 29 => ⟨S32x1x8x8, .f32⟩
  | 30 => ⟨S1x1x1x8, .f32⟩
  | 31 => ⟨S32x1x8x8, .f32⟩
  | 32 => ⟨S32x1x8x8, .f32⟩
  | 33 => ⟨S32x1x8x8, .f32⟩
  | 34 => ⟨S32x1x8x48, .f32⟩
  | 35 => ⟨S32x1x8x64, .f32⟩
  | 36 => ⟨S32x1x1x64, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S1, .f32⟩
  | 49 => ⟨S1x1, .f32⟩
  | 50 => ⟨S1x8, .f32⟩
  | 51 => ⟨S1x8, .f32⟩
  | 52 => ⟨S1x8, .f32⟩
  | 53 => ⟨S1x8, .f32⟩
  | 54 => ⟨S1x1x8, .f32⟩
  | 55 => ⟨S1x8, .f32⟩
  | 56 => ⟨S1x1x8, .f32⟩
  | 57 => ⟨S32x1x1x8, .f32⟩
  | 58 => ⟨S32x1x1x8, .f32⟩
  | 59 => ⟨S1x1x1x8, .f32⟩
  | 60 => ⟨S32x1x1x8, .f32⟩
  | 61 => ⟨S32x1x1x8, .f32⟩
  | 62 => ⟨S1x1x1x8, .f32⟩
  | 63 => ⟨S32x1x1x8, .f32⟩
  | 64 => ⟨S32x1x1x8, .f32⟩
  | 65 => ⟨S32x1x1x8, .f32⟩
  | 66 => ⟨S1x1x1x8, .f32⟩
  | 67 => ⟨S32x1x1x8, .f32⟩
  | 68 => ⟨S32x1x1x8, .f32⟩
  | 69 => ⟨S1x1x1x8, .f32⟩
  | 70 => ⟨S32x1x1x8, .f32⟩
  | 71 => ⟨S32x1x1x8, .f32⟩
  | 72 => ⟨S32x1x1x8, .f32⟩
  | 73 => ⟨S32x1x1x48, .f32⟩
  | 74 => ⟨S32x1x1x64, .f32⟩
  | 75 => ⟨S32x1x64, .f32⟩
  | 76 => ⟨S_, .f32⟩
  | 77 => ⟨S32x1x16x64, .f32⟩
  | 78 => ⟨S32x1x16x64, .f32⟩
  | 79 => ⟨S_, .f32⟩
  | 80 => ⟨S32x1x40, .f32⟩
  | 81 => ⟨S32x1x128, .f32⟩
  | 82 => ⟨S32x1024, .f32⟩
  | 83 => ⟨S32x256, .f32⟩
  | 84 => ⟨S32x256, .f32⟩
  | 85 => ⟨S32x512, .f32⟩
  | 86 => ⟨S32x512, .bf16⟩
  | 87 => ⟨S32x128, .f32⟩
  | 88 => ⟨S32x1024, .f32⟩
  | 89 => ⟨S32x2048, .f32⟩
  | 90 => ⟨S32x1024, .f32⟩
  | 91 => ⟨S32x1024, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_6 : Ref sig .tc := ⟨.hbm, 88, rfl⟩
abbrev main_v75 : Ref sig .tc := ⟨.hbm, 89, rfl⟩
abbrev main_v76 : Ref sig .tc := ⟨.hbm, 90, rfl⟩
abbrev main_cst_7 : Ref sig .tc := ⟨.hbm, 91, rfl⟩
abbrev main_v77 : Ref sig .tc := ⟨.hbm, 92, rfl⟩
abbrev main_v78 : Ref sig .tc := ⟨.hbm, 93, rfl⟩
abbrev main_cst_8 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_9 : Ref sig .tc := ⟨.hbm, 128, rfl⟩
abbrev main_v112 : Ref sig .tc := ⟨.hbm, 129, rfl⟩
abbrev main_v113 : Ref sig .tc := ⟨.hbm, 130, rfl⟩
abbrev main_cst_10 : Ref sig .tc := ⟨.hbm, 131, rfl⟩
abbrev main_v114 : Ref sig .tc := ⟨.hbm, 132, rfl⟩
abbrev main_v115 : Ref sig .tc := ⟨.hbm, 133, rfl⟩
abbrev main_cst_11 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_cst_12 : Ref sig .tc := ⟨.hbm, 167, rfl⟩
abbrev main_v148 : Ref sig .tc := ⟨.hbm, 168, rfl⟩
abbrev main_v149 : Ref sig .tc := ⟨.hbm, 169, rfl⟩
abbrev main_cst_13 : Ref sig .tc := ⟨.hbm, 170, rfl⟩
abbrev main_v150 : Ref sig .tc := ⟨.hbm, 171, rfl⟩
abbrev main_v151 : Ref sig .tc := ⟨.hbm, 172, rfl⟩
abbrev main_cst_14 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_cst_15 : Ref sig .tc := ⟨.hbm, 204, rfl⟩
abbrev main_v182 : Ref sig .tc := ⟨.hbm, 205, rfl⟩
abbrev main_v183 : Ref sig .tc := ⟨.hbm, 206, rfl⟩
abbrev main_cst_16 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩

abbrev nD : Nat := 1
abbrev τ : Topo := Topo.v7x

variable {F : FTy → Type} [FloatOps F]
-- ==== Step.lean ====
abbrev S32x2048 : Shape := ⟨2, ![32, 2048]⟩
abbrev S1x32x3x2048 : Shape := ⟨4, ![1, 32, 3, 2048]⟩
abbrev S32x128 : Shape := ⟨2, ![32, 128]⟩
abbrev S32x1024 : Shape := ⟨2, ![32, 1024]⟩
abbrev S1x32x16x64x128 : Shape := ⟨5, ![1, 32, 16, 64, 128]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S_ : Shape := ⟨0, ![]⟩
abbrev S128 : Shape := ⟨1, ![128]⟩
abbrev S16 : Shape := ⟨1, ![16]⟩
abbrev S1 : Shape := ⟨1, ![1]⟩
abbrev S1x128 : Shape := ⟨2, ![1, 128]⟩
abbrev S128x1024 : Shape := ⟨2, ![128, 1024]⟩
abbrev S16x16 : Shape := ⟨2, ![16, 16]⟩
abbrev S16x16x64 : Shape := ⟨3, ![16, 16, 64]⟩
abbrev S16x1024 : Shape := ⟨2, ![16, 1024]⟩
abbrev S16x64 : Shape := ⟨2, ![16, 64]⟩
abbrev S1024 : Shape := ⟨1, ![1024]⟩
abbrev S4x2048 : Shape := ⟨2, ![4, 2048]⟩
abbrev S2048 : Shape := ⟨1, ![2048]⟩
abbrev S32x1x2048 : Shape := ⟨3, ![32, 1, 2048]⟩
abbrev S32x3x2048 : Shape := ⟨3, ![32, 3, 2048]⟩
abbrev S32x1x128 : Shape := ⟨3, ![32, 1, 128]⟩
abbrev S32x1x1024 : Shape := ⟨3, ![32, 1, 1024]⟩
abbrev S32x16x64x128 : Shape := ⟨4, ![32, 16, 64, 128]⟩
abbrev S1x1x2048 : Shape := ⟨3, ![1, 1, 2048]⟩
abbrev S1x3x2048 : Shape := ⟨3, ![1, 3, 2048]⟩
abbrev S1x1x128 : Shape := ⟨3, ![1, 1, 128]⟩
abbrev S1x1x1024 : Shape := ⟨3, ![1, 1, 1024]⟩
abbrev S1x16x64x128 : Shape := ⟨4, ![1, 16, 64, 128]⟩
abbrev S3x2048 : Shape := ⟨2, ![3, 2048]⟩
abbrev S1x512 : Shape := ⟨2, ![1, 512]⟩
abbrev S6x128 : Shape := ⟨2, ![6, 128]⟩
abbrev S8x128 : Shape := ⟨2, ![8, 128]⟩
abbrev S8x1024 : Shape := ⟨2, ![8, 1024]⟩
abbrev S126x1024 : Shape := ⟨2, ![126, 1024]⟩
abbrev S1024x128 : Shape := ⟨2, ![1024, 128]⟩
abbrev S15x128 : Shape := ⟨2, ![15, 128]⟩
abbrev S1x4x64x128 : Shape := ⟨4, ![1, 4, 64, 128]⟩
abbrev S4x64x128 : Shape := ⟨3, ![4, 64, 128]⟩
abbrev S256x128 : Shape := ⟨2, ![256, 128]⟩
abbrev S256x1 : Shape := ⟨2, ![256, 1]⟩
abbrev S16x128 : Shape := ⟨2, ![16, 128]⟩
abbrev S16x256 : Shape := ⟨2, ![16, 256]⟩
abbrev S1x256 : Shape := ⟨2, ![1, 256]⟩
abbrev S1x1 : Shape := ⟨2, ![1, 1]⟩

abbrev nBuf : Space → Nat
  | .hbm => 54
  | .vmem => 21
  | .smem => 0
  | _ => 0

abbrev bufTy : (tb : Table) → Fin (tcTables nBuf tb) → BufTy
  | .hbm, ⟨0, _⟩ => ⟨S32x2048, .f32⟩
  | .hbm, ⟨1, _⟩ => ⟨S1x32x3x2048, .f32⟩
  | .hbm, ⟨2, _⟩ => ⟨S32x128, .f32⟩
  | .hbm, ⟨3, _⟩ => ⟨S32x1024, .f32⟩
  | .hbm, ⟨4, _⟩ => ⟨S1x32x16x64x128, .f32⟩
  | .hbm, ⟨5, _⟩ => ⟨S1x4x2048, .f32⟩
  | .hbm, ⟨6, _⟩ => ⟨S1x2048, .f32⟩
  | .hbm, ⟨7, _⟩ => ⟨S1x16, .f32⟩
  | .hbm, ⟨8, _⟩ => ⟨S1x16, .f32⟩
  | .hbm, ⟨9, _⟩ => ⟨S1x16, .f32⟩
  | .hbm, ⟨10, _⟩ => ⟨S1x1024, .f32⟩
  | .hbm, ⟨11, _⟩ => ⟨S_, .f32⟩
  | .hbm, ⟨12, _⟩ => ⟨S128, .f32⟩
  | .hbm, ⟨13, _⟩ => ⟨S16, .f32⟩
  | .hbm, ⟨14, _⟩ => ⟨S_, .i32⟩
  | .hbm, ⟨15, _⟩ => ⟨S1, .i32⟩
  | .hbm, ⟨16, _⟩ => ⟨S128, .f32⟩
  | .hbm, ⟨17, _⟩ => ⟨S1x128, .f32⟩
  | .hbm, ⟨18, _⟩ => ⟨S16, .f32⟩
  | .hbm, ⟨19, _⟩ => ⟨S_, .i32⟩
  | .hbm, ⟨20, _⟩ => ⟨S1, .i32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S128x1024, .f32⟩
  | .hbm, ⟨25, _⟩ => ⟨S16x16, .i32⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .i1⟩
  | .hbm, ⟨31, _⟩ => ⟨S16x16, .f32⟩
  | .hbm, ⟨32, _⟩ => ⟨S16x16x64, .f32⟩
  | .hbm, ⟨33, _⟩ => ⟨S16x1024, .f32⟩
  | .hbm, ⟨34, _⟩ => ⟨S_, .i32⟩
  | .hbm, ⟨35, _⟩ => ⟨S1, .i32⟩
  | .hbm, ⟨36, _⟩ => ⟨S128x1024, .f32⟩
  | .hbm, ⟨37, _⟩ => ⟨S128x1024, .bf16⟩
  | .hbm, ⟨38, _⟩ => ⟨S16, .f32⟩
  | .hbm, ⟨39, _⟩ => ⟨S16x64, .f32⟩
  | .hbm, ⟨40, _⟩ => ⟨S1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S4x2048, .f32⟩
  | .hbm, ⟨45, _⟩ => ⟨S2048, .f32⟩
  | .hbm, ⟨46, _⟩ => ⟨S1x2048, .f32⟩
  | .hbm, ⟨47, _⟩ => ⟨S32x1x2048, .f32⟩
  | .hbm, ⟨48, _⟩ => ⟨S32x3x2048, .f32⟩
  | .hbm, ⟨49, _⟩ => ⟨S32x1x128, .f32⟩
  | .hbm, ⟨50, _⟩ => ⟨S32x1x1024, .f32⟩
  | .hbm, ⟨51, _⟩ => ⟨S32x16x64x128, .f32⟩
  | .hbm, ⟨52, _⟩ => ⟨S32x1x1024, .f32⟩
  | .hbm, ⟨53, _⟩ => ⟨S32x16x64x128, .f32⟩
  | .local _ .vmem, ⟨0, _⟩ => ⟨S1x1x2048, .f32⟩
  | .local _ .vmem, ⟨1, _⟩ => ⟨S1x1x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x1x128, .f32⟩
  | .local _ .vmem, ⟨5, _⟩ => ⟨S1x1x128, .f32⟩
  | .local _ .vmem, ⟨6, _⟩ => ⟨S1x1x1024, .f32⟩
  | .local _ .vmem, ⟨7, _⟩ => ⟨S1x1x1024, .f32⟩
  | .local _ .vmem, ⟨8, _⟩ => ⟨S1x16x64x128, .f32⟩
  | .local _ .vmem, ⟨9, _⟩ => ⟨S1x16x64x128, .f32⟩
  | .local _ .vmem, ⟨10, _⟩ => ⟨S4x2048, .f32⟩
  | .local _ .vmem, ⟨11, _⟩ => ⟨S1x2048, .f32⟩
  | .local _ .vmem, ⟨12, _⟩ => ⟨S1x128, .f32⟩
  | .local _ .vmem, ⟨13, _⟩ => ⟨S1x128, .f32⟩
  | .local _ .vmem, ⟨14, _⟩ => ⟨S128x1024, .bf16⟩
  | .local _ .vmem, ⟨15, _⟩ => ⟨S1x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x16x64x128, .f32⟩
  | .local _ .vmem, ⟨20, _⟩ => ⟨S1x16x64x128, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== StepRefIdeal.lean ====
abbrev S32x2048 : Shape := ⟨2, ![32, 2048]⟩
abbrev S1x32x3x2048 : Shape := ⟨4, ![1, 32, 3, 2048]⟩
abbrev S32x128 : Shape := ⟨2, ![32, 128]⟩
abbrev S32x1024 : Shape := ⟨2, ![32, 1024]⟩
abbrev S1x32x16x64x128 : Shape := ⟨5, ![1, 32, 16, 64, 128]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S32x3x2048 : Shape := ⟨3, ![32, 3, 2048]⟩
abbrev S32x1x2048 : Shape := ⟨3, ![32, 1, 2048]⟩
abbrev S32x4x2048 : Shape := ⟨3, ![32, 4, 2048]⟩
abbrev S1x1x2048 : Shape := ⟨3, ![1, 1, 2048]⟩
abbrev S2048 : Shape := ⟨1, ![2048]⟩
abbrev S_ : Shape := ⟨0, ![]⟩
abbrev S32x4x4x64 : Shape := ⟨4, ![32, 4, 4, 64]⟩
abbrev S32x512 : Shape := ⟨2, ![32, 512]⟩
abbrev S32x4x128 : Shape := ⟨3, ![32, 4, 128]⟩
abbrev S32x16 : Shape := ⟨2, ![32, 16]⟩
abbrev S16 : Shape := ⟨1, ![16]⟩
abbrev S32x4x4 : Shape := ⟨3, ![32, 4, 4]⟩
abbrev S32x4x4x1 : Shape := ⟨4, ![32, 4, 4, 1]⟩
abbrev S32x16x64x128 : Shape := ⟨4, ![32, 16, 64, 128]⟩
abbrev S32x4x4x64x128 : Shape := ⟨5, ![32, 4, 4, 64, 128]⟩
abbrev S32x4x4x1x1 : Shape := ⟨5, ![32, 4, 4, 1, 1]⟩
abbrev S32x4x4x64x1 : Shape := ⟨5, ![32, 4, 4, 64, 1]⟩
abbrev S32x4x1x1x128 : Shape := ⟨5, ![32, 4, 1, 1, 128]⟩
abbrev S4x4 : Shape := ⟨2, ![4, 4]⟩
abbrev S4x4x1 : Shape := ⟨3, ![4, 4, 1]⟩
abbrev S1x4x4x1 : Shape := ⟨4, ![1, 4, 4, 1]⟩
abbrev S32x1x4x256 : Shape := ⟨4, ![32, 1, 4, 256]⟩
abbrev S32x1x4 : Shape := ⟨3, ![32, 1, 4]⟩
abbrev S32x1x4x1 : Shape := ⟨4, ![32, 1, 4, 1]⟩
abbrev S32x1x1024 : Shape := ⟨3, ![32, 1, 1024]⟩
abbrev S1024 : Shape := ⟨1, ![1024]⟩
abbrev S1x1x1024 : Shape := ⟨3, ![1, 1, 1024]⟩

abbrev nBuf : Space → Nat
  | .hbm => 145
  | .vmem => 0
  | .smem => 0
  | _ => 0

abbrev hbmTy0_0 (i : Nat) : BufTy := match i % 128 with
  | 0 => ⟨S32x2048, .f32⟩
  | 1 => ⟨S1x32x3x2048, .f32⟩
  | 2 => ⟨S32x128, .f32⟩
  | 3 => ⟨S32x1024, .f32⟩
  | 4 => ⟨S1x32x16x64x128, .f32⟩
  | 5 => ⟨S1x4x2048, .f32⟩
  | 6 => ⟨S1x2048, .f32⟩
  | 7 => ⟨S1x16, .f32⟩
  | 8 => ⟨S1x16, .f32⟩
  | 9 => ⟨S1x16, .f32⟩
  | 10 => ⟨S1x1024, .f32⟩
  | 11 => ⟨S32x3x2048, .f32⟩
  | 12 => ⟨S32x1x2048, .f32⟩
  | 13 => ⟨S32x4x2048, .f32⟩
  | 14 => ⟨S32x1x2048, .f32⟩
  | 15 => ⟨S32x2048, .f32⟩
  | 16 => ⟨S1x1x2048, .f32⟩
  | 17 => ⟨S2048, .f32⟩
  | 18 => ⟨S1x2048, .f32⟩
  | 19 => ⟨S32x2048, .f32⟩
  | 20 => ⟨S32x2048, .f32⟩
  | 21 => ⟨S32x1x2048, .f32⟩
  | 22 => ⟨S32x2048, .f32⟩
  | 23 => ⟨S1x1x2048, .f32⟩
  | 24 => ⟨S2048, .f32⟩
  | 25 => ⟨S1x2048, .f32⟩
  | 26 => ⟨S32x2048, .f32⟩
  | 27 => ⟨S32x2048, .f32⟩
  | 28 => ⟨S32x2048, .f32⟩
  | 29 => ⟨S32x1x2048, .f32⟩
  | 30 => ⟨S32x2048, .f32⟩
  | 31 => ⟨S1x1x2048, .f32⟩
  | 32 => ⟨S2048, .f32⟩
  | 33 => ⟨S1x2048, .f32⟩
  | 34 => ⟨S32x2048, .f32⟩
  | 35 => ⟨S32x2048, .f32⟩
  | 36 => ⟨S32x2048, .f32⟩
  | 37 => ⟨S32x1x2048, .f32⟩
  | 38 => ⟨S32x2048, .f32⟩
  | 39 => ⟨S1x1x2048, .f32⟩
  | 40 => ⟨S2048, .f32⟩
  | 41 => ⟨S1x2048, .f32⟩
  | 42 => ⟨S32x2048, .f32⟩
  | 43 => ⟨S32x2048, .f32⟩
  | 44 => ⟨S32x2048, .f32⟩
  | 45 => ⟨S2048, .f32⟩
  | 46 => ⟨S1x2048, .f32⟩
  | 47 => ⟨S32x2048, .f32⟩
  | 48 => ⟨S32x2048, .f32⟩
  | 49 => ⟨S32x2048, .f32⟩
  | 50 => ⟨S32x2048, .f32⟩
  | 51 => ⟨S_, .f32⟩
  | 52 => ⟨S32x2048, .f32⟩
  | 53 => ⟨S32x2048, .f32⟩
  | 54 => ⟨S_, .f32⟩
  | 55 => ⟨S32x2048, .f32⟩
  | 56 => ⟨S32x2048, .f32⟩
  | 57 => ⟨S32x2048, .f32⟩
  | 58 => ⟨S32x1024, .f32⟩
  | 59 => ⟨S32x4x4x64, .f32⟩
  | 60 => ⟨S32x512, .f32⟩
  | 61 => ⟨S32x4x128, .f32⟩
  | 62 => ⟨S32x512, .f32⟩
  | 63 => ⟨S32x4x128, .f32⟩
  | 64 => ⟨S32x16, .f32⟩
  | 65 => ⟨S16, .f32⟩
  | 66 => ⟨S1x16, .f32⟩
  | 67 => ⟨S32x16, .f32⟩
  | 68 => ⟨S32x16, .f32⟩
  | 69 => ⟨S_, .f32⟩
  | 70 => ⟨S32x16, .f32⟩
  | 71 => ⟨S32x16, .f32⟩
  | 72 => ⟨S32x16, .f32⟩
  | 73 => ⟨S32x16, .f32⟩
  | 74 => ⟨S32x16, .i1⟩
  | 75 => ⟨S32x16, .f32⟩
  | 76 => ⟨S32x16, .f32⟩
  | 77 => ⟨S32x16, .f32⟩
  | 78 => ⟨S32x16, .f32⟩
  | 79 => ⟨S32x16, .f32⟩
  | 80 => ⟨S32x16, .f32⟩
  | 81 => ⟨S32x16, .f32⟩
  | 82 => ⟨S32x16, .f32⟩
  | 83 => ⟨S16, .f32⟩
  | 84 => ⟨S16, .f32⟩
  | 85 => ⟨S16, .f32⟩
  | 86 => ⟨S1x16, .f32⟩
  | 87 => ⟨S32x16, .f32⟩
  | 88 => ⟨S32x16, .f32⟩
  | 89 => ⟨S32x16, .f32⟩
  | 90 => ⟨S32x4x4, .f32⟩
  | 91 => ⟨S32x4x4, .f32⟩
  | 92 => ⟨S32x4x4x1, .f32⟩
  | 93 => ⟨S32x4x4x64, .f32⟩
  | 94 => ⟨S32x4x4x64, .f32⟩
  | 95 => ⟨S32x16x64x128, .f32⟩
  | 96 => ⟨S32x4x4x64x128, .f32⟩
  | 97 => ⟨S32x4x4x1x1, .f32⟩
  | 98 => ⟨S32x4x4x64x128, .f32⟩
  | 99 => ⟨S32x4x4x64x128, .f32⟩
  | 100 => ⟨S32x4x4x64x1, .f32⟩
  | 101 => ⟨S32x4x1x1x128, .f32⟩
  | 102 => ⟨S32x4x4x64x128, .f32⟩
  | 103 => ⟨S32x4x4x64x128, .f32⟩
  | 104 => ⟨S32x4x4x64x128, .f32⟩
  | 105 => ⟨S32x4x4x64x128, .f32⟩
  | 106 => ⟨S32x4x4x64, .f32⟩
  | 107 => ⟨S16, .f32⟩
  | 108 => ⟨S4x4, .f32⟩
  | 109 => ⟨S4x4x1, .f32⟩
  | 110 => ⟨S1x4x4x1, .f32⟩
  | 111 => ⟨S32x4x4x64, .f32⟩
  | 112 => ⟨S32x4x4x64, .f32⟩
  | 113 => ⟨S32x4x4x64, .f32⟩
  | 114 => ⟨S32x1024, .f32⟩
  | 115 => ⟨S32x1024, .f32⟩
  | 116 => ⟨S32x1024, .f32⟩
  | 117 => ⟨S_, .f32⟩
  | 118 => ⟨S32x1024, .f32⟩
  | 119 => ⟨S32x1024, .f32⟩
  | 120 => ⟨S_, .f32⟩
  | 121 => ⟨S32x1024, .f32⟩
  | 122 => ⟨S32x1024, .f32⟩
  | 123 => ⟨S32x1024, .f32⟩
  | 124 => ⟨S32x1024, .f32⟩
  | 125 => ⟨S32x1x4x256, .f32⟩
  | 126 => ⟨S32x1x4x256, .f32⟩
  | 127 => ⟨S_, .f32⟩
  | _ => ⟨S32x2048, .f32⟩

abbrev hbmTy0_1 (i : Nat) : BufTy := match i % 128 with
  | 0 => ⟨S32x1x4, .f32⟩
  | 1 => ⟨S32x1x4x1, .f32⟩
  | 2 => ⟨S_, .f32⟩
  | 3 => ⟨S32x1x4x1, .f32⟩
  | 4 => ⟨S32x1x4x1, .f32⟩
  | 5 => ⟨S_, .f32⟩
  | 6 => ⟨S32x1x4x1, .f32⟩
  | 7 => ⟨S32x1x4x1, .f32⟩
  | 8 => ⟨S32x1x4x1, .f32⟩
  | 9 => ⟨S32x1x4x256, .f32⟩
  | 10 => ⟨S32x1x4x256, .f32⟩
  | 11 => ⟨S32x1x1024, .f32⟩
  | 12 => ⟨S1024, .f32⟩
  | 13 => ⟨S1x1x1024, .f32⟩
  | 14 => ⟨S32x1x1024, .f32⟩
  | 15 => ⟨S32x1x1024, .f32⟩
  | 16 => ⟨S32x16x64x128, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_call2_v5 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst : Ref sig .tc := ⟨.hbm, 127, rfl⟩
abbrev main_v87 : Ref sig .tc := ⟨.hbm, 128, rfl⟩
abbrev main_v88 : Ref sig .tc := ⟨.hbm, 129, rfl⟩
abbrev main_cst_0 : Ref sig .tc := ⟨.hbm, 130, rfl⟩
abbrev main_v89 : Ref sig .tc := ⟨.hbm, 131, rfl⟩
abbrev main_v90 : Ref sig .tc := ⟨.hbm, 132, rfl⟩
abbrev main_cst_1 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩

abbrev nD : Nat := 1
abbrev τ : Topo := Topo.v7x

variable {F : FTy → Type} [FloatOps F]
-- ==== Proof.Mlp.Rows.lean ====
/- The merge and the feed-forward block of one token, as functions of the token's rows over the extended reals. -/
module

public import proofs.«01_k».proof.Proof.Gen.MlpIdeal.Frame
public import Idealize.ShloMosaic.Lib.Pointwise
public import Idealize.ShloMosaic.Lib.Pipeline.ValueKit

@[expose] public section

noncomputable section

namespace Cert.Mlp

open Idealize.ShloMosaic

/-- One entry per model coordinate. -/
abbrev Row := Fin 1024 → EReal

/-- The logistic function. -/
def sg (x : EReal) : EReal := Ideal.div 1 (1 + Ideal.exp (-x))

/-- A row divided by the root of its mean square (1024 entries) and scaled by `w`. -/
def nrm (v w : Row) : Row := fun d =>
  v d * Ideal.rsqrt (Ideal.div (∑ k, v k * v k) (Ideal.ofBits .f32 0x44800000#32) + Ideal.ofBits .f32 0x358637BD#32) * w d

/-- The residual after the attention and the recurrence have been gated, merged and projected. -/
def mid (x att y ga gs gt : Row) (wo : Fin 1024 → Row) : Row := fun d =>
  x d + gt d * ∑ k, (sg (ga k) * att k + sg (gs k) * y k) * wo k d

/-- The modulated norm of the residual. -/
def hid (v w sc sh : Row) : Row := fun d => nrm v w d * (1 + sc d) + sh d

/-- The square of the positive part of one column of the up-projection. -/
def up (h : Row) (wu : Fin 1024 → EReal) : EReal := max (∑ k, h k * wu k) 0 * max (∑ k, h k * wu k) 0

/-- The residual after the feed-forward block. -/
def res (v h gt : Row) (wu : Fin 1024 → Fin 4096 → EReal) (wd : Fin 4096 → Row) : Row := fun d =>
  v d + gt d * ∑ f, up h (fun k => wu k f) * wd f d

/-- The token's row of the block's output. -/
def out (x att y ga gs gt1 sc sh gt2 n2 fn : Row) (wo : Fin 1024 → Row) (wu : Fin 1024 → Fin 4096 → EReal)
    (wd : Fin 4096 → Row) : Row :=
  nrm (res (mid x att y ga gs gt1 wo) (hid (mid x att y ga gs gt1 wo) n2 sc sh) gt2 wu wd) fn

end Cert.Mlp
-- ==== Proof.Mlp.Block.lean ====
/- What one grid point of the feed-forward call computes, row by row. -/
module

public import proofs.«01_k».proof.Proof.Mlp.Rows

@[expose] public section

set_option maxRecDepth 16384

noncomputable section

namespace Cert.MlpIdeal.Block

open Idealize.ShloMosaic Idealize.ShloMosaic.TcCoe Idealize.SL.Sem
open Cert.MlpIdeal Cert.MlpIdeal.Gen
open Cert.Mlp

/-- The residual of the first half, at one entry of the block. -/
theorem pay2_at (ga att gs y x : Vec Ideal S256x1024 .f32) (gt : Vec Ideal S1x1x1024 .f32)
    (wo : Vec Ideal S1024x1024 .bf16) (r : Fin 256) (d : Fin 1024) :
    k0_pay2 ga att gs y x gt wo (ix2 r d) =
      mid (fun k => x (ix2 r k)) (fun k => att (ix2 r k)) (fun k => y (ix2 r k)) (fun k => ga (ix2 r k))
        (fun k => gs (ix2 r k)) (fun k => gt (ix3 0 0 k)) (fun k e => wo (ix2 k e)) d := by
  pointwise [k0_pay2, mid, sg]
  simp only [zero_sub]

/-- The sum of squares of a row of that residual. -/
theorem pay3_at (ga att gs y x : Vec Ideal S256x1024 .f32) (gt : Vec Ideal S1x1x1024 .f32)
    (wo : Vec Ideal S1024x1024 .bf16) (r : Fin 256) (z : Fin 1) :
    k0_pay3 ga att gs y x gt wo (ix2 r z) = ∑ k, k0_pay2 ga att gs y x gt wo (ix2 r k) * k0_pay2 ga att gs y x gt wo (ix2 r k) := by
  pointwise [k0_pay3]

/-- The modulated norm of a residual whose sums of squares are `q`. -/
theorem pay4_at (v : Vec Ideal S256x1024 .f32) (q : Vec Ideal S256x1 .f32) (w : Vec Ideal S1x1024 .f32)
    (sc sh : Vec Ideal S1x1x1024 .f32) (r : Fin 256) (hq : q (ix2 r 0) = ∑ k, v (ix2 r k) * v (ix2 r k)) (d : Fin 1024) :
    k0_pay4 (F := Ideal) v q (Scalar.ofBits .f32 0x44800000#32) w sc sh (ix2 r d) =
      hid (fun k => v (ix2 r k)) (fun k => w (ix2 0 k)) (fun k => sc (ix3 0 0 k)) (fun k => sh (ix3 0 0 k)) d := by
  pointwise [k0_pay4, hid, nrm]
  rw [hq]

/-- The first quarter of the feed-forward sum. -/
theorem pay5_at (v : Vec Ideal S256x1024 .f32) (q : Vec Ideal S256x1 .f32) (C : EReal) (w : Vec Ideal S1x1024 .f32)
    (sc sh : Vec Ideal S1x1x1024 .f32) (wu wd : Vec Ideal S1024x1024 .bf16) (r : Fin 256) (d : Fin 1024) :
    k0_pay5 (F := Ideal) v q C w sc sh wu wd (ix2 r d) =
      ∑ f, up (fun k => k0_pay4 (F := Ideal) v q C w sc sh (ix2 r k)) (fun k => wu (ix2 k f)) * wd (ix2 f d) := by
  pointwise [k0_pay5, up]

/-- The second quarter's up-projection. -/
theorem pay6_at (v : Vec Ideal S256x1024 .f32) (q : Vec Ideal S256x1 .f32) (C : EReal) (w : Vec Ideal S1x1024 .f32)
    (sc sh : Vec Ideal S1x1x1024 .f32) (wu : Vec Ideal S1024x1024 .bf16) (r : Fin 256) (d : Fin 1024) :
    k0_pay6 (F := Ideal) v q C w sc sh wu (ix2 r d) = ∑ k, k0_pay4 (F := Ideal) v q C w sc sh (ix2 r k) * wu (ix2 k d) := by
  pointwise [k0_pay6]

/-- The residual of the second half: the four quarters added one after another. -/
theorem pay8_at (v : Vec Ideal S256x1024 .f32) (h : Vec Ideal S256x1024 .bf16) (a u : Vec Ideal S256x1024 .f32)
    (d1 u2 d2 u3 d3 : Vec Ideal S1024x1024 .bf16) (gt : Vec Ideal S1x1x1024 .f32) (u1 : Vec Ideal S1024x1024 .bf16)
    (r : Fin 256) (hu : ∀ f, u (ix2 r f) = ∑ k, h (ix2 r k) * u1 (ix2 k f)) (d : Fin 1024) :
    k0_pay8 (F := Ideal) v h a u k0_pay7 d1 u2 d2 u3 d3 gt (ix2 r d) =
      v (ix2 r d) + gt (ix3 0 0 d) *
        (a (ix2 r d) + ∑ f, up (fun k => h (ix2 r k)) (fun k => u1 (ix2 k f)) * d1 (ix2 f d)
          + ∑ f, up (fun k => h (ix2 r k)) (fun k => u2 (ix2 k f)) * d2 (ix2 f d)
          + ∑ f, up (fun k => h (ix2 r k)) (fun k => u3 (ix2 k f)) * d3 (ix2 f d)) := by
  pointwise [k0_pay8, k0_pay7, up]
  simp only [hu]

/-- The sum of squares of a row of that residual. -/
theorem pay9_at (v : Vec Ideal S256x1024 .f32) (h : Vec Ideal S256x1024 .bf16) (a u e : Vec Ideal S256x1024 .f32)
    (d1 u2 d2 u3 d3 : Vec Ideal S1024x1024 .bf16) (gt : Vec Ideal S1x1x1024 .f32) (r : Fin 256) (z : Fin 1) :
    k0_pay9 (F := Ideal) v h a u e d1 u2 d2 u3 d3 gt (ix2 r z) =
      ∑ k, k0_pay8 (F := Ideal) v h a u e d1 u2 d2 u3 d3 gt (ix2 r k) * k0_pay8 (F := Ideal) v h a u e d1 u2 d2 u3 d3 gt (ix2 r k) := by
  pointwise [k0_pay9]

/-- The closing norm of a residual whose sums of squares are `q`. -/
theorem pay1_at (v : Vec Ideal S256x1024 .f32) (q : Vec Ideal S256x1 .f32) (w : Vec Ideal S1x1024 .f32) (r : Fin 256)
    (hq : q (ix2 r 0) = ∑ k, v (ix2 r k) * v (ix2 r k)) (d : Fin 1024) :
    k0_pay1 (F := Ideal) v q k0_pay10 w (ix2 r d) = nrm (fun k => v (ix2 r k)) (fun k => w (ix2 0 k)) d := by
  pointwise [k0_pay1, k0_pay10, nrm]
  rw [hq]

/-- Four quarters of a sum over the 4096 hidden coordinates. -/
theorem quarters (g : Fin 4096 → EReal) :
    ∑ f, g f = ∑ f : Fin 1024, g ⟨f, by omega⟩ + ∑ f : Fin 1024, g ⟨1024 + f, by omega⟩
      + ∑ f : Fin 1024, g ⟨2048 + f, by omega⟩ + ∑ f : Fin 1024, g ⟨3072 + f, by omega⟩ := by
  rw [Fin.sum_univ_tiles 4 1024 rfl g, Fin.sum_univ_four]
  simp

/-- Column `f` of the piece of the up-projection that starts at column `a`. -/
theorem ldU (x : Vec Ideal S1024x4096 .bf16) (a : ℕ) (h : ∀ k, ![0, a] k + S1024x1024.size k ≤ S1024x4096.size k) (k f : Fin 1024) (ha : a + f < 4096) :
    View.ld x (Rect.unit (s := S1024x4096) ![0, a] S1024x1024.size h) (ix2 k f) = x (ix2 k ⟨a + f, ha⟩) := by
  rw [View.ld_apply]; congr 1; funext i; apply Fin.ext; fin_cases i <;> simp

/-- Row `f` of the piece of the down-projection that starts at row `a`. -/
theorem ldD (x : Vec Ideal S4096x1024 .bf16) (a : ℕ) (h : ∀ k, ![a, 0] k + S1024x1024.size k ≤ S4096x1024.size k) (f d : Fin 1024) (ha : a + f < 4096) :
    View.ld x (Rect.unit (s := S4096x1024) ![a, 0] S1024x1024.size h) (ix2 f d) = x (ix2 ⟨a + f, ha⟩ d) := by
  rw [View.ld_apply]; congr 1; funext i; apply Fin.ext; fin_cases i <;> simp

section
variable (x0 x1 x2 x3 x4 : Vec Ideal S256x1024 .f32) (x5 x6 x7 x8 : Vec Ideal S1x1x1024 .f32)
    (x9 x10 : Vec Ideal S1x1024 .f32) (x11 : Vec Ideal S1024x1024 .bf16) (x12 : Vec Ideal S1024x4096 .bf16)
    (x13 : Vec Ideal S4096x1024 .bf16)

/-- The residual row of the first half, of the windows' blocks. -/
abbrev midAt (r : Fin 256) : Row :=
  mid (fun k => x0 (ix2 r k)) (fun k => x1 (ix2 r k)) (fun k => x2 (ix2 r k)) (fun k => x3 (ix2 r k))
    (fun k => x4 (ix2 r k)) (fun k => x5 (ix3 0 0 k)) (fun k e => x11 (ix2 k e))

/-- The hidden row, of the windows' blocks. -/
abbrev hidAt (r : Fin 256) : Row :=
  hid (midAt x0 x1 x2 x3 x4 x5 x11 r) (fun k => x9 (ix2 0 k)) (fun k => x6 (ix3 0 0 k)) (fun k => x7 (ix3 0 0 k))

/-- The residual row of the second half, of the windows' blocks. -/
abbrev resAt (r : Fin 256) : Row :=
  res (midAt x0 x1 x2 x3 x4 x5 x11 r) (hidAt x0 x1 x2 x3 x4 x5 x6 x7 x9 x11 r) (fun k => x8 (ix3 0 0 k))
    (fun k e => x12 (ix2 k e)) (fun k e => x13 (ix2 k e))

theorem pay11_at (r : Fin 256) (d : Fin 1024) :
    k0_pay11 (F := Ideal) x0 x1 x2 x3 x4 x5 x6 x7 x8 x9 x10 x11 x12 x13 (ix2 r d) = midAt x0 x1 x2 x3 x4 x5 x11 r d := by
  simp (disch := decide) only [k0_pay11, View.ld_unit_lit']
  exact pay2_at ..

theorem pay12_at (r : Fin 256) :
    k0_pay12 (F := Ideal) x0 x1 x2 x3 x4 x5 x6 x7 x8 x9 x10 x11 x12 x13 (ix2 r 0) = ∑ k, k0_pay11 (F := Ideal) x0 x1 x2 x3 x4 x5 x6 x7 x8 x9 x10 x11 x12 x13 (ix2 r k) * k0_pay11 (F := Ideal) x0 x1 x2 x3 x4 x5 x6 x7 x8 x9 x10 x11 x12 x13 (ix2 r k) := by
  simp (disch := decide) only [k0_pay11, k0_pay12, View.ld_unit_lit']
  exact pay3_at ..

theorem pay13_at (r : Fin 256) (d : Fin 1024) :
    k0_pay13 (F := Ideal) x0 x1 x2 x3 x4 x5 x6 x7 x8 x9 x10 x11 x12 x13 (ix2 r d) = hidAt x0 x1 x2 x3 x4 x5 x6 x7 x9 x11 r d := by
  simp (disch := decide) only [k0_pay13, View.ld_unit_lit']
  rw [pay4_at _ _ _ _ _ _ (pay12_at x0 x1 x2 x3 x4 x5 x6 x7 x8 x9 x10 x11 x12 x13 r)]
  simp only [pay11_at]

theorem res_at (r : Fin 256) (d : Fin 1024) :
    k0_pay8 (F := Ideal) (k0_pay11 x0 x1 x2 x3 x4 x5 x6 x7 x8 x9 x10 x11 x12 x13) (k0_pay13 x0 x1 x2 x3 x4 x5 x6 x7 x8 x9 x10 x11 x12 x13) (k0_pay14 x0 x1 x2 x3 x4 x5 x6 x7 x8 x9 x10 x11 x12 x13) (k0_pay15 x0 x1 x2 x3 x4 x5 x6 x7 x8 x9 x10 x11 x12 x13) (k0_pay16 x0 x1 x2 x3 x4 x5 x6 x7 x8 x9 x10 x11 x12 x13)
      (View.ld x13 r0_7) (View.ld x12 r0_8) (View.ld x13 r0_9) (View.ld x12 r0_10) (View.ld x13 r0_11) x8 (ix2 r d) =
      resAt x0 x1 x2 x3 x4 x5 x6 x7 x8 x9 x11 x12 x13 r d := by
  have h16 : k0_pay16 (F := Ideal) x0 x1 x2 x3 x4 x5 x6 x7 x8 x9 x10 x11 x12 x13 = k0_pay7 := rfl
  have h15 : ∀ f, k0_pay15 (F := Ideal) x0 x1 x2 x3 x4 x5 x6 x7 x8 x9 x10 x11 x12 x13 (ix2 r f) = ∑ k, k0_pay13 (F := Ideal) x0 x1 x2 x3 x4 x5 x6 x7 x8 x9 x10 x11 x12 x13 (ix2 r k) * View.ld x12 r0_6 (ix2 k f) :=
    fun f => pay6_at _ _ _ _ _ _ _ r f
  have h14 : k0_pay14 (F := Ideal) x0 x1 x2 x3 x4 x5 x6 x7 x8 x9 x10 x11 x12 x13 (ix2 r d) =
      ∑ f, up (fun k => k0_pay13 (F := Ideal) x0 x1 x2 x3 x4 x5 x6 x7 x8 x9 x10 x11 x12 x13 (ix2 r k)) (fun k => View.ld x12 r0_4 (ix2 k f)) * View.ld x13 r0_5 (ix2 f d) :=
    pay5_at _ _ _ _ _ _ _ _ r d
  rw [h16, pay8_at _ _ _ _ _ _ _ _ _ _ _ r h15, h14, pay11_at]
  simp only [pay13_at]
  unfold resAt res
  rw [quarters]
  have e (a : ℕ) (hz : a ≤ 3072) (f : Fin 1024) : a + f.val < 4096 := by omega
  simp only [fun k f : Fin 1024 => ldU x12 0 (by decide) k f (e 0 (by decide) f), fun k f : Fin 1024 => ldU x12 1024 (by decide) k f (e _ (by decide) f),
    fun k f : Fin 1024 => ldU x12 2048 (by decide) k f (e _ (by decide) f), fun k f : Fin 1024 => ldU x12 3072 (by decide) k f (e _ (by decide) f),
    fun f : Fin 1024 => ldD x13 0 (by decide) f d (e 0 (by decide) f), fun f : Fin 1024 => ldD x13 1024 (by decide) f d (e _ (by decide) f),
    fun f : Fin 1024 => ldD x13 2048 (by decide) f d (e _ (by decide) f), fun f : Fin 1024 => ldD x13 3072 (by decide) f d (e _ (by decide) f), Nat.zero_add]

/-- What one grid point leaves in the output block, at one entry: the token's output row. -/
theorem out_at (r : Fin 256) (d : Fin 1024) :
    out0_14 (F := Ideal) x0 x1 x2 x3 x4 x5 x6 x7 x8 x9 x10 x11 x12 x13 (ix2 r d) =
      out (fun k => x0 (ix2 r k)) (fun k => x1 (ix2 r k)) (fun k => x2 (ix2 r k)) (fun k => x3 (ix2 r k))
        (fun k => x4 (ix2 r k)) (fun k => x5 (ix3 0 0 k)) (fun k => x6 (ix3 0 0 k)) (fun k => x7 (ix3 0 0 k))
        (fun k => x8 (ix3 0 0 k)) (fun k => x9 (ix2 0 k)) (fun k => x10 (ix2 0 k)) (fun k e => x11 (ix2 k e))
        (fun k e => x12 (ix2 k e)) (fun k e => x13 (ix2 k e)) d := by
  frame_out
  rw [pay1_at _ _ _ _ (pay9_at _ _ _ _ _ _ _ _ _ _ _ r 0)]
  simp only [res_at]
  rfl

end

end Cert.MlpIdeal.Block
-- ==== Proof.Mlp.Ref.lean ====
/- What the reference of the feed-forward call computes, row by row. -/
module

public import proofs.«01_k».proof.Proof.Mlp.Rows
public import proofs.«01_k».proof.Proof.Gen.MlpRefIdeal.Run

@[expose] public section

set_option maxRecDepth 16384

noncomputable section

namespace Cert.MlpRefIdeal.Stage

open Idealize.ShloMosaic Idealize.ShloMosaic.TcCoe Idealize.SL.Sem
open Cert.MlpRefIdeal Cert.MlpRefIdeal.Gen
open Cert.Mlp

abbrev V3 := FVec Ideal S2x8192x1024 .f32

/-- The logistic function of every entry. -/
def logis (g : V3) : V3 :=
  Host.divf (broadcastInDim S2x8192x1024 ![] bcast_S_S2x8192x1024 (constant S_ .f32 0x3F800000#32))
    (addf (broadcastInDim S2x8192x1024 ![] bcast_S_S2x8192x1024 (constant S_ .f32 0x3F800000#32)) (Host.exp (Host.negf g)))

/-- The residual of the first half. -/
def x1 (x att y ga gs : V3) (gt : FVec Ideal S2x1x1024 .f32) (wo : FVec Ideal S1024x1024 .f32) : V3 :=
  addf x (mulf (broadcastInDim S2x8192x1024 ![0, 1, 2] bcast_S2x1x1024_S2x8192x1024_0_1_2 gt)
    (Host.dotGeneral dot_S2x8192x1024_S1024x1024_S2x8192x1024_2_0_01_1_n_n none (addf (mulf (logis ga) att) (mulf (logis gs) y)) wo))

/-- The root-mean-square norm of every token. -/
def norm (x : V3) (w : FVec Ideal S1024 .f32) : V3 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 w))

/-- The modulated norm. -/
def h2 (x : V3) (w : FVec Ideal S1024 .f32) (sc sh : FVec Ideal S2x1x1024 .f32) : V3 :=
  addf (mulf (norm x w) (broadcastInDim S2x8192x1024 ![0, 1, 2] bcast_S2x1x1024_S2x8192x1024_0_1_2
      (addf (broadcastInDim S2x1x1024 ![] bcast_S_S2x1x1024 (constant S_ .f32 0x3F800000#32)) sc)))
    (broadcastInDim S2x8192x1024 ![0, 1, 2] bcast_S2x1x1024_S2x8192x1024_0_1_2 sh)

/-- The positive part of the up-projection. -/
def relu (h : V3) (wu : FVec Ideal S1024x4096 .f32) : FVec Ideal S2x8192x4096 .f32 :=
  maximumf (Host.dotGeneral dot_S2x8192x1024_S1024x4096_S2x8192x4096_2_0_01_1_n_n none h wu)
    (broadcastInDim S2x8192x4096 ![] bcast_S_S2x8192x4096 (constant S_ .f32 0x00000000#32))

/-- The residual of the second half. -/
def x2 (x h : V3) (gt : FVec Ideal S2x1x1024 .f32) (wu : FVec Ideal S1024x4096 .f32) (wd : FVec Ideal S4096x1024 .f32) : V3 :=
  addf x (mulf (broadcastInDim S2x8192x1024 ![0, 1, 2] bcast_S2x1x1024_S2x8192x1024_0_1_2 gt)
    (Host.dotGeneral dot_S2x8192x4096_S4096x1024_S2x8192x1024_2_0_01_1_n_n none (mulf (relu h wu) (relu h wu)) wd))

theorem x1_at (x att y ga gs : V3) (gt : FVec Ideal S2x1x1024 .f32) (wo : FVec Ideal S1024x1024 .f32) (b : Fin 2) (t : Fin 8192) (d : Fin 1024) :
    x1 x att y ga gs gt wo (ix3 b t d) =
      mid (fun k => x (ix3 b t k)) (fun k => att (ix3 b t k)) (fun k => y (ix3 b t k)) (fun k => ga (ix3 b t k))
        (fun k => gs (ix3 b t k)) (fun k => gt (ix3 b 0 k)) (fun k e => wo (ix2 k e)) d := by
  pointwise [x1, logis, mid, sg]

theorem norm_at (x : V3) (w : FVec Ideal S1024 .f32) (b : Fin 2) (t : Fin 8192) (d : Fin 1024) :
    norm x w (ix3 b t d) = nrm (fun k => x (ix3 b t k)) (fun k => w (ix1 k)) d := by
  pointwise [norm, nrm]

theorem h2_at (x : V3) (w : FVec Ideal S1024 .f32) (sc sh : FVec Ideal S2x1x1024 .f32) (b : Fin 2) (t : Fin 8192) (d : Fin 1024) :
    h2 x w sc sh (ix3 b t d) =
      hid (fun k => x (ix3 b t k)) (fun k => w (ix1 k)) (fun k => sc (ix3 b 0 k)) (fun k => sh (ix3 b 0 k)) d := by
  rw [hid, ← norm_at]
  pointwise [h2]

theorem x2_at (x h : V3) (gt : FVec Ideal S2x1x1024 .f32) (wu : FVec Ideal S1024x4096 .f32) (wd : FVec Ideal S4096x1024 .f32)
    (b : Fin 2) (t : Fin 8192) (d : Fin 1024) :
    x2 x h gt wu wd (ix3 b t d) =
      res (fun k => x (ix3 b t k)) (fun k => h (ix3 b t k)) (fun k => gt (ix3 b 0 k)) (fun k e => wu (ix2 k e)) (fun k e => wd (ix2 k e)) d := by
  pointwise [x2, relu, res, up]

/-- The result as one function of the arguments, index by index. -/
def REF (x : V3) (att y ga gs : FVec Ideal S16384x1024 .f32) (gt1 sc sh gt2 : FVec Ideal S2x1x1024 .f32) (n2 : FVec Ideal S1x1024 .f32)
    (fn : FVec Ideal S1024 .f32) (wo : FVec Ideal S1x1024x1024 .f32) (wu : FVec Ideal S1x1024x4096 .f32) (wd : FVec Ideal S1x4096x1024 .f32) :
    FVec Ideal S16384x1024 .f32 := fun i =>
  let R : Fin 16384 := i 0
  let b : Fin 2 := ⟨R / 8192, by omega⟩
  let t : Fin 8192 := ⟨R % 8192, by omega⟩
  out (fun k => x (ix3 b t k)) (fun k => att (ix2 R k)) (fun k => y (ix2 R k)) (fun k => ga (ix2 R k)) (fun k => gs (ix2 R k))
    (fun k => gt1 (ix3 b 0 k)) (fun k => sc (ix3 b 0 k)) (fun k => sh (ix3 b 0 k)) (fun k => gt2 (ix3 b 0 k)) (fun k => n2 (ix2 0 k))
    (fun k => fn (ix1 k)) (fun k e => wo (ix3 0 k e)) (fun k e => wu (ix3 0 k e)) (fun k e => wd (ix3 0 k e)) (i 1)

/-- The reference's operations, stage by stage. -/
def full (x : V3) (att y ga gs : FVec Ideal S16384x1024 .f32) (gt1 sc sh gt2 : FVec Ideal S2x1x1024 .f32) (n2 : FVec Ideal S1x1024 .f32)
    (fn : FVec Ideal S1024 .f32) (wo : FVec Ideal S1x1024x1024 .f32) (wu : FVec Ideal S1x1024x4096 .f32) (wd : FVec Ideal S1x4096x1024 .f32) : V3 :=
  let s : FVec Ideal S16384x1024 .f32 → V3 := fun a => shapeCast S2x8192x1024 a shapeCasts_S16384x1024_S2x8192x1024
  let v := x1 x (s att) (s y) (s ga) (s gs) gt1 (shapeCast _ wo shapeCasts_S1x1024x1024_S1024x1024)
  norm (x2 v (h2 v (shapeCast _ n2 shapeCasts_S1x1024_S1024) sc sh) gt2 (shapeCast _ wu shapeCasts_S1x1024x4096_S1024x4096)
      (shapeCast _ wd shapeCasts_S1x4096x1024_S4096x1024)) fn

theorem result_eq (m : (ℓ : Loc nD τ sig) → Buf (Elt Ideal) ℓ) (c : Dev nD) :
    Value.res_out0 m c = shapeCast S16384x1024 (full (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)))
      shapeCasts_S2x8192x1024_S16384x1024 := rfl

theorem full_eq (x : V3) (att y ga gs : FVec Ideal S16384x1024 .f32) (gt1 sc sh gt2 : FVec Ideal S2x1x1024 .f32) (n2 : FVec Ideal S1x1024 .f32)
    (fn : FVec Ideal S1024 .f32) (wo : FVec Ideal S1x1024x1024 .f32) (wu : FVec Ideal S1x1024x4096 .f32) (wd : FVec Ideal S1x4096x1024 .f32) :
    shapeCast S16384x1024 (full x att y ga gs gt1 sc sh gt2 n2 fn wo wu wd) shapeCasts_S2x8192x1024_S16384x1024 =
      REF x att y ga gs gt1 sc sh gt2 n2 fn wo wu wd := by
  funext i; idx_vars i
  unfold full REF out
  pointwise
  simp only [norm_at, x2_at, h2_at, x1_at]
  pointwise

end Cert.MlpRefIdeal.Stage
-- ==== Proof.Mlp.Final.lean ====
/- The feed-forward call's output array: the reference's function of the arguments. -/
module

public import proofs.«01_k».proof.Proof.Mlp.Block
public import proofs.«01_k».proof.Proof.Mlp.Ref
public import proofs.«01_k».proof.Proof.Gen.MlpIdeal.Value
public import Idealize.ShloMosaic.Lib.Claim

@[expose] public section

set_option maxRecDepth 16384

noncomputable section

namespace Cert.MlpIdeal.Final

open Idealize.ShloMosaic Idealize.ShloMosaic.TcCoe Idealize.SL.Sem
open Idealize.ShloMosaic.Pipeline (Dat)
open Cert.MlpIdeal Cert.MlpIdeal.Gen
open Cert.Mlp

variable (m : (ℓ : Loc nD τ sig) → Buf (Elt Ideal) ℓ) (c : Dev nD)

/-- Where each window's block lies: token blocks of 256 rows, the modulation of the batch, whole weights. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 32, 0, 0]
    ∧ win0_6.index t = ![t.val / 32, 0, 0] ∧ win0_7.index t = ![t.val / 32, 0, 0] ∧ win0_8.index t = ![t.val / 32, 0, 0]
    ∧ win0_9.index t = ![0, 0] ∧ win0_10.index t = ![0, 0] ∧ win0_11.index t = ![0, 0] ∧ win0_12.index t = ![0, 0]
    ∧ win0_13.index t = ![0, 0] ∧ win0_14.index t = ![t.val, 0] :=
  (by decide +kernel : ∀ t : Fin grid0.N, _)

/-- The token of row `r` of block `t`. -/
def tok (t : Fin cfg0.N) (r : Fin 256) : Fin 16384 := ⟨256 * t.val + r.val, by have := t.isLt; have : cfg0.N = 64 := rfl; omega⟩

/-- The output block of point `t`, entry by entry, in the array. -/
theorem emb14 (t : Fin cfg0.N) (r : Fin 256) (d : Fin 1024) : ((cfg0.win 14).blk t).view.emb (ix2 r d) = ix2 (tok t r) d := by
  blk_ext [idx t, tok]

/-! Each window's block, entry by entry, as an entry of its argument. -/

theorem rd0 (t : Fin cfg0.N) (r : Fin 256) (k : Fin 1024) (hb ht) : iblk m c 0 t (ix2 r k) =
    m ((c.tc : Thread nD τ).loc main_arg0) (ix3 ⟨(tok t r).val / 8192, hb⟩ ⟨(tok t r).val % 8192, ht⟩ k) := by
  blk_point [iblk, V, idx t, tok]
theorem rd1 (t : Fin cfg0.N) (r : Fin 256) (k : Fin 1024) : iblk m c 1 t (ix2 r k) = m ((c.tc : Thread nD τ).loc main_arg1) (ix2 (tok t r) k) := by
  blk_point [iblk, V, idx t, tok]
theorem rd5 (t : Fin cfg0.N) (r : Fin 256) (k : Fin 1024) (hb) : iblk m c 5 t (ix3 0 0 k) =
    m ((c.tc : Thread nD τ).loc main_arg5) (ix3 ⟨(tok t r).val / 8192, hb⟩ 0 k) := by
  blk_point [iblk, V, idx t, tok]
theorem rd9 (t : Fin cfg0.N) (k : Fin 1024) : iblk m c 9 t (ix2 0 k) = m ((c.tc : Thread nD τ).loc main_arg9) (ix2 0 k) := by
  blk_point [iblk, V, idx t]
theorem rd10 (t : Fin cfg0.N) (k : Fin 1024) : iblk m c 10 t (ix2 0 k) = m ((c.tc : Thread nD τ).loc main_arg10) (ix1 k) := by
  blk_point [iblk, V, idx t]
theorem rd12 (t : Fin cfg0.N) (k : Fin 1024) (f : Fin 4096) : iblk m c 12 t (ix2 k f) = m ((c.tc : Thread nD τ).loc main_arg12) (ix3 0 k f) := by
  blk_point [iblk, V, idx t]
theorem rd2 (t : Fin cfg0.N) (r : Fin 256) (k : Fin 1024) : iblk m c 2 t (ix2 r k) = m ((c.tc : Thread nD τ).loc main_arg2) (ix2 (tok t r) k) := by
  blk_point [iblk, V, idx t, tok]
theorem rd3 (t : Fin cfg0.N) (r : Fin 256) (k : Fin 1024) : iblk m c 3 t (ix2 r k) = m ((c.tc : Thread nD τ).loc main_arg3) (ix2 (tok t r) k) := by
  blk_point [iblk, V, idx t, tok]
theorem rd4 (t : Fin cfg0.N) (r : Fin 256) (k : Fin 1024) : iblk m c 4 t (ix2 r k) = m ((c.tc : Thread nD τ).loc main_arg4) (ix2 (tok t r) k) := by
  blk_point [iblk, V, idx t, tok]
theorem rd6 (t : Fin cfg0.N) (r : Fin 256) (k : Fin 1024) (hb) : iblk m c 6 t (ix3 0 0 k) =
    m ((c.tc : Thread nD τ).loc main_arg6) (ix3 ⟨(tok t r).val / 8192, hb⟩ 0 k) := by
  blk_point [iblk, V, idx t, tok]
theorem rd7 (t : Fin cfg0.N) (r : Fin 256) (k : Fin 1024) (hb) : iblk m c 7 t (ix3 0 0 k) =
    m ((c.tc : Thread nD τ).loc main_arg7) (ix3 ⟨(tok t r).val / 8192, hb⟩ 0 k) := by
  blk_point [iblk, V, idx t, tok]
theorem rd8 (t : Fin cfg0.N) (r : Fin 256) (k : Fin 1024) (hb) : iblk m c 8 t (ix3 0 0 k) =
    m ((c.tc : Thread nD τ).loc main_arg8) (ix3 ⟨(tok t r).val / 8192, hb⟩ 0 k) := by
  blk_point [iblk, V, idx t, tok]
theorem rd11 (t : Fin cfg0.N) (k e : Fin 1024) : iblk m c 11 t (ix2 k e) = m ((c.tc : Thread nD τ).loc main_arg11) (ix3 0 k e) := by
  blk_point [iblk, V, idx t]
theorem rd13 (t : Fin cfg0.N) (f : Fin 4096) (d : Fin 1024) : iblk m c 13 t (ix2 f d) = m ((c.tc : Thread nD τ).loc main_arg13) (ix3 0 f d) := by
  blk_point [iblk, V, idx t]

/-- The kernel's output array is the reference's function of the arguments. -/
theorem final : (dats m 0 c).arrAt 14 cfg0.N =
    Cert.MlpRefIdeal.Stage.REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) := by
  refine (dats m 0 c).arrAt_eq_of_covers 14 _ (by decide +kernel) fun t _ y => ?_
  blk_simp
  rw [after0_14]
  idx_vars y
  rw [Block.out_at]
  rw [emb14]
  unfold Cert.MlpRefIdeal.Stage.REF
  have hb : (tok t y0).val / 8192 < 2 := by have := (tok t y0).isLt; omega
  have ht : (tok t y0).val % 8192 < 8192 := Nat.mod_lt _ (by decide)
  simp only [fun k => rd0 m c t y0 k hb ht, rd1, rd2, rd3, rd4, fun k => rd5 m c t y0 k hb, fun k => rd6 m c t y0 k hb,
    fun k => rd7 m c t y0 k hb, fun k => rd8 m c t y0 k hb, rd9, rd10, rd11, rd12, rd13]
  rfl

end Cert.MlpIdeal.Final
-- ==== Proof.Mlp.Claims.lean ====
/- The claims of the feed-forward call: the reference's frame, and the equation between the two programs' results. -/
module

public import proofs.«01_k».proof.Proof.Mlp.Final
public import proofs.«01_k».proof.Defs

@[expose] public section

noncomputable section

open Idealize.ShloMosaic Idealize.SL.Sem

/-- The reference changes no argument, and has no semaphore. -/
theorem Cert.MlpRefIdeal.Claims.frame : Cert.quiescent_MlpRefIdeal := fun m g _ =>
  (θ_run Cert.MlpRefIdeal.defs _ _).mono (fun r h => ⟨fun c => (h c).2, sem_eq_zero_of_no_sems (by decide) r.2⟩)
    (Cert.MlpRefIdeal.Value.run (F := Ideal) m g)

/-- The feed-forward kernel and its reference end with the same result. -/
theorem Cert.MlpIdeal.Claims.algebraic : Cert.algebraic_MlpIdeal_MlpRefIdeal := by
  pair_intro
  · run_from Cert.MlpIdeal.Value.run_blocks m g
  · run_from Cert.MlpRefIdeal.Value.run m' g'
    refine (Cert.MlpRefIdeal.Stage.result_eq m' c).trans ?_
    obtain ⟨h0, h1, h2, h3, h4, h5, h6, h7, h8, h9, h10, h11, h12, h13⟩ := hagree c
    rw [h0, h1, h2, h3, h4, h5, h6, h7, h8, h9, h10, h11, h12, h13]
    exact (Cert.MlpRefIdeal.Stage.full_eq ..).trans (Cert.MlpIdeal.Final.final m c).symm
-- ==== Proof.Inproj.Rows.lean ====
/- The in-projection of one token: the projected row, the rotary turn of a head, and the turn over 128 lanes. -/
module

public import proofs.«01_k».proof.Proof.Mlp.Rows

@[expose] public section

noncomputable section

namespace Cert.Inproj

open Idealize.ShloMosaic

/-- The rotary turn of the first sixteen coordinates of a head; the other coordinates are kept. -/
def rope (cs sn : Fin 8 → EReal) (v : Fin 64 → EReal) (d : Fin 64) : EReal :=
  if h : d.val < 8 then v d * cs ⟨d.val, h⟩ - v ⟨d.val + 8, by omega⟩ * sn ⟨d.val, h⟩
  else if h2 : d.val < 16 then v ⟨d.val - 8, by omega⟩ * sn ⟨d.val - 8, by omega⟩ + v d * cs ⟨d.val - 8, by omega⟩
  else v d

/-- The turn over 128 lanes: the lanes times `c`, the lanes eight further on times `s`, the lanes eight before times `u`. -/
def turn (c s u v : Fin 128 → EReal) (l : Fin 128) : EReal :=
  v l * c l + v ⟨(l.val + 8) % 128, by omega⟩ * s l + v ⟨(l.val + 120) % 128, by omega⟩ * u l

/-- The factor of a lane itself: the cosine on the first sixteen coordinates of a head, one elsewhere. -/
def tabC (cs : Fin 8 → EReal) (l : Fin 128) : EReal := if l.val % 64 < 16 then cs ⟨l.val % 8, by omega⟩ else 1

/-- The factor of the lane eight further on: minus the sine on the first eight coordinates of a head, zero elsewhere. -/
def tabS (sn : Fin 8 → EReal) (l : Fin 128) : EReal := if l.val % 64 < 8 then -sn ⟨l.val % 8, by omega⟩ else 0

/-- The factor of the lane eight before: the sine on the second eight coordinates of a head, zero elsewhere. -/
def tabU (sn : Fin 8 → EReal) (l : Fin 128) : EReal :=
  if 8 ≤ l.val % 64 ∧ l.val % 64 < 16 then sn ⟨l.val % 8, by omega⟩ else 0

/-- The turn over 128 lanes is the rotary turn of the head the lane belongs to. -/
theorem turn_eq (cs sn : Fin 8 → EReal) (v : Fin 128 → EReal) (l : Fin 128) :
    turn (tabC cs) (tabS sn) (tabU sn) v l = rope cs sn (fun d => v ⟨64 * (l.val / 64) + d.val, by omega⟩) ⟨l.val % 64, by omega⟩ := by
  have hl := l.isLt
  unfold turn tabC tabS tabU rope
  by_cases h1 : l.val % 64 < 8
  · have e1 : (l.val + 8) % 128 = 64 * (l.val / 64) + (l.val % 64 + 8) := by omega
    have e2 : l.val % 8 = l.val % 64 := by omega
    have e3 : 64 * (l.val / 64) + l.val % 64 = l.val := by omega
    simp [h1, show l.val % 64 < 16 by omega, show ¬ 8 ≤ l.val % 64 by omega, e1, e2, e3, mul_neg, sub_eq_add_neg]
  · by_cases h2 : l.val % 64 < 16
    · have e1 : (l.val + 120) % 128 = 64 * (l.val / 64) + (l.val % 64 - 8) := by omega
      have e2 : l.val % 8 = l.val % 64 - 8 := by omega
      have e3 : 64 * (l.val / 64) + l.val % 64 = l.val := by omega
      simp [h1, h2, show 8 ≤ l.val % 64 by omega, e1, e2, e3, add_comm]
    · have e3 : 64 * (l.val / 64) + l.val % 64 = l.val := by omega
      simp [h1, h2, e3]

/-- Three stretches side by side, turned first eight, turned second eight and the rest, are the turned head. -/
theorem rope_cat {N : ℕ} (f : Fin N → EReal) (c s : Fin 8 → EReal) (o : ℕ) (ho : o + 64 ≤ N) (e : Fin 64) :
    (if h : e.val < 8 then f ⟨o + e.val, by omega⟩ * c ⟨e.val, h⟩ - f ⟨o + (8 + e.val), by omega⟩ * s ⟨e.val, h⟩
      else if h : e.val - 8 < 8 then
        f ⟨o + (e.val - 8), by omega⟩ * s ⟨e.val - 8, h⟩ + f ⟨o + (8 + (e.val - 8)), by omega⟩ * c ⟨e.val - 8, h⟩
      else f ⟨o + (16 + (e.val - 8 - 8)), by omega⟩) =
    rope c s (fun e => f ⟨o + e.val, by omega⟩) e := by
  have E : ∀ (a b : ℕ) (ha : a < N) (hb : b < N), a = b → f ⟨a, ha⟩ = f ⟨b, hb⟩ := by rintro a b ha hb rfl; rfl
  obtain ⟨e, he⟩ := e
  unfold rope
  by_cases h : e < 8
  · simp only [dif_pos h]
    rw [E (o + (8 + e)) (o + (e + 8)) _ _ (by omega)]
  · by_cases h2 : e < 16
    · have h3 : e - 8 < 8 := by omega
      simp only [dif_neg h, dif_pos h2, dif_pos h3]
      rw [E (o + (8 + (e - 8))) (o + e) _ (by omega) (by omega)]
    · have h3 : ¬e - 8 < 8 := by omega
      simp only [dif_neg h, dif_neg h2, dif_neg h3]
      exact E _ _ _ _ (by omega)

section
variable (x : FVec Ideal ⟨3, ![2, 8192, 1024]⟩ .f32) (sc sh : FVec Ideal ⟨3, ![2, 1, 1024]⟩ .f32) (nw : FVec Ideal ⟨2, ![1, 1024]⟩ .f32)
  (w : FVec Ideal ⟨3, ![1, 1024, 7256]⟩ .f32)

/-- The angle of position `p` at frequency `j`. -/
def ang (p : ℕ) (j : Fin 8) : EReal :=
  FloatOps.sitofp (F := Ideal) .f32 (BitVec.ofNat 32 p) * Ideal.pow (Ideal.ofBits .f32 0x48F42400#32)
    (Ideal.div (-FloatOps.sitofp (F := Ideal) .f32 (BitVec.ofNat 32 j.val) * Ideal.ofBits .f32 0x40000000#32) (Ideal.ofBits .f32 0x41800000#32))

/-- Column `n` of the projection of token `t` of batch `b`. -/
def pr (b : Fin 2) (t : Fin 8192) (n : Fin 7256) : EReal :=
  ∑ k, Mlp.hid (fun k => x (ix3 b t k)) (fun k => nw (ix2 0 k)) (fun k => sc (ix3 b 0 k)) (fun k => sh (ix3 b 0 k)) k * w (ix3 0 k n)

/-- The rotary turn of the head whose columns start at `o`. -/
def hd (b : Fin 2) (t : Fin 8192) (o : ℕ) (ho : o + 64 ≤ 7256) : Fin 64 → EReal :=
  rope (fun j => Ideal.cos (ang t.val j)) (fun j => Ideal.sin (ang t.val j)) (fun e => pr x sc sh nw w b t ⟨o + e.val, by omega⟩)

/-- The scaled queries, head by head. -/
def qF (φ : FTy) : FVec Ideal ⟨4, ![2, 16, 8192, 64]⟩ φ := fun i =>
  hd x sc sh nw w (i 0) (i 2) ((i 1).val * 64) (by have := (i 1).isLt; simp at this; omega) (i 3) * Ideal.ofBits .f32 0x3E000000#32

/-- The keys, transposed. -/
def kF (φ : FTy) : FVec Ideal ⟨3, ![2, 256, 8192]⟩ φ := fun i =>
  hd x sc sh nw w (i 0) (i 2) (1024 + (i 1).val / 64 * 64) (by have := (i 1).isLt; simp at this; omega) ⟨(i 1).val % 64, by omega⟩

/-- The values, transposed. -/
def vF (φ : FTy) : FVec Ideal ⟨3, ![2, 256, 8192]⟩ φ := fun i =>
  pr x sc sh nw w (i 0) (i 2) ⟨1280 + (i 1).val, by have := (i 1).isLt; simp at this; omega⟩

/-- The values of each head, then a one, then zeros. -/
def veF (φ : FTy) : FVec Ideal ⟨4, ![2, 4, 8192, 128]⟩ φ := fun i =>
  if h : (i 3).val < 64 then pr x sc sh nw w (i 0) (i 2) ⟨1280 + ((i 1).val * 64 + (i 3).val), by have := (i 1).isLt; simp at this; omega⟩
  else if (i 3).val = 64 then 1 else 0

/-- The index queries, head by head. -/
def iqF (φ : FTy) : FVec Ideal ⟨4, ![2, 8, 8192, 64]⟩ φ := fun i =>
  hd x sc sh nw w (i 0) (i 2) (1536 + (i 1).val * 64) (by have := (i 1).isLt; simp at this; omega) (i 3)

/-- The index keys, transposed. -/
def ikF (φ : FTy) : FVec Ideal ⟨3, ![2, 64, 8192]⟩ φ := fun i => hd x sc sh nw w (i 0) (i 2) 2048 (by omega) (i 1)

/-- The index keys, the index weights, the step sizes and forty zeros. -/
def miF : FVec Ideal ⟨2, ![16384, 128]⟩ .f32 := fun i =>
  let b : Fin 2 := ⟨(i 0).val / 8192, by have := (i 0).isLt; simp at this; omega⟩
  let t : Fin 8192 := ⟨(i 0).val % 8192, by omega⟩
  if h : (i 1).val < 64 then hd x sc sh nw w b t 2048 (by omega) ⟨(i 1).val, h⟩
  else if h : (i 1).val < 72 then pr x sc sh nw w b t ⟨2048 + (i 1).val, by omega⟩
  else if h : (i 1).val < 88 then pr x sc sh nw w b t ⟨5120 + (i 1).val, by omega⟩ else 0

/-- A stretch of `n` columns of the projection, from column `o`. -/
def stF (o n : ℕ) (ho : o + n ≤ 7256) : FVec Ideal ⟨2, ![16384, n]⟩ .f32 := fun i =>
  pr x sc sh nw w ⟨(i 0).val / 8192, by have := (i 0).isLt; simp at this; omega⟩ ⟨(i 0).val % 8192, by omega⟩
    ⟨o + (i 1).val, by have := (i 1).isLt; simp at this; omega⟩

end

end Cert.Inproj
-- ==== Proof.Inproj.Ref.lean ====
/- What the reference of the in-projection computes, token by token. -/
module

public import proofs.«01_k».proof.Proof.Inproj.Rows
public import proofs.«01_k».proof.Proof.Gen.InprojRefIdeal.Run

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

variable (V0 : Valuation τ sig (Elt Ideal))

/-- A column of the projection, of the reference's arguments. -/
abbrev P (b : Fin 2) (t : Fin 8192) (n : Fin 7256) : EReal :=
  pr (V0 (Proc.devRef .tc main_arg0)) (V0 (Proc.devRef .tc main_arg1)) (V0 (Proc.devRef .tc main_arg2))
    (V0 (Proc.devRef .tc main_arg3)) (V0 (Proc.devRef .tc main_arg4)) b t n

theorem v22_at (b : Fin 2) (t : Fin 8192) (n : Fin 7256) : res_main_v22 V0 (ix3 b t n) = P V0 b t n := by
  pointwise [res_main_v22, pr, hid, nrm]

/-! The cosines and sines of the angles. -/

theorem v50_at (p : Fin 8192) (z : Fin 1) (j : Fin 8) : res_main_v50 V0 (ix3 p z j) = Ideal.cos (ang p.val j) := by
  pointwise [res_main_v50, res_main_v48, res_main_v0, ang]
theorem v52_at (p : Fin 8192) (z : Fin 1) (j : Fin 8) : res_main_v52 V0 (ix3 p z j) = Ideal.sin (ang p.val j) := by
  pointwise [res_main_v52, res_main_v48, res_main_v0, ang]
theorem v87_at (p : Fin 8192) (z : Fin 1) (j : Fin 8) : res_main_v87 V0 (ix3 p z j) = Ideal.cos (ang p.val j) := by
  pointwise [res_main_v87, res_main_v85, res_main_v0, ang]
theorem v89_at (p : Fin 8192) (z : Fin 1) (j : Fin 8) : res_main_v89 V0 (ix3 p z j) = Ideal.sin (ang p.val j) := by
  pointwise [res_main_v89, res_main_v85, res_main_v0, ang]
theorem v125_at (p : Fin 8192) (z : Fin 1) (j : Fin 8) : res_main_v125 V0 (ix3 p z j) = Ideal.cos (ang p.val j) := by
  pointwise [res_main_v125, res_main_v123, res_main_v0, ang]
theorem v127_at (p : Fin 8192) (z : Fin 1) (j : Fin 8) : res_main_v127 V0 (ix3 p z j) = Ideal.sin (ang p.val j) := by
  pointwise [res_main_v127, res_main_v123, res_main_v0, ang]
theorem v162_at (p : Fin 8192) (z : Fin 1) (j : Fin 8) : res_main_v162 V0 (ix3 p z j) = Ideal.cos (ang p.val j) := by
  pointwise [res_main_v162, res_main_v160, res_main_v0, ang]
theorem v164_at (p : Fin 8192) (z : Fin 1) (j : Fin 8) : res_main_v164 V0 (ix3 p z j) = Ideal.sin (ang p.val j) := by
  pointwise [res_main_v164, res_main_v160, res_main_v0, ang]

/-- The turned head whose columns start at `o`. -/
abbrev H (b : Fin 2) (t : Fin 8192) (o : ℕ) (ho : o + 64 ≤ 7256) : Fin 64 → EReal :=
  hd (V0 (Proc.devRef .tc main_arg0)) (V0 (Proc.devRef .tc main_arg1)) (V0 (Proc.devRef .tc main_arg2))
    (V0 (Proc.devRef .tc main_arg3)) (V0 (Proc.devRef .tc main_arg4)) b t o ho

/-- The turned index key. -/
theorem v183_at (b : Fin 2) (t : Fin 8192) (e : Fin 64) : res_main_v183 V0 (ix3 b t e) = H V0 b t 2048 (by omega) e := by
  refine Eq.trans ?_ (rope_cat (P V0 b t) (fun j => Ideal.cos (ang t.val j)) (fun j => Ideal.sin (ang t.val j)) 2048 (by omega) e)
  pointwise [res_main_v183]
  simp only [v162_at, v164_at]
  pointwise [res_main_v165, res_main_v166, res_main_v146]
  simp only [v22_at]

end Cert.InprojRefIdeal.Stage
-- ==== Proof.Inproj.RefQ.lean ====
/- The scaled, turned queries. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

variable (V0 : Valuation τ sig (Elt Ideal))

/-- The scaled, turned queries. -/
theorem q_eq : (truncf .bf16 (transpose S2x16x8192x64 [0, 2, 1, 3] (mulf ((concatenate S2x8192x16x64 3 [⟨S2x8192x16x8, ((subf (mulf (res_main_v53 V0) (broadcastInDim S2x8192x16x8 ![0, 1, 2, 3] bcast_S1x8192x1x8_S2x8192x16x8_0_1_2_3 (broadcastInDim S1x8192x1x8 ![1, 2, 3] bcast_S8192x1x8_S1x8192x1x8_1_2_3 (res_main_v50 V0)))) (mulf (res_main_v54 V0) (broadcastInDim S2x8192x16x8 ![0, 1, 2, 3] bcast_S1x8192x1x8_S2x8192x16x8_0_1_2_3 (broadcastInDim S1x8192x1x8 ![1, 2, 3] bcast_S8192x1x8_S1x8192x1x8_1_2_3 (res_main_v52 V0))))) : (⟨S2x8192x16x8, .f32⟩ : BufTy).Contents (Elt Ideal))⟩, ⟨S2x8192x16x8, ((addf (mulf (res_main_v53 V0) (broadcastInDim S2x8192x16x8 ![0, 1, 2, 3] bcast_S1x8192x1x8_S2x8192x16x8_0_1_2_3 (broadcastInDim S1x8192x1x8 ![1, 2, 3] bcast_S8192x1x8_S1x8192x1x8_1_2_3 (res_main_v52 V0)))) (mulf (res_main_v54 V0) (broadcastInDim S2x8192x16x8 ![0, 1, 2, 3] bcast_S1x8192x1x8_S2x8192x16x8_0_1_2_3 (broadcastInDim S1x8192x1x8 ![1, 2, 3] bcast_S8192x1x8_S1x8192x1x8_1_2_3 (res_main_v50 V0))))) : (⟨S2x8192x16x8, .f32⟩ : BufTy).Contents (Elt Ideal))⟩, ⟨S2x8192x16x48, ((extractStridedSlice S2x8192x16x48 ![0, 0, 0, 16] (res_main_v34 V0) slices_S2x8192x16x64_S2x8192x16x48_0_0_0_16) : (⟨S2x8192x16x48, .f32⟩ : BufTy).Contents (Elt Ideal))⟩] concatenates_S2x8192x16x8_S2x8192x16x8_S2x8192x16x48_S2x8192x16x64_d3 : (⟨S2x8192x16x64, .f32⟩ : BufTy).Contents (Elt Ideal))) (broadcastInDim S2x8192x16x64 ![] bcast_S_S2x8192x16x64 (constant S_ .f32 0x3E000000#32))) transposes_S2x8192x16x64_S2x16x8192x64_0_2_1_3) bitsLt_bf16_f32 : FVec Ideal S2x16x8192x64 .bf16) =
    qF (V0 (Proc.devRef .tc main_arg0)) (V0 (Proc.devRef .tc main_arg1)) (V0 (Proc.devRef .tc main_arg2))
    (V0 (Proc.devRef .tc main_arg3)) (V0 (Proc.devRef .tc main_arg4)) .bf16 := by
  funext i; idx_vars i
  refine Eq.trans ?_ (congrArg (· * Ideal.ofBits .f32 0x3E000000#32) (rope_cat (P V0 i0 i2) (fun j => Ideal.cos (ang i2.val j)) (fun j => Ideal.sin (ang i2.val j)) (i1.val * 64) (by omega) i3))
  pointwise []
  simp only [v50_at, v52_at]
  pointwise [res_main_v53, res_main_v54, res_main_v34]
  simp only [v22_at]

end Cert.InprojRefIdeal.Stage
-- ==== Proof.Inproj.RefK.lean ====
/- The turned keys, transposed. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

/-- The last two axes swapped, entry by entry. -/
theorem tr_atK {T : Type} (g : S2x8192x256.Idx → T) (i0 : Fin 2) (i1 : Fin 256) (i2 : Fin 8192) :
    transpose S2x256x8192 [0, 2, 1] g transposes_S2x8192x256_S2x256x8192_0_2_1 (ix3 i0 i1 i2) = g (ix3 i0 i2 i1) := by
  pointwise []

attribute [local irreducible] res_main_v22 res_main_v71 res_main_v90 res_main_v91 res_main_v87 res_main_v89

variable (V0 : Valuation τ sig (Elt Ideal))

/-- The turned keys, transposed. -/
theorem k_eq : (transpose S2x256x8192 [0, 2, 1] (shapeCast _ ((concatenate S2x8192x4x64 3 [⟨S2x8192x4x8, ((subf (mulf (res_main_v90 V0) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v87 V0)))) (mulf (res_main_v91 V0) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v89 V0))))) : (⟨S2x8192x4x8, .f32⟩ : BufTy).Contents (Elt Ideal))⟩, ⟨S2x8192x4x8, ((addf (mulf (res_main_v90 V0) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v89 V0)))) (mulf (res_main_v91 V0) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v87 V0))))) : (⟨S2x8192x4x8, .f32⟩ : BufTy).Contents (Elt Ideal))⟩, ⟨S2x8192x4x48, ((extractStridedSlice S2x8192x4x48 ![0, 0, 0, 16] (res_main_v71 V0) slices_S2x8192x4x64_S2x8192x4x48_0_0_0_16) : (⟨S2x8192x4x48, .f32⟩ : BufTy).Contents (Elt Ideal))⟩] concatenates_S2x8192x4x8_S2x8192x4x8_S2x8192x4x48_S2x8192x4x64_d3 : (⟨S2x8192x4x64, .f32⟩ : BufTy).Contents (Elt Ideal))) shapeCasts_S2x8192x4x64_S2x8192x256) transposes_S2x8192x256_S2x256x8192_0_2_1 : FVec Ideal S2x256x8192 .f32) =
    kF (V0 (Proc.devRef .tc main_arg0)) (V0 (Proc.devRef .tc main_arg1)) (V0 (Proc.devRef .tc main_arg2))
    (V0 (Proc.devRef .tc main_arg3)) (V0 (Proc.devRef .tc main_arg4)) .f32 := by
  funext i; idx_vars i
  refine Eq.trans ?_ (rope_cat (P V0 i0 i2) (fun j => Ideal.cos (ang i2.val j)) (fun j => Ideal.sin (ang i2.val j)) (1024 + i1.val / 64 * 64) (by omega) ⟨i1.val % 64, by omega⟩)
  refine (tr_atK _ _ _ _).trans ?_
  pointwise []
  simp only [v87_at, v89_at]
  pointwise [res_main_v90, res_main_v91, res_main_v71]
  simp only [v22_at, Nat.add_assoc, Nat.div_add_mod']

end Cert.InprojRefIdeal.Stage
-- ==== Proof.Inproj.RefKb.lean ====
/- The turned keys, transposed, in the narrow format. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

/-- The last two axes swapped, entry by entry. -/
theorem tr_atKb (g : FVec Ideal S2x8192x256 .f32) (i0 : Fin 2) (i1 : Fin 256) (i2 : Fin 8192) :
    truncf (F := Ideal) .bf16 (transpose S2x256x8192 [0, 2, 1] g transposes_S2x8192x256_S2x256x8192_0_2_1) bitsLt_bf16_f32 (ix3 i0 i1 i2) = g (ix3 i0 i2 i1) := by
  pointwise []

attribute [local irreducible] res_main_v22 res_main_v71 res_main_v90 res_main_v91 res_main_v87 res_main_v89

variable (V0 : Valuation τ sig (Elt Ideal))

/-- The turned keys, transposed, in the narrow format. -/
theorem kb_eq : (truncf .bf16 (transpose S2x256x8192 [0, 2, 1] (shapeCast _ ((concatenate S2x8192x4x64 3 [⟨S2x8192x4x8, ((subf (mulf (res_main_v90 V0) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v87 V0)))) (mulf (res_main_v91 V0) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v89 V0))))) : (⟨S2x8192x4x8, .f32⟩ : BufTy).Contents (Elt Ideal))⟩, ⟨S2x8192x4x8, ((addf (mulf (res_main_v90 V0) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v89 V0)))) (mulf (res_main_v91 V0) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v87 V0))))) : (⟨S2x8192x4x8, .f32⟩ : BufTy).Contents (Elt Ideal))⟩, ⟨S2x8192x4x48, ((extractStridedSlice S2x8192x4x48 ![0, 0, 0, 16] (res_main_v71 V0) slices_S2x8192x4x64_S2x8192x4x48_0_0_0_16) : (⟨S2x8192x4x48, .f32⟩ : BufTy).Contents (Elt Ideal))⟩] concatenates_S2x8192x4x8_S2x8192x4x8_S2x8192x4x48_S2x8192x4x64_d3 : (⟨S2x8192x4x64, .f32⟩ : BufTy).Contents (Elt Ideal))) shapeCasts_S2x8192x4x64_S2x8192x256) transposes_S2x8192x256_S2x256x8192_0_2_1) bitsLt_bf16_f32 : FVec Ideal S2x256x8192 .bf16) =
    kF (V0 (Proc.devRef .tc main_arg0)) (V0 (Proc.devRef .tc main_arg1)) (V0 (Proc.devRef .tc main_arg2))
    (V0 (Proc.devRef .tc main_arg3)) (V0 (Proc.devRef .tc main_arg4)) .bf16 := by
  funext i; idx_vars i
  refine Eq.trans ?_ (rope_cat (P V0 i0 i2) (fun j => Ideal.cos (ang i2.val j)) (fun j => Ideal.sin (ang i2.val j)) (1024 + i1.val / 64 * 64) (by omega) ⟨i1.val % 64, by omega⟩)
  refine (tr_atKb _ _ _ _).trans ?_
  pointwise []
  simp only [v87_at, v89_at]
  pointwise [res_main_v90, res_main_v91, res_main_v71]
  simp only [v22_at, Nat.add_assoc, Nat.div_add_mod']

end Cert.InprojRefIdeal.Stage
-- ==== Proof.Inproj.RefV.lean ====
/- The values, transposed. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

attribute [local irreducible] res_main_v22 pr

variable (V0 : Valuation τ sig (Elt Ideal))

/-- The values, transposed. -/
theorem v_eq : (transpose S2x256x8192 [0, 2, 1] (shapeCast _ (res_main_v108 V0) shapeCasts_S2x8192x4x64_S2x8192x256) transposes_S2x8192x256_S2x256x8192_0_2_1 : FVec Ideal S2x256x8192 .f32) =
    vF (V0 (Proc.devRef .tc main_arg0)) (V0 (Proc.devRef .tc main_arg1)) (V0 (Proc.devRef .tc main_arg2))
    (V0 (Proc.devRef .tc main_arg3)) (V0 (Proc.devRef .tc main_arg4)) .f32 := by
  funext i; idx_vars i
  pointwise [vF, res_main_v108]
  simp only [v22_at]

/-- The values of each head, then a one, then zeros. -/
theorem ve_eq : (truncf .bf16 (transpose S2x4x8192x128 [0, 2, 1, 3] ((concatenate S2x8192x4x128 3 [⟨S2x8192x4x64, ((res_main_v108 V0) : (⟨S2x8192x4x64, .f32⟩ : BufTy).Contents (Elt Ideal))⟩, ⟨S2x8192x4x1, ((broadcastInDim S2x8192x4x1 ![] bcast_S_S2x8192x4x1 (constant (F := Ideal) S_ .f32 0x3F800000#32)) : (⟨S2x8192x4x1, .f32⟩ : BufTy).Contents (Elt Ideal))⟩, ⟨S2x8192x4x63, ((broadcastInDim S2x8192x4x63 ![] bcast_S_S2x8192x4x63 (constant (F := Ideal) S_ .f32 0x00000000#32)) : (⟨S2x8192x4x63, .f32⟩ : BufTy).Contents (Elt Ideal))⟩] concatenates_S2x8192x4x64_S2x8192x4x1_S2x8192x4x63_S2x8192x4x128_d3 : (⟨S2x8192x4x128, .f32⟩ : BufTy).Contents (Elt Ideal))) transposes_S2x8192x4x128_S2x4x8192x128_0_2_1_3) bitsLt_bf16_f32 : FVec Ideal S2x4x8192x128 .bf16) =
    veF (V0 (Proc.devRef .tc main_arg0)) (V0 (Proc.devRef .tc main_arg1)) (V0 (Proc.devRef .tc main_arg2))
    (V0 (Proc.devRef .tc main_arg3)) (V0 (Proc.devRef .tc main_arg4)) .bf16 := by
  funext i; idx_vars i
  pointwise [veF, res_main_v108]
  simp only [v22_at]
  by_cases h : i3.val < 64
  · simp only [dif_pos h]
  · simp only [dif_neg h]
    by_cases h2 : i3.val = 64
    · simp [h2]
    · rw [dif_neg (by omega)]; exact (if_neg h2).symm

end Cert.InprojRefIdeal.Stage
-- ==== Proof.Inproj.RefIq.lean ====
/- The turned index queries. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

variable (V0 : Valuation τ sig (Elt Ideal))

/-- The turned index queries. -/
theorem iq_eq : (truncf .bf16 (transpose S2x8x8192x64 [0, 2, 1, 3] ((concatenate S2x8192x8x64 3 [⟨S2x8192x8x8, ((subf (mulf (res_main_v128 V0) (broadcastInDim S2x8192x8x8 ![0, 1, 2, 3] bcast_S1x8192x1x8_S2x8192x8x8_0_1_2_3 (broadcastInDim S1x8192x1x8 ![1, 2, 3] bcast_S8192x1x8_S1x8192x1x8_1_2_3 (res_main_v125 V0)))) (mulf (res_main_v129 V0) (broadcastInDim S2x8192x8x8 ![0, 1, 2, 3] bcast_S1x8192x1x8_S2x8192x8x8_0_1_2_3 (broadcastInDim S1x8192x1x8 ![1, 2, 3] bcast_S8192x1x8_S1x8192x1x8_1_2_3 (res_main_v127 V0))))) : (⟨S2x8192x8x8, .f32⟩ : BufTy).Contents (Elt Ideal))⟩, ⟨S2x8192x8x8, ((addf (mulf (res_main_v128 V0) (broadcastInDim S2x8192x8x8 ![0, 1, 2, 3] bcast_S1x8192x1x8_S2x8192x8x8_0_1_2_3 (broadcastInDim S1x8192x1x8 ![1, 2, 3] bcast_S8192x1x8_S1x8192x1x8_1_2_3 (res_main_v127 V0)))) (mulf (res_main_v129 V0) (broadcastInDim S2x8192x8x8 ![0, 1, 2, 3] bcast_S1x8192x1x8_S2x8192x8x8_0_1_2_3 (broadcastInDim S1x8192x1x8 ![1, 2, 3] bcast_S8192x1x8_S1x8192x1x8_1_2_3 (res_main_v125 V0))))) : (⟨S2x8192x8x8, .f32⟩ : BufTy).Contents (Elt Ideal))⟩, ⟨S2x8192x8x48, ((extractStridedSlice S2x8192x8x48 ![0, 0, 0, 16] (res_main_v109 V0) slices_S2x8192x8x64_S2x8192x8x48_0_0_0_16) : (⟨S2x8192x8x48, .f32⟩ : BufTy).Contents (Elt Ideal))⟩] concatenates_S2x8192x8x8_S2x8192x8x8_S2x8192x8x48_S2x8192x8x64_d3 : (⟨S2x8192x8x64, .f32⟩ : BufTy).Contents (Elt Ideal))) transposes_S2x8192x8x64_S2x8x8192x64_0_2_1_3) bitsLt_bf16_f32 : FVec Ideal S2x8x8192x64 .bf16) =
    iqF (V0 (Proc.devRef .tc main_arg0)) (V0 (Proc.devRef .tc main_arg1)) (V0 (Proc.devRef .tc main_arg2))
    (V0 (Proc.devRef .tc main_arg3)) (V0 (Proc.devRef .tc main_arg4)) .bf16 := by
  funext i; idx_vars i
  refine Eq.trans ?_ (rope_cat (P V0 i0 i2) (fun j => Ideal.cos (ang i2.val j)) (fun j => Ideal.sin (ang i2.val j)) (1536 + i1.val * 64) (by omega) i3)
  pointwise []
  simp only [v125_at, v127_at]
  pointwise [res_main_v128, res_main_v129, res_main_v109]
  simp only [v22_at, Nat.add_assoc]

end Cert.InprojRefIdeal.Stage
-- ==== Proof.Inproj.RefIk.lean ====
/- The turned index keys, transposed. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

/-- The last two axes swapped, entry by entry. -/
theorem tr_at (g : FVec Ideal S2x8192x64 .f32) (i0 : Fin 2) (i1 : Fin 64) (i2 : Fin 8192) :
    transpose S2x64x8192 [0, 2, 1] g transposes_S2x8192x64_S2x64x8192_0_2_1 (ix3 i0 i1 i2) = g (ix3 i0 i2 i1) := by
  pointwise []

/-- The same in the narrow format. -/
theorem trb_at (g : FVec Ideal S2x8192x64 .f32) (i0 : Fin 2) (i1 : Fin 64) (i2 : Fin 8192) :
    truncf (F := Ideal) .bf16 (transpose S2x64x8192 [0, 2, 1] g transposes_S2x8192x64_S2x64x8192_0_2_1) bitsLt_bf16_f32 (ix3 i0 i1 i2) = g (ix3 i0 i2 i1) := by
  pointwise []

attribute [local irreducible] res_main_v183 hd

variable (V0 : Valuation τ sig (Elt Ideal))

/-- The turned index keys, transposed. -/
theorem ik_eq : (transpose S2x64x8192 [0, 2, 1] (res_main_v183 V0) transposes_S2x8192x64_S2x64x8192_0_2_1 : FVec Ideal S2x64x8192 .f32) =
    ikF (V0 (Proc.devRef .tc main_arg0)) (V0 (Proc.devRef .tc main_arg1)) (V0 (Proc.devRef .tc main_arg2))
    (V0 (Proc.devRef .tc main_arg3)) (V0 (Proc.devRef .tc main_arg4)) .f32 := by
  funext i; idx_vars i
  refine Eq.trans ?_ (v183_at V0 i0 i2 i1)
  exact tr_at (res_main_v183 V0) i0 i1 i2

/-- The turned index keys, transposed, in the narrow format. -/
theorem ikb_eq : (truncf .bf16 (transpose S2x64x8192 [0, 2, 1] (res_main_v183 V0) transposes_S2x8192x64_S2x64x8192_0_2_1) bitsLt_bf16_f32 : FVec Ideal S2x64x8192 .bf16) =
    ikF (V0 (Proc.devRef .tc main_arg0)) (V0 (Proc.devRef .tc main_arg1)) (V0 (Proc.devRef .tc main_arg2))
    (V0 (Proc.devRef .tc main_arg3)) (V0 (Proc.devRef .tc main_arg4)) .bf16 := by
  funext i; idx_vars i
  refine Eq.trans ?_ (v183_at V0 i0 i2 i1)
  exact trb_at (res_main_v183 V0) i0 i1 i2

end Cert.InprojRefIdeal.Stage
-- ==== Proof.Inproj.RefMi.lean ====
/- The index keys, the index weights, the step sizes and zeros. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

attribute [local irreducible] res_main_v183 res_main_v22 hd pr

variable (V0 : Valuation τ sig (Elt Ideal))

/-- The index keys, the index weights, the step sizes and zeros. -/
theorem mi_eq : (shapeCast _ ((concatenate S2x8192x128 2 [⟨S2x8192x64, ((res_main_v183 V0) : (⟨S2x8192x64, .f32⟩ : BufTy).Contents (Elt Ideal))⟩, ⟨S2x8192x8, ((extractStridedSlice S2x8192x8 ![0, 0, 2112] (res_main_v22 V0) slices_S2x8192x7256_S2x8192x8_0_0_2112) : (⟨S2x8192x8, .f32⟩ : BufTy).Contents (Elt Ideal))⟩, ⟨S2x8192x16, ((extractStridedSlice S2x8192x16 ![0, 0, 5192] (res_main_v22 V0) slices_S2x8192x7256_S2x8192x16_0_0_5192) : (⟨S2x8192x16, .f32⟩ : BufTy).Contents (Elt Ideal))⟩, ⟨S2x8192x40, ((broadcastInDim S2x8192x40 ![] bcast_S_S2x8192x40 (constant (F := Ideal) S_ .f32 0x00000000#32)) : (⟨S2x8192x40, .f32⟩ : BufTy).Contents (Elt Ideal))⟩] concatenates_S2x8192x64_S2x8192x8_S2x8192x16_S2x8192x40_S2x8192x128_d2 : (⟨S2x8192x128, .f32⟩ : BufTy).Contents (Elt Ideal))) shapeCasts_S2x8192x128_S16384x128 : FVec Ideal S16384x128 .f32) =
    miF (V0 (Proc.devRef .tc main_arg0)) (V0 (Proc.devRef .tc main_arg1)) (V0 (Proc.devRef .tc main_arg2))
    (V0 (Proc.devRef .tc main_arg3)) (V0 (Proc.devRef .tc main_arg4)) := by
  funext i; idx_vars i
  pointwise [miF]
  simp only [v183_at, v22_at]
  by_cases h : i1.val < 64
  · simp only [dif_pos h]
  · by_cases h2 : i1.val < 72
    · have h3 : i1.val - 64 < 8 := by omega
      simp only [dif_neg h, dif_pos h2, dif_pos h3]
      exact congrArg (P V0 _ _) (Fin.ext (by show 2112 + (i1.val - 64) = 2048 + i1.val; omega))
    · have h3 : ¬i1.val - 64 < 8 := by omega
      by_cases h4 : i1.val < 88
      · have h5 : i1.val - 64 - 8 < 16 := by omega
        simp only [dif_neg h, dif_neg h2, dif_neg h3, dif_pos h4, dif_pos h5]
        exact congrArg (P V0 _ _) (Fin.ext (by show 5192 + (i1.val - 64 - 8) = 5120 + i1.val; omega))
      · have h5 : ¬i1.val - 64 - 8 < 16 := by omega
        simp only [dif_neg h, dif_neg h2, dif_neg h3, dif_neg h4, dif_neg h5]

end Cert.InprojRefIdeal.Stage
-- ==== Proof.Inproj.RefZ.lean ====
/- The gate of the recurrence. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

variable (V0 : Valuation τ sig (Elt Ideal))

/-- The gate of the recurrence. -/
theorem z_eq : (shapeCast _ (extractStridedSlice S2x8192x1024 ![0, 0, 2120] (res_main_v22 V0) slices_S2x8192x7256_S2x8192x1024_0_0_2120) shapeCasts_S2x8192x1024_S16384x1024 : FVec Ideal S16384x1024 .f32) =
    stF (V0 (Proc.devRef .tc main_arg0)) (V0 (Proc.devRef .tc main_arg1)) (V0 (Proc.devRef .tc main_arg2))
    (V0 (Proc.devRef .tc main_arg3)) (V0 (Proc.devRef .tc main_arg4)) 2120 1024 (by omega) := by
  funext i; idx_vars i
  pointwise [stF]
  simp only [v22_at]

end Cert.InprojRefIdeal.Stage
-- ==== Proof.Inproj.RefX.lean ====
/- The recurrence's inputs. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

variable (V0 : Valuation τ sig (Elt Ideal))

/-- The recurrence's inputs. -/
theorem xbc_eq : (shapeCast _ (extractStridedSlice S2x8192x2048 ![0, 0, 3144] (res_main_v22 V0) slices_S2x8192x7256_S2x8192x2048_0_0_3144) shapeCasts_S2x8192x2048_S16384x2048 : FVec Ideal S16384x2048 .f32) =
    stF (V0 (Proc.devRef .tc main_arg0)) (V0 (Proc.devRef .tc main_arg1)) (V0 (Proc.devRef .tc main_arg2))
    (V0 (Proc.devRef .tc main_arg3)) (V0 (Proc.devRef .tc main_arg4)) 3144 2048 (by omega) := by
  funext i; idx_vars i
  pointwise [stF]
  simp only [v22_at]

end Cert.InprojRefIdeal.Stage
-- ==== Proof.Inproj.RefGa.lean ====
/- The attention's gate. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

variable (V0 : Valuation τ sig (Elt Ideal))

/-- The attention's gate. -/
theorem ga_eq : (shapeCast _ (extractStridedSlice S2x8192x1024 ![0, 0, 5208] (res_main_v22 V0) slices_S2x8192x7256_S2x8192x1024_0_0_5208) shapeCasts_S2x8192x1024_S16384x1024 : FVec Ideal S16384x1024 .f32) =
    stF (V0 (Proc.devRef .tc main_arg0)) (V0 (Proc.devRef .tc main_arg1)) (V0 (Proc.devRef .tc main_arg2))
    (V0 (Proc.devRef .tc main_arg3)) (V0 (Proc.devRef .tc main_arg4)) 5208 1024 (by omega) := by
  funext i; idx_vars i
  pointwise [stF]
  simp only [v22_at]

end Cert.InprojRefIdeal.Stage
-- ==== Proof.Inproj.RefGs.lean ====
/- The recurrence's output gate. -/
module

public import proofs.«01_k».proof.Proof.Inproj.Ref

@[expose] public section

set_option maxRecDepth 16384

noncomputable section

namespace Cert.InprojRefIdeal.Stage

open Idealize.ShloMosaic Idealize.ShloMosaic.TcCoe Idealize.SL.Sem
open Cert.InprojRefIdeal Cert.InprojRefIdeal.Gen Cert.InprojRefIdeal.Value
open Cert.Mlp Cert.Inproj

variable (V0 : Valuation τ sig (Elt Ideal))

/-- The recurrence's output gate. -/
theorem gs_eq : (shapeCast _ (extractStridedSlice S2x8192x1024 ![0, 0, 6232] (res_main_v22 V0) slices_S2x8192x7256_S2x8192x1024_0_0_6232) shapeCasts_S2x8192x1024_S16384x1024 : FVec Ideal S16384x1024 .f32) =
    stF (V0 (Proc.devRef .tc main_arg0)) (V0 (Proc.devRef .tc main_arg1)) (V0 (Proc.devRef .tc main_arg2))
    (V0 (Proc.devRef .tc main_arg3)) (V0 (Proc.devRef .tc main_arg4)) 6232 1024 (by omega) := by
  funext i; idx_vars i
  pointwise [stF]
  simp only [v22_at]

end Cert.InprojRefIdeal.Stage
-- ==== Proof.Inproj.Block.lean ====
/- What one grid point of the in-projection call computes, row by row. -/
module

public import proofs.«01_k».proof.Proof.Inproj.Rows
public import proofs.«01_k».proof.Proof.Gen.InprojIdeal.Frame
public import Idealize.ShloMosaic.Lib.Pipeline.ValueKit

@[expose] public section

set_option maxRecDepth 16384

noncomputable section

namespace Cert.InprojIdeal.Block

open Idealize.ShloMosaic Idealize.ShloMosaic.TcCoe Idealize.SL.Sem
open Cert.InprojIdeal Cert.InprojIdeal.Gen
open Cert.Mlp Cert.Inproj

/-- The rows of a table. -/
def row (v : FVec Ideal S256x128 .f32) (r : Fin 256) : Fin 128 → EReal := fun l => v (ix2 r l)

/-- Column `n` of the block's projection. -/
def pb (hb : FVec Ideal S256x1024 .bf16) (w : FVec Ideal S1024x7296 .bf16) (r : Fin 256) (n : Fin 7296) : EReal := ∑ k, hb (ix2 r k) * w (ix2 k n)

variable (b0 : Vec Ideal S256x1024 .f32) (b1 b2 : Vec Ideal S1x1x1024 .f32) (b3 : Vec Ideal S1x1024 .f32) (b4 : Vec Ideal S1024x7296 .bf16) (b5 b6 b7 : Vec Ideal S256x128 .f32)

/-- The modulated norm of a row of the block. -/
theorem pay80_at (r : Fin 256) (k : Fin 1024) : k0_pay80 b0 b1 b2 b3 b4 b5 b6 b7 (ix2 r k) =
    hid (fun k => b0 (ix2 r k)) (fun k => b3 (ix2 0 k)) (fun k => b1 (ix3 0 0 k)) (fun k => b2 (ix3 0 0 k)) k := by
  pointwise [k0_pay80, k0_pay6, hid, nrm]
theorem row81 (r : Fin 256) : row (k0_pay81 b0 b1 b2 b3 b4 b5 b6 b7) r = row b5 r := by
  funext l; pointwise [k0_pay81, k0_pay7, row]
theorem row82 (r : Fin 256) : row (k0_pay82 b0 b1 b2 b3 b4 b5 b6 b7) r = row b6 r := by
  funext l; pointwise [k0_pay82, k0_pay8, row]
theorem row83 (r : Fin 256) : row (k0_pay83 b0 b1 b2 b3 b4 b5 b6 b7) r = row b7 r := by
  funext l; pointwise [k0_pay83, k0_pay9, row]

/-! The projections, by their columns. -/

theorem pay84_at (r : Fin 256) (n : Fin 1024) : k0_pay84 b0 b1 b2 b3 b4 b5 b6 b7 (ix2 r n) = pb (k0_pay80 b0 b1 b2 b3 b4 b5 b6 b7) b4 r ⟨n.val, by omega⟩ := by
  pointwise [k0_pay84, k0_pay10, pb, k0_pay80]
theorem pay91_at (r : Fin 256) (n : Fin 256) : k0_pay91 b0 b1 b2 b3 b4 b5 b6 b7 (ix2 r n) = pb (k0_pay80 b0 b1 b2 b3 b4 b5 b6 b7) b4 r ⟨1280 + n.val, by omega⟩ := by
  pointwise [k0_pay91, k0_pay49, pb]
theorem pay92_at (r : Fin 256) (n : Fin 512) : k0_pay92 b0 b1 b2 b3 b4 b5 b6 b7 (ix2 r n) = pb (k0_pay80 b0 b1 b2 b3 b4 b5 b6 b7) b4 r ⟨1536 + n.val, by omega⟩ := by
  pointwise [k0_pay92, k0_pay59, pb]

/-- A choice by the column below 64. -/
theorem sel_lt (l : Fin 128) (a b : EReal) : Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]; split <;> rfl
/-- A choice by column 64. -/
theorem sel_eq (l : Fin 128) (a b : EReal) : Scalar.select (IntOp.cmpi .eq (BitVec.ofNat 32 l.val) 64#32) a b = if l.val = 64 then a else b := by
  have h : ∀ l : Fin 128, IntOp.cmpi .eq (BitVec.ofNat 32 l.val) 64#32 = if l.val = 64 then 1#1 else 0#1 := by decide +kernel
  rw [h]; split <;> rfl
theorem rot1 (n : ℕ) : n + 128 - 120 = n + 8 := by omega
theorem rot2 (n : ℕ) : n + 128 - 8 = n + 120 := by omega

section
variable (c s u : FVec Ideal S256x128 .f32) (v : FVec Ideal S256x1024 .f32) (v5 : FVec Ideal S256x512 .f32) (w w2 : FVec Ideal S256x128 .f32) (r : Fin 256) (l : Fin 128)

/-! Each turned stretch of 128 columns. -/

theorem pay12_at : k0_pay12 c s u w (ix2 r l) = turn (row c r) (row s r) (row u r) (row w r) l * Ideal.ofBits .f32 0x3E000000#32 := by
  pointwise [k0_pay12, turn, row]
  simp only [rot1, rot2]
theorem pay36_at : k0_pay36 w (ix2 r l) = w (ix2 r l) * Ideal.ofBits .f32 0x3E000000#32 := by
  pointwise [k0_pay36]
theorem pay15_at : k0_pay15 c s u v (ix2 r l) = turn (row c r) (row s r) (row u r) (fun l => v (ix2 r ⟨128 + l.val, by omega⟩)) l * Ideal.ofBits .f32 0x3E000000#32 := by
  pointwise [k0_pay15, turn, row]
  simp only [rot1, rot2]
theorem pay19_at : k0_pay19 c s u v (ix2 r l) = turn (row c r) (row s r) (row u r) (fun l => v (ix2 r ⟨256 + l.val, by omega⟩)) l * Ideal.ofBits .f32 0x3E000000#32 := by
  pointwise [k0_pay19, turn, row]
  simp only [rot1, rot2]
theorem pay22_at : k0_pay22 c s u v (ix2 r l) = turn (row c r) (row s r) (row u r) (fun l => v (ix2 r ⟨384 + l.val, by omega⟩)) l * Ideal.ofBits .f32 0x3E000000#32 := by
  pointwise [k0_pay22, turn, row]
  simp only [rot1, rot2]
theorem pay25_at : k0_pay25 c s u v (ix2 r l) = turn (row c r) (row s r) (row u r) (fun l => v (ix2 r ⟨512 + l.val, by omega⟩)) l * Ideal.ofBits .f32 0x3E000000#32 := by
  pointwise [k0_pay25, turn, row]
  simp only [rot1, rot2]
theorem pay28_at : k0_pay28 c s u v (ix2 r l) = turn (row c r) (row s r) (row u r) (fun l => v (ix2 r ⟨640 + l.val, by omega⟩)) l * Ideal.ofBits .f32 0x3E000000#32 := by
  pointwise [k0_pay28, turn, row]
  simp only [rot1, rot2]
theorem pay32_at : k0_pay32 c s u v (ix2 r l) = turn (row c r) (row s r) (row u r) (fun l => v (ix2 r ⟨768 + l.val, by omega⟩)) l * Ideal.ofBits .f32 0x3E000000#32 := by
  pointwise [k0_pay32, turn, row]
  simp only [rot1, rot2]
theorem pay35_at : k0_pay35 c s u v (ix2 r l) = turn (row c r) (row s r) (row u r) (fun l => v (ix2 r ⟨896 + l.val, by omega⟩)) l := by
  pointwise [k0_pay35, turn, row]
  simp only [rot1, rot2]
theorem pay68_at : k0_pay68 c s u v5 (ix2 r l) = turn (row c r) (row s r) (row u r) (fun l => v5 (ix2 r ⟨256 + l.val, by omega⟩)) l := by
  pointwise [k0_pay68, turn, row]
  simp only [rot1, rot2]
theorem pay40_at (hb : FVec Ideal S256x1024 .bf16) (w1 : FVec Ideal S1024x256 .bf16) :
    k0_pay40 hb c s u w1 (ix2 l r) = turn (row c r) (row s r) (row u r) (fun l => ∑ k, hb (ix2 r k) * w1 (ix2 k ⟨l.val, by omega⟩)) l := by
  pointwise [k0_pay40, k0_pay39, turn, row]
  simp only [rot1, rot2]
theorem pay46_at (hb : FVec Ideal S256x1024 .bf16) (w1 : FVec Ideal S1024x256 .bf16) :
    k0_pay46 u (k0_pay43 hb w1) (k0_pay44 hb c w1) (k0_pay45 hb s w1) (ix2 l r) =
      turn (row c r) (row s r) (row u r) (fun l => ∑ k, hb (ix2 r k) * w1 (ix2 k ⟨128 + l.val, by omega⟩)) l := by
  pointwise [k0_pay46, k0_pay43, k0_pay44, k0_pay45, k0_pay39, turn, row]
  simp only [rot1, rot2]
theorem pay60_at (hb : FVec Ideal S256x1024 .bf16) (w1 : FVec Ideal S1024x512 .bf16) :
    k0_pay60 hb c s u w1 (ix2 r l) = turn (row c r) (row s r) (row u r) (fun l => ∑ k, hb (ix2 r k) * w1 (ix2 k ⟨l.val, by omega⟩)) l := by
  pointwise [k0_pay60, k0_pay59, turn, row]
  simp only [rot1, rot2]
theorem pay65_at (hb : FVec Ideal S256x1024 .bf16) (w1 : FVec Ideal S1024x512 .bf16) :
    k0_pay65 u (k0_pay63 hb w1) (k0_pay64 hb c s w1) (ix2 r l) =
      turn (row c r) (row s r) (row u r) (fun l => ∑ k, hb (ix2 r k) * w1 (ix2 k ⟨128 + l.val, by omega⟩)) l := by
  pointwise [k0_pay65, k0_pay63, k0_pay64, k0_pay59, turn, row]
  simp only [rot1, rot2]
theorem pay73_at : k0_pay73 u (k0_pay71 v5) (k0_pay72 c s v5) (ix2 r l) =
      turn (row c r) (row s r) (row u r) (fun l => v5 (ix2 r ⟨384 + l.val, by omega⟩)) l := by
  pointwise [k0_pay73, k0_pay71, k0_pay72, turn, row]
  simp only [rot1, rot2]
theorem pay76_at (hb : FVec Ideal S256x1024 .bf16) (w1 : FVec Ideal S1024x128 .bf16) :
    k0_pay76 hb c s u w1 (ix2 r l) = if l.val < 64 then turn (row c r) (row s r) (row u r) (fun l => ∑ k, hb (ix2 r k) * w1 (ix2 k l)) l
      else ∑ k, hb (ix2 r k) * w1 (ix2 k l) := by
  pointwise [k0_pay76, turn, row]
  simp only [rot1, rot2]
  exact sel_lt ..
end

theorem row85 (r : Fin 256) : row (k0_pay85 b0 b1 b2 b3 b4 b5 b6 b7) r = fun l => pb (k0_pay80 b0 b1 b2 b3 b4 b5 b6 b7) b4 r ⟨l.val, by omega⟩ := by
  funext l; pointwise [k0_pay85, k0_pay11, k0_pay10, row, pb, k0_pay80]

/-! The blocks of the results. -/

/-- The scaled queries. -/
theorem q_at (z : Fin 1) (h : Fin 16) (r : Fin 256) (d : Fin 64) : out0_8 b0 b1 b2 b3 b4 b5 b6 b7 (ix4 z h r d) = turn (row b5 r) (row b6 r) (row b7 r) (fun l => pb (k0_pay80 b0 b1 b2 b3 b4 b5 b6 b7) b4 r ⟨128 * (h.val / 2) + l.val, by omega⟩) ⟨64 * (h.val % 2) + d.val, by omega⟩ * Ideal.ofBits .f32 0x3E000000#32 := by
  canon_tiles x k
  all_goals
    idx_vars x
    obtain rfl : r = x2 := Fin.ext (by simpa using k2)
    obtain rfl : d = x3 := Fin.ext (by simpa using k3)
    obtain rfl : x1 = 0 := Fin.ext (by omega)
    simp only [Fin.val_zero, Nat.add_zero] at k1
    simp only [k1, Nat.reduceDiv, Nat.reduceMod, Nat.reduceMul, Nat.zero_add]
    pointwise [k0_pay13, k0_pay14, k0_pay16, k0_pay17, k0_pay18, k0_pay20, k0_pay21, k0_pay23, k0_pay24, k0_pay26, k0_pay27, k0_pay29, k0_pay30, k0_pay31, k0_pay33, k0_pay34, k0_pay37, k0_pay38]
    simp only [pay12_at, pay15_at, pay19_at, pay22_at, pay25_at, pay28_at, pay32_at, pay36_at, k0_pay86, pay35_at, row81, row82, row83, row85, pay84_at]

/-- The keys, transposed. -/
theorem k_at (z : Fin 1) (n r : Fin 256) : out0_9 b0 b1 b2 b3 b4 b5 b6 b7 (ix3 z n r) = turn (row b5 r) (row b6 r) (row b7 r) (fun l => pb (k0_pay80 b0 b1 b2 b3 b4 b5 b6 b7) b4 r ⟨1024 + (128 * (n.val / 128) + l.val), by omega⟩) ⟨n.val % 128, by omega⟩ := by
  canon_tiles x k
  all_goals
    idx_vars x
    obtain rfl : r = x2 := Fin.ext (by simpa using k2)
  · have ha : n.val / 128 = 1 := by have := x1.isLt; have : n.val = 128 + x1.val := k1; omega
    have hb : n.val % 128 = x1.val := by have := x1.isLt; have : n.val = 128 + x1.val := k1; omega
    simp only [ha, hb, Nat.mul_one]
    pointwise [k0_pay47, k0_pay87, k0_pay88, k0_pay89]
    simp only [pay46_at, row81, row82, row83]
    pointwise [pb]
  · have ha : n.val / 128 = 0 := by have := x1.isLt; have : n.val = x1.val := by simpa using k1
                                    omega
    have hb : n.val % 128 = x1.val := by have := x1.isLt; have : n.val = x1.val := by simpa using k1
                                         omega
    simp only [ha, hb, Nat.mul_zero, Nat.zero_add]
    pointwise [k0_pay41]
    simp only [pay40_at, row81, row82, row83]
    pointwise [pb]

/-- The keys, transposed, in the narrow format. -/
theorem kb_at (z : Fin 1) (n r : Fin 256) : out0_10 b0 b1 b2 b3 b4 b5 b6 b7 (ix3 z n r) = turn (row b5 r) (row b6 r) (row b7 r) (fun l => pb (k0_pay80 b0 b1 b2 b3 b4 b5 b6 b7) b4 r ⟨1024 + (128 * (n.val / 128) + l.val), by omega⟩) ⟨n.val % 128, by omega⟩ := by
  canon_tiles x k
  all_goals
    idx_vars x
    obtain rfl : r = x2 := Fin.ext (by simpa using k2)
  · have ha : n.val / 128 = 1 := by have := x1.isLt; have : n.val = 128 + x1.val := k1; omega
    have hb : n.val % 128 = x1.val := by have := x1.isLt; have : n.val = 128 + x1.val := k1; omega
    simp only [ha, hb, Nat.mul_one]
    pointwise [k0_pay48, k0_pay87, k0_pay88, k0_pay89]
    simp only [pay46_at, row81, row82, row83]
    pointwise [pb]
  · have ha : n.val / 128 = 0 := by have := x1.isLt; have : n.val = x1.val := by simpa using k1
                                    omega
    have hb : n.val % 128 = x1.val := by have := x1.isLt; have : n.val = x1.val := by simpa using k1
                                         omega
    simp only [ha, hb, Nat.mul_zero, Nat.zero_add]
    pointwise [k0_pay42]
    simp only [pay40_at, row81, row82, row83]
    pointwise [pb]

/-- The values, transposed. -/
theorem v_at (z : Fin 1) (n r : Fin 256) : out0_11 b0 b1 b2 b3 b4 b5 b6 b7 (ix3 z n r) = pb (k0_pay80 b0 b1 b2 b3 b4 b5 b6 b7) b4 r ⟨1280 + n.val, by omega⟩ := by
  canon_tiles x k
  all_goals
    idx_vars x
    obtain rfl : r = x2 := Fin.ext (by simpa using k2)
    have k1' : n.val = _ := k1
    simp only [k1']
    pointwise [k0_pay50, k0_pay51, k0_pay49, pb]
    try simp only [← Nat.add_assoc, Nat.reduceAdd]

/-- The values of each head, then a one, then zeros. -/
theorem ve_at (z : Fin 1) (h : Fin 4) (r : Fin 256) (d : Fin 128) : out0_12 b0 b1 b2 b3 b4 b5 b6 b7 (ix4 z h r d) = if d.val < 64 then pb (k0_pay80 b0 b1 b2 b3 b4 b5 b6 b7) b4 r ⟨1280 + (h.val * 64 + d.val % 64), by omega⟩ else if d.val = 64 then 1 else 0 := by
  canon_tiles x k
  all_goals
    idx_vars x
    obtain rfl : r = x2 := Fin.ext (by simpa using k2)
    obtain rfl : d = x3 := Fin.ext (by simpa using k3)
    obtain rfl : x1 = 0 := Fin.ext (by omega)
    simp only [Fin.val_zero, Nat.add_zero] at k1
    simp only [k1, Nat.reduceMul, Nat.zero_add]
    pointwise [k0_pay52, k0_pay53, k0_pay54, k0_pay55, k0_pay56, k0_pay57, k0_pay58, k0_pay90]
    simp only [sel_lt, sel_eq]
    by_cases hd : d.val < 64
    · simp only [if_pos hd]
      exact (pay91_at _ _ _ _ _ _ _ _ r ⟨_, _⟩).trans (congrArg (pb _ _ _) (Fin.ext (by dsimp only; omega)))
    · simp only [if_neg hd]

/-- The index queries. -/
theorem iq_at (z : Fin 1) (h : Fin 8) (r : Fin 256) (d : Fin 64) : out0_13 b0 b1 b2 b3 b4 b5 b6 b7 (ix4 z h r d) = turn (row b5 r) (row b6 r) (row b7 r) (fun l => pb (k0_pay80 b0 b1 b2 b3 b4 b5 b6 b7) b4 r ⟨1536 + (128 * (h.val / 2) + l.val), by omega⟩) ⟨64 * (h.val % 2) + d.val, by omega⟩ := by
  canon_tiles x k
  all_goals
    idx_vars x
    obtain rfl : r = x2 := Fin.ext (by simpa using k2)
    obtain rfl : d = x3 := Fin.ext (by simpa using k3)
    obtain rfl : x1 = 0 := Fin.ext (by omega)
    simp only [Fin.val_zero, Nat.add_zero] at k1
    simp only [k1, Nat.reduceDiv, Nat.reduceMod, Nat.reduceMul, Nat.zero_add]
    pointwise [k0_pay61, k0_pay62, k0_pay66, k0_pay67, k0_pay69, k0_pay70, k0_pay74, k0_pay75, k0_pay93, k0_pay94, k0_pay95, k0_pay96]
    simp only [pay60_at, pay65_at, pay68_at, pay73_at, pay92_at, row81, row82, row83]
    try pointwise [pb]
    try simp only [← Nat.add_assoc, Nat.reduceAdd]

/-- The index keys, transposed. -/
theorem ik_at (z : Fin 1) (n : Fin 64) (r : Fin 256) : out0_14 b0 b1 b2 b3 b4 b5 b6 b7 (ix3 z n r) = turn (row b5 r) (row b6 r) (row b7 r) (fun l => pb (k0_pay80 b0 b1 b2 b3 b4 b5 b6 b7) b4 r ⟨2048 + l.val, by omega⟩) ⟨n.val, by omega⟩ := by
  frame_out
  pointwise [k0_pay78, k0_pay77]
  simp only [pay76_at, row81, row82, row83]
  rw [if_pos (by exact n.isLt)]
  pointwise [pb]

/-- The index keys, transposed, in the narrow format. -/
theorem ikb_at (z : Fin 1) (n : Fin 64) (r : Fin 256) : out0_15 b0 b1 b2 b3 b4 b5 b6 b7 (ix3 z n r) = turn (row b5 r) (row b6 r) (row b7 r) (fun l => pb (k0_pay80 b0 b1 b2 b3 b4 b5 b6 b7) b4 r ⟨2048 + l.val, by omega⟩) ⟨n.val, by omega⟩ := by
  frame_out
  pointwise [k0_pay1, k0_pay79, k0_pay77]
  simp only [pay76_at, row81, row82, row83]
  rw [if_pos (by exact n.isLt)]
  pointwise [pb]

/-- The index keys, then further columns as they are. -/
theorem mi_at (r : Fin 256) (l : Fin 128) : out0_16 b0 b1 b2 b3 b4 b5 b6 b7 (ix2 r l) = if l.val < 64 then turn (row b5 r) (row b6 r) (row b7 r) (fun l => pb (k0_pay80 b0 b1 b2 b3 b4 b5 b6 b7) b4 r ⟨2048 + l.val, by omega⟩) l else pb (k0_pay80 b0 b1 b2 b3 b4 b5 b6 b7) b4 r ⟨2048 + l.val, by omega⟩ := by
  frame_out
  rw [pay76_at, row81, row82, row83]
  pointwise [pb]

/-- The recurrence's gate. -/
theorem z_at (r : Fin 256) (n : Fin 1024) : out0_17 b0 b1 b2 b3 b4 b5 b6 b7 (ix2 r n) = pb (k0_pay80 b0 b1 b2 b3 b4 b5 b6 b7) b4 r ⟨2176 + n.val, by omega⟩ := by
  frame_out
  pointwise [k0_pay2, pb]

/-- The recurrence's inputs. -/
theorem xbc_at (r : Fin 256) (n : Fin 2048) : out0_18 b0 b1 b2 b3 b4 b5 b6 b7 (ix2 r n) = pb (k0_pay80 b0 b1 b2 b3 b4 b5 b6 b7) b4 r ⟨3200 + n.val, by omega⟩ := by
  frame_out
  pointwise [k0_pay3, pb]

/-- The attention's gate. -/
theorem ga_at (r : Fin 256) (n : Fin 1024) : out0_19 b0 b1 b2 b3 b4 b5 b6 b7 (ix2 r n) = pb (k0_pay80 b0 b1 b2 b3 b4 b5 b6 b7) b4 r ⟨5248 + n.val, by omega⟩ := by
  frame_out
  pointwise [k0_pay4, pb]

/-- The recurrence's output gate. -/
theorem gs_at (r : Fin 256) (n : Fin 1024) : out0_20 b0 b1 b2 b3 b4 b5 b6 b7 (ix2 r n) = pb (k0_pay80 b0 b1 b2 b3 b4 b5 b6 b7) b4 r ⟨6272 + n.val, by omega⟩ := by
  frame_out
  pointwise [k0_pay5, pb]

end Cert.InprojIdeal.Block
-- ==== Proof.Inproj.Host.lean ====
/- What the host operations before the in-projection call leave in its operands, entry by entry. -/
module

public import proofs.«01_k».proof.Proof.Inproj.Rows
public import proofs.«01_k».proof.Proof.Gen.InprojIdeal.Value
public import Idealize.ShloMosaic.Lib.Claim
public import Idealize.ShloMosaic.Lib.StableHlo.RunRead

@[expose] public section

set_option maxRecDepth 16384
noncomputable section

namespace Cert.InprojIdeal.Host

open Idealize.ShloMosaic Idealize.ShloMosaic.TcCoe Idealize.SL.Sem
open Idealize.ShloMosaic.Pipeline (Dat)
open Cert.InprojIdeal Cert.InprojIdeal.Gen
open Cert.Mlp Cert.Inproj

open Idealize.ShloMosaic.StableHlo

variable (V0 : Valuation τ sig (Elt Ideal))

theorem cat0 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 1024) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨0 + n.val, by omega⟩) = a0 (ix2 k n) := by
  pointwise []

theorem cat1 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 256) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨1024 + n.val, by omega⟩) = a1 (ix2 k n) := by
  pointwise []
  repeat first
    | rw [dif_neg (by omega)]
    | rw [dif_pos (by omega)]
  try exact congrArg _ (congrArg (ix2 k) (Fin.ext (by dsimp only; omega)))

theorem cat2 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 256) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨1280 + n.val, by omega⟩) = a2 (ix2 k n) := by
  pointwise []
  repeat first
    | rw [dif_neg (by omega)]
    | rw [dif_pos (by omega)]
  try exact congrArg _ (congrArg (ix2 k) (Fin.ext (by dsimp only; omega)))

theorem cat3 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 512) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨1536 + n.val, by omega⟩) = a3 (ix2 k n) := by
  pointwise []
  repeat first
    | rw [dif_neg (by omega)]
    | rw [dif_pos (by omega)]
  try exact congrArg _ (congrArg (ix2 k) (Fin.ext (by dsimp only; omega)))

theorem cat4 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 128) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨2048 + n.val, by omega⟩) = a4 (ix2 k n) := by
  pointwise []
  repeat first
    | rw [dif_neg (by omega)]
    | rw [dif_pos (by omega)]
  try exact congrArg _ (congrArg (ix2 k) (Fin.ext (by dsimp only; omega)))

theorem cat5 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 1024) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨2176 + n.val, by omega⟩) = a5 (ix2 k n) := by
  pointwise []
  repeat first
    | rw [dif_neg (by omega)]
    | rw [dif_pos (by omega)]
  try exact congrArg _ (congrArg (ix2 k) (Fin.ext (by dsimp only; omega)))

theorem cat6 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 2048) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨3200 + n.val, by omega⟩) = a6 (ix2 k n) := by
  pointwise []
  repeat first
    | rw [dif_neg (by omega)]
    | rw [dif_pos (by omega)]
  try exact congrArg _ (congrArg (ix2 k) (Fin.ext (by dsimp only; omega)))

theorem cat7 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 1024) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨5248 + n.val, by omega⟩) = a7 (ix2 k n) := by
  pointwise []
  repeat first
    | rw [dif_neg (by omega)]
    | rw [dif_pos (by omega)]
  try exact congrArg _ (congrArg (ix2 k) (Fin.ext (by dsimp only; omega)))

theorem cat8 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 1024) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨6272 + n.val, by omega⟩) = a8 (ix2 k n) := by
  pointwise []
  repeat first
    | rw [dif_neg (by omega)]
    | rw [dif_pos (by omega)]
  try exact congrArg _ (congrArg (ix2 k) (Fin.ext (by dsimp only; omega)))

theorem w0 (k : Fin 1024) (n : Fin 1024) : (after (hostOps0 (F := Ideal)) V0 (Proc.devRef .tc main_v15) : FVec Ideal S1024x7296 .bf16) (ix2 k ⟨0 + n.val, by omega⟩) = (V0 (Proc.devRef .tc main_arg4) : FVec Ideal S1x1024x7256 .f32) (ix3 0 k ⟨0 + n.val, by omega⟩) := by
  after_reads_simp
  refine (cat0 _ _ _ _ _ _ _ _ _ k n).trans ?_
  show (upto hostOps0 V0 15 (Proc.devRef .tc main_v1) : FVec Ideal S1024x1024 .f32) (ix2 k n) = _
  after_reads_simp
  pointwise []

theorem w1 (k : Fin 1024) (n : Fin 256) : (after (hostOps0 (F := Ideal)) V0 (Proc.devRef .tc main_v15) : FVec Ideal S1024x7296 .bf16) (ix2 k ⟨1024 + n.val, by omega⟩) = (V0 (Proc.devRef .tc main_arg4) : FVec Ideal S1x1024x7256 .f32) (ix3 0 k ⟨1024 + n.val, by omega⟩) := by
  after_reads_simp
  refine (cat1 _ _ _ _ _ _ _ _ _ k n).trans ?_
  show (upto hostOps0 V0 15 (Proc.devRef .tc main_v2) : FVec Ideal S1024x256 .f32) (ix2 k n) = _
  after_reads_simp
  pointwise []

theorem w2 (k : Fin 1024) (n : Fin 256) : (after (hostOps0 (F := Ideal)) V0 (Proc.devRef .tc main_v15) : FVec Ideal S1024x7296 .bf16) (ix2 k ⟨1280 + n.val, by omega⟩) = (V0 (Proc.devRef .tc main_arg4) : FVec Ideal S1x1024x7256 .f32) (ix3 0 k ⟨1280 + n.val, by omega⟩) := by
  after_reads_simp
  refine (cat2 _ _ _ _ _ _ _ _ _ k n).trans ?_
  show (upto hostOps0 V0 15 (Proc.devRef .tc main_v3) : FVec Ideal S1024x256 .f32) (ix2 k n) = _
  after_reads_simp
  pointwise []

theorem w3 (k : Fin 1024) (n : Fin 512) : (after (hostOps0 (F := Ideal)) V0 (Proc.devRef .tc main_v15) : FVec Ideal S1024x7296 .bf16) (ix2 k ⟨1536 + n.val, by omega⟩) = (V0 (Proc.devRef .tc main_arg4) : FVec Ideal S1x1024x7256 .f32) (ix3 0 k ⟨1536 + n.val, by omega⟩) := by
  after_reads_simp
  refine (cat3 _ _ _ _ _ _ _ _ _ k n).trans ?_
  show (upto hostOps0 V0 15 (Proc.devRef .tc main_v4) : FVec Ideal S1024x512 .f32) (ix2 k n) = _
  after_reads_simp
  pointwise []

theorem w5 (k : Fin 1024) (n : Fin 1024) : (after (hostOps0 (F := Ideal)) V0 (Proc.devRef .tc main_v15) : FVec Ideal S1024x7296 .bf16) (ix2 k ⟨2176 + n.val, by omega⟩) = (V0 (Proc.devRef .tc main_arg4) : FVec Ideal S1x1024x7256 .f32) (ix3 0 k ⟨2120 + n.val, by omega⟩) := by
  after_reads_simp
  refine (cat5 _ _ _ _ _ _ _ _ _ k n).trans ?_
  show (upto hostOps0 V0 15 (Proc.devRef .tc main_v7) : FVec Ideal S1024x1024 .f32) (ix2 k n) = _
  after_reads_simp
  pointwise []

theorem w6 (k : Fin 1024) (n : Fin 2048) : (after (hostOps0 (F := Ideal)) V0 (Proc.devRef .tc main_v15) : FVec Ideal S1024x7296 .bf16) (ix2 k ⟨3200 + n.val, by omega⟩) = (V0 (Proc.devRef .tc main_arg4) : FVec Ideal S1x1024x7256 .f32) (ix3 0 k ⟨3144 + n.val, by omega⟩) := by
  after_reads_simp
  refine (cat6 _ _ _ _ _ _ _ _ _ k n).trans ?_
  show (upto hostOps0 V0 15 (Proc.devRef .tc main_v8) : FVec Ideal S1024x2048 .f32) (ix2 k n) = _
  after_reads_simp
  pointwise []

theorem w7 (k : Fin 1024) (n : Fin 1024) : (after (hostOps0 (F := Ideal)) V0 (Proc.devRef .tc main_v15) : FVec Ideal S1024x7296 .bf16) (ix2 k ⟨5248 + n.val, by omega⟩) = (V0 (Proc.devRef .tc main_arg4) : FVec Ideal S1x1024x7256 .f32) (ix3 0 k ⟨5208 + n.val, by omega⟩) := by
  after_reads_simp
  refine (cat7 _ _ _ _ _ _ _ _ _ k n).trans ?_
  show (upto hostOps0 V0 15 (Proc.devRef .tc main_v10) : FVec Ideal S1024x1024 .f32) (ix2 k n) = _
  after_reads_simp
  pointwise []

theorem w8 (k : Fin 1024) (n : Fin 1024) : (after (hostOps0 (F := Ideal)) V0 (Proc.devRef .tc main_v15) : FVec Ideal S1024x7296 .bf16) (ix2 k ⟨6272 + n.val, by omega⟩) = (V0 (Proc.devRef .tc main_arg4) : FVec Ideal S1x1024x7256 .f32) (ix3 0 k ⟨6232 + n.val, by omega⟩) := by
  after_reads_simp
  refine (cat8 _ _ _ _ _ _ _ _ _ k n).trans ?_
  show (upto hostOps0 V0 15 (Proc.devRef .tc main_v11) : FVec Ideal S1024x1024 .f32) (ix2 k n) = _
  after_reads_simp
  pointwise []

theorem dog0 (a0 : FVec Ideal S1024x64 .f32) (a1 : FVec Ideal S1024x8 .f32) (a2 : FVec Ideal S1024x16 .f32) (a3 : FVec Ideal S1024x40 .f32) (k : Fin 1024) (n : Fin 64) : (concatenate S1024x128 1 [⟨S1024x64, a0⟩, ⟨S1024x8, a1⟩, ⟨S1024x16, a2⟩, ⟨S1024x40, a3⟩] concatenates_S1024x64_S1024x8_S1024x16_S1024x40_S1024x128_d1 : FVec Ideal S1024x128 .f32) (ix2 k ⟨0 + n.val, by omega⟩) = a0 (ix2 k n) := by
  pointwise []

theorem u0 (k : Fin 1024) (n : Fin 64) : (after (hostOps0 (F := Ideal)) V0 (Proc.devRef .tc main_v15) : FVec Ideal S1024x7296 .bf16) (ix2 k ⟨2048 + n.val, by omega⟩) = (V0 (Proc.devRef .tc main_arg4) : FVec Ideal S1x1024x7256 .f32) (ix3 0 k ⟨2048 + n.val, by omega⟩) := by
  after_reads_simp
  refine (congrArg (concatenate S1024x7296 1 _ _ : FVec Ideal S1024x7296 .f32) (congrArg (ix2 k) (Fin.ext (by dsimp only; omega) : (⟨2048 + n.val, by omega⟩ : Fin 7296) = ⟨2048 + (0 + n.val), by omega⟩))).trans ((cat4 _ _ _ _ _ _ _ _ _ k ⟨0 + n.val, by omega⟩).trans ?_)
  show (upto hostOps0 V0 15 (Proc.devRef .tc main_v13) : FVec Ideal S1024x128 .f32) (ix2 k _) = _
  after_reads_simp
  refine (dog0 _ _ _ _ k n).trans ?_
  show (upto hostOps0 V0 14 (Proc.devRef .tc main_v5) : FVec Ideal S1024x64 .f32) (ix2 k n) = _
  after_reads_simp
  pointwise []

theorem dog1 (a0 : FVec Ideal S1024x64 .f32) (a1 : FVec Ideal S1024x8 .f32) (a2 : FVec Ideal S1024x16 .f32) (a3 : FVec Ideal S1024x40 .f32) (k : Fin 1024) (n : Fin 8) : (concatenate S1024x128 1 [⟨S1024x64, a0⟩, ⟨S1024x8, a1⟩, ⟨S1024x16, a2⟩, ⟨S1024x40, a3⟩] concatenates_S1024x64_S1024x8_S1024x16_S1024x40_S1024x128_d1 : FVec Ideal S1024x128 .f32) (ix2 k ⟨64 + n.val, by omega⟩) = a1 (ix2 k n) := by
  pointwise []
  repeat first
    | rw [dif_neg (by omega)]
    | rw [dif_pos (by omega)]
  try exact congrArg _ (congrArg (ix2 k) (Fin.ext (by dsimp only; omega)))

theorem u1 (k : Fin 1024) (n : Fin 8) : (after (hostOps0 (F := Ideal)) V0 (Proc.devRef .tc main_v15) : FVec Ideal S1024x7296 .bf16) (ix2 k ⟨2112 + n.val, by omega⟩) = (V0 (Proc.devRef .tc main_arg4) : FVec Ideal S1x1024x7256 .f32) (ix3 0 k ⟨2112 + n.val, by omega⟩) := by
  after_reads_simp
  refine (congrArg (concatenate S1024x7296 1 _ _ : FVec Ideal S1024x7296 .f32) (congrArg (ix2 k) (Fin.ext (by dsimp only; omega) : (⟨2112 + n.val, by omega⟩ : Fin 7296) = ⟨2048 + (64 + n.val), by omega⟩))).trans ((cat4 _ _ _ _ _ _ _ _ _ k ⟨64 + n.val, by omega⟩).trans ?_)
  show (upto hostOps0 V0 15 (Proc.devRef .tc main_v13) : FVec Ideal S1024x128 .f32) (ix2 k _) = _
  after_reads_simp
  refine (dog1 _ _ _ _ k n).trans ?_
  show (upto hostOps0 V0 14 (Proc.devRef .tc main_v6) : FVec Ideal S1024x8 .f32) (ix2 k n) = _
  after_reads_simp
  pointwise []

theorem dog2 (a0 : FVec Ideal S1024x64 .f32) (a1 : FVec Ideal S1024x8 .f32) (a2 : FVec Ideal S1024x16 .f32) (a3 : FVec Ideal S1024x40 .f32) (k : Fin 1024) (n : Fin 16) : (concatenate S1024x128 1 [⟨S1024x64, a0⟩, ⟨S1024x8, a1⟩, ⟨S1024x16, a2⟩, ⟨S1024x40, a3⟩] concatenates_S1024x64_S1024x8_S1024x16_S1024x40_S1024x128_d1 : FVec Ideal S1024x128 .f32) (ix2 k ⟨72 + n.val, by omega⟩) = a2 (ix2 k n) := by
  pointwise []
  repeat first
    | rw [dif_neg (by omega)]
    | rw [dif_pos (by omega)]
  try exact congrArg _ (congrArg (ix2 k) (Fin.ext (by dsimp only; omega)))

theorem u2 (k : Fin 1024) (n : Fin 16) : (after (hostOps0 (F := Ideal)) V0 (Proc.devRef .tc main_v15) : FVec Ideal S1024x7296 .bf16) (ix2 k ⟨2120 + n.val, by omega⟩) = (V0 (Proc.devRef .tc main_arg4) : FVec Ideal S1x1024x7256 .f32) (ix3 0 k ⟨5192 + n.val, by omega⟩) := by
  after_reads_simp
  refine (congrArg (concatenate S1024x7296 1 _ _ : FVec Ideal S1024x7296 .f32) (congrArg (ix2 k) (Fin.ext (by dsimp only; omega) : (⟨2120 + n.val, by omega⟩ : Fin 7296) = ⟨2048 + (72 + n.val), by omega⟩))).trans ((cat4 _ _ _ _ _ _ _ _ _ k ⟨72 + n.val, by omega⟩).trans ?_)
  show (upto hostOps0 V0 15 (Proc.devRef .tc main_v13) : FVec Ideal S1024x128 .f32) (ix2 k _) = _
  after_reads_simp
  refine (dog2 _ _ _ _ k n).trans ?_
  show (upto hostOps0 V0 14 (Proc.devRef .tc main_v9) : FVec Ideal S1024x16 .f32) (ix2 k n) = _
  after_reads_simp
  pointwise []

theorem dog3 (a0 : FVec Ideal S1024x64 .f32) (a1 : FVec Ideal S1024x8 .f32) (a2 : FVec Ideal S1024x16 .f32) (a3 : FVec Ideal S1024x40 .f32) (k : Fin 1024) (n : Fin 40) : (concatenate S1024x128 1 [⟨S1024x64, a0⟩, ⟨S1024x8, a1⟩, ⟨S1024x16, a2⟩, ⟨S1024x40, a3⟩] concatenates_S1024x64_S1024x8_S1024x16_S1024x40_S1024x128_d1 : FVec Ideal S1024x128 .f32) (ix2 k ⟨88 + n.val, by omega⟩) = a3 (ix2 k n) := by
  pointwise []
  repeat first
    | rw [dif_neg (by omega)]
    | rw [dif_pos (by omega)]
  try exact congrArg _ (congrArg (ix2 k) (Fin.ext (by dsimp only; omega)))

theorem u3 (k : Fin 1024) (n : Fin 40) : (after (hostOps0 (F := Ideal)) V0 (Proc.devRef .tc main_v15) : FVec Ideal S1024x7296 .bf16) (ix2 k ⟨2136 + n.val, by omega⟩) = (0 : EReal) := by
  after_reads_simp
  refine (congrArg (concatenate S1024x7296 1 _ _ : FVec Ideal S1024x7296 .f32) (congrArg (ix2 k) (Fin.ext (by dsimp only; omega) : (⟨2136 + n.val, by omega⟩ : Fin 7296) = ⟨2048 + (88 + n.val), by omega⟩))).trans ((cat4 _ _ _ _ _ _ _ _ _ k ⟨88 + n.val, by omega⟩).trans ?_)
  show (upto hostOps0 V0 15 (Proc.devRef .tc main_v13) : FVec Ideal S1024x128 .f32) (ix2 k _) = _
  after_reads_simp
  refine (dog3 _ _ _ _ k n).trans ?_
  show (upto hostOps0 V0 14 (Proc.devRef .tc main_v12) : FVec Ideal S1024x40 .f32) (ix2 k n) = _
  after_reads_simp
  pointwise []

theorem tab_at (a b : FVec Ideal S8192x8 .f32) (o : FVec Ideal S8192x48 .f32) (p : Fin 8192) (l : Fin 128) :
    shapeCast S8192x128 (broadcastInDim S1x8192x2x64 ![0, 1, 2, 3] bcast_S1x8192x1x64_S1x8192x2x64_0_1_2_3 (fun i => shapeCast S1x8192x1x64
      (concatenate S8192x64 1 [⟨S8192x8, a⟩, ⟨S8192x8, b⟩, ⟨S8192x48, o⟩] concatenates_S8192x8_S8192x8_S8192x48_S8192x64_d1) shapeCasts_S8192x64_S1x8192x1x64 i) : FVec Ideal S1x8192x2x64 .f32) shapeCasts_S1x8192x2x64_S8192x128 (ix2 p l)
      = if h : l.val % 64 < 8 then a (ix2 p ⟨l.val % 64, h⟩) else if h' : l.val % 64 - 8 < 8 then b (ix2 p ⟨l.val % 64 - 8, h'⟩) else o (ix2 p ⟨l.val % 64 - 8 - 8, by omega⟩) := by
  pointwise []

theorem tab_c (p : Fin 8192) (l : Fin 128) : (after (hostOps0 (F := Ideal)) V0 (Proc.devRef .tc main_v43) : FVec Ideal S8192x128 .f32) (ix2 p l) = tabC (fun j => Ideal.cos (ang p.val j)) l := by
  after_reads_simp
  refine (tab_at _ _ _ p l).trans ?_
  show (if h : l.val % 64 < 8 then (upto hostOps0 V0 44 (Proc.devRef .tc main_v32) : FVec Ideal S8192x8 .f32) (ix2 p ⟨l.val % 64, h⟩)
    else if h' : l.val % 64 - 8 < 8 then (upto hostOps0 V0 44 (Proc.devRef .tc main_v32) : FVec Ideal S8192x8 .f32) (ix2 p ⟨l.val % 64 - 8, h'⟩)
    else (upto hostOps0 V0 44 (Proc.devRef .tc main_v34) : FVec Ideal S8192x48 .f32) (ix2 p ⟨l.val % 64 - 8 - 8, by omega⟩)) = _
  after_reads_simp
  pointwise [ang, tabC, tabS, tabU]
  by_cases h1 : l.val % 64 < 8
  · have e : l.val % 8 = l.val % 64 := by omega
    rw [dif_pos h1, if_pos (by omega)] <;> rw [e]
  · by_cases h2 : l.val % 64 - 8 < 8
    · have e : l.val % 8 = l.val % 64 - 8 := by omega
      rw [dif_neg h1, dif_pos h2, if_pos (by omega)] <;> rw [e]
    · rw [dif_neg h1, dif_neg h2, if_neg (by omega)]

theorem tab_s (p : Fin 8192) (l : Fin 128) : (after (hostOps0 (F := Ideal)) V0 (Proc.devRef .tc main_v46) : FVec Ideal S8192x128 .f32) (ix2 p l) = tabS (fun j => Ideal.sin (ang p.val j)) l := by
  after_reads_simp
  refine (tab_at _ _ _ p l).trans ?_
  show (if h : l.val % 64 < 8 then (upto hostOps0 V0 46 (Proc.devRef .tc main_v38) : FVec Ideal S8192x8 .f32) (ix2 p ⟨l.val % 64, h⟩)
    else if h' : l.val % 64 - 8 < 8 then (upto hostOps0 V0 46 (Proc.devRef .tc main_v36) : FVec Ideal S8192x8 .f32) (ix2 p ⟨l.val % 64 - 8, h'⟩)
    else (upto hostOps0 V0 46 (Proc.devRef .tc main_v35) : FVec Ideal S8192x48 .f32) (ix2 p ⟨l.val % 64 - 8 - 8, by omega⟩)) = _
  after_reads_simp
  pointwise [ang, tabC, tabS, tabU]
  by_cases h1 : l.val % 64 < 8
  · have e : l.val % 8 = l.val % 64 := by omega
    rw [dif_pos h1, if_pos (by omega)] <;> rw [e]
  · by_cases h2 : l.val % 64 - 8 < 8
    · have e : l.val % 8 = l.val % 64 - 8 := by omega
      rw [dif_neg h1, dif_pos h2, if_neg (by omega)]
    · rw [dif_neg h1, dif_neg h2, if_neg (by omega)]

theorem tab_t (p : Fin 8192) (l : Fin 128) : (after (hostOps0 (F := Ideal)) V0 (Proc.devRef .tc main_v49) : FVec Ideal S8192x128 .f32) (ix2 p l) = tabU (fun j => Ideal.sin (ang p.val j)) l := by
  after_reads_simp
  refine (tab_at _ _ _ p l).trans ?_
  show (if h : l.val % 64 < 8 then (upto hostOps0 V0 47 (Proc.devRef .tc main_v36) : FVec Ideal S8192x8 .f32) (ix2 p ⟨l.val % 64, h⟩)
    else if h' : l.val % 64 - 8 < 8 then (upto hostOps0 V0 47 (Proc.devRef .tc main_v33) : FVec Ideal S8192x8 .f32) (ix2 p ⟨l.val % 64 - 8, h'⟩)
    else (upto hostOps0 V0 47 (Proc.devRef .tc main_v35) : FVec Ideal S8192x48 .f32) (ix2 p ⟨l.val % 64 - 8 - 8, by omega⟩)) = _
  after_reads_simp
  pointwise [ang, tabC, tabS, tabU]
  by_cases h1 : l.val % 64 < 8
  · have e : l.val % 8 = l.val % 64 := by omega
    rw [dif_pos h1, if_neg (by omega)]
  · by_cases h2 : l.val % 64 - 8 < 8
    · have e : l.val % 8 = l.val % 64 - 8 := by omega
      rw [dif_neg h1, dif_pos h2, if_pos (by omega)] <;> rw [e]
    · rw [dif_neg h1, dif_neg h2, if_neg (by omega)]

theorem sc_at (X : FVec Ideal S2x8192x1024 .f32) (n : Fin 16384) (k : Fin 1024) : shapeCast S16384x1024 X shapeCasts_S2x8192x1024_S16384x1024 (ix2 n k) =
    X (ix3 ⟨n.val / 8192, by omega⟩ ⟨n.val % 8192, by omega⟩ k) := by
  pointwise []

theorem x0 (n : Fin 16384) (k : Fin 1024) : (after (hostOps0 (F := Ideal)) V0 (Proc.devRef .tc main_v16) : FVec Ideal S16384x1024 .f32) (ix2 n k) =
    (V0 (Proc.devRef .tc main_arg0) : FVec Ideal S2x8192x1024 .f32) (ix3 ⟨n.val / 8192, by omega⟩ ⟨n.val % 8192, by omega⟩ k) := by
  after_reads_simp
  exact sc_at _ n k

end Cert.InprojIdeal.Host
-- ==== Proof.Inproj.Reads.lean ====
/- Each block of the in-projection call, entry by entry, as entries of the arguments. -/
module

public import proofs.«01_k».proof.Proof.Inproj.Block
public import proofs.«01_k».proof.Proof.Inproj.Host
public import proofs.«01_k».proof.Proof.Gen.InprojIdeal.Value
public import Idealize.ShloMosaic.Lib.Claim
public import Idealize.ShloMosaic.Lib.StableHlo.RunRead

@[expose] public section

set_option maxRecDepth 16384

noncomputable section

namespace Cert.InprojIdeal.Final

open Idealize.ShloMosaic Idealize.ShloMosaic.TcCoe Idealize.SL.Sem
open Idealize.ShloMosaic.Pipeline (Dat)
open Cert.InprojIdeal Cert.InprojIdeal.Gen
open Cert.Mlp Cert.Inproj Cert.InprojIdeal.Block

variable (m : (ℓ : Loc nD τ sig) → Buf (Elt Ideal) ℓ) (c : Dev nD)

/-- Where each window's block lies. -/
theorem idx : ∀ t : Fin cfg0.N, win0_0.index t = ![t.val, 0] ∧ win0_1.index t = ![t.val / 32, 0, 0] ∧ win0_2.index t = ![t.val / 32, 0, 0]
    ∧ win0_3.index t = ![0, 0] ∧ win0_4.index t = ![0, 0] ∧ win0_5.index t = ![t.val % 32, 0] ∧ win0_6.index t = ![t.val % 32, 0]
    ∧ win0_7.index t = ![t.val % 32, 0] ∧ win0_8.index t = ![t.val / 32, 0, t.val % 32, 0] ∧ win0_9.index t = ![t.val / 32, 0, t.val % 32]
    ∧ win0_10.index t = ![t.val / 32, 0, t.val % 32] ∧ win0_11.index t = ![t.val / 32, 0, t.val % 32]
    ∧ win0_12.index t = ![t.val / 32, 0, t.val % 32, 0] ∧ win0_13.index t = ![t.val / 32, 0, t.val % 32, 0]
    ∧ win0_14.index t = ![t.val / 32, 0, t.val % 32] ∧ win0_15.index t = ![t.val / 32, 0, t.val % 32] ∧ win0_16.index t = ![t.val, 0]
    ∧ win0_17.index t = ![t.val, 0] ∧ win0_18.index t = ![t.val, 0] ∧ win0_19.index t = ![t.val, 0] ∧ win0_20.index t = ![t.val, 0] :=
  (by decide +kernel : ∀ t : Fin grid0.N, _)

/-- The batch of block `t`. -/
def bat (t : Fin cfg0.N) : Fin 2 := ⟨t.val / 32, by have := t.isLt; have : cfg0.N = 64 := rfl; omega⟩
/-- The position of row `r` of block `t`. -/
def pos (t : Fin cfg0.N) (r : Fin 256) : Fin 8192 := ⟨256 * (t.val % 32) + r.val, by omega⟩
/-- The token of row `r` of block `t`. -/
def tok (t : Fin cfg0.N) (r : Fin 256) : Fin 16384 := ⟨256 * t.val + r.val, by have := t.isLt; have : cfg0.N = 64 := rfl; omega⟩

/-! Each block, entry by entry. -/

theorem w0 (t : Fin cfg0.N) (r : Fin 256) (k : Fin 1024) : iblk m c 0 t (ix2 r k) = V m c (Pipeline.arrRef spec0 0) (ix2 (tok t r) k) := by
  blk_point [iblk, idx t, tok]
theorem rd0 (t : Fin cfg0.N) (r : Fin 256) (k : Fin 1024) : iblk m c 0 t (ix2 r k) =
    (m ((c.tc : Thread nD τ).loc main_arg0) : FVec Ideal S2x8192x1024 .f32) (ix3 (bat t) (pos t r) k) := by
  refine (w0 m c t r k).trans ((Host.x0 _ (tok t r) k).trans (congrArg _ ?_))
  rw [show (⟨(tok t r).val / 8192, by omega⟩ : Fin 2) = bat t from Fin.ext (by simp only [tok, bat]; omega),
    show (⟨(tok t r).val % 8192, by omega⟩ : Fin 8192) = pos t r from Fin.ext (by simp only [tok, pos]; omega)]
theorem rd1 (t : Fin cfg0.N) (k : Fin 1024) : iblk m c 1 t (ix3 0 0 k) = m ((c.tc : Thread nD τ).loc main_arg1) (ix3 (bat t) 0 k) := by
  blk_point [iblk, V, idx t, bat]
theorem rd2 (t : Fin cfg0.N) (k : Fin 1024) : iblk m c 2 t (ix3 0 0 k) = m ((c.tc : Thread nD τ).loc main_arg2) (ix3 (bat t) 0 k) := by
  blk_point [iblk, V, idx t, bat]
theorem rd3 (t : Fin cfg0.N) (k : Fin 1024) : iblk m c 3 t (ix2 0 k) = m ((c.tc : Thread nD τ).loc main_arg3) (ix2 0 k) := by
  blk_point [iblk, V, idx t]
theorem w4 (t : Fin cfg0.N) (k : Fin 1024) (n : Fin 7296) : iblk m c 4 t (ix2 k n) = V m c (Pipeline.arrRef spec0 4) (ix2 k n) := by
  blk_point [iblk, idx t]
theorem w5 (t : Fin cfg0.N) (r : Fin 256) (l : Fin 128) : iblk m c 5 t (ix2 r l) = V m c (Pipeline.arrRef spec0 5) (ix2 (pos t r) l) := by
  blk_point [iblk, idx t, pos]
theorem rd5 (t : Fin cfg0.N) (r : Fin 256) : row (iblk m c 5 t) r = tabC (fun j => Ideal.cos (ang (pos t r).val j)) :=
  funext fun l => (w5 m c t r l).trans (Host.tab_c _ (pos t r) l)
theorem w6 (t : Fin cfg0.N) (r : Fin 256) (l : Fin 128) : iblk m c 6 t (ix2 r l) = V m c (Pipeline.arrRef spec0 6) (ix2 (pos t r) l) := by
  blk_point [iblk, idx t, pos]
theorem rd6 (t : Fin cfg0.N) (r : Fin 256) : row (iblk m c 6 t) r = tabS (fun j => Ideal.sin (ang (pos t r).val j)) :=
  funext fun l => (w6 m c t r l).trans (Host.tab_s _ (pos t r) l)
theorem w7 (t : Fin cfg0.N) (r : Fin 256) (l : Fin 128) : iblk m c 7 t (ix2 r l) = V m c (Pipeline.arrRef spec0 7) (ix2 (pos t r) l) := by
  blk_point [iblk, idx t, pos]
theorem rd7 (t : Fin cfg0.N) (r : Fin 256) : row (iblk m c 7 t) r = tabU (fun j => Ideal.sin (ang (pos t r).val j)) :=
  funext fun l => (w7 m c t r l).trans (Host.tab_t _ (pos t r) l)

/-! The block's projection is the projection of the block's tokens, column stretch by column stretch. -/

/-- Column `n` of the block's projection. -/
def pbk (t : Fin cfg0.N) (r : Fin 256) (n : Fin 7296) : EReal :=
  pb (k0_pay80 (iblk m c 0 t) (iblk m c 1 t) (iblk m c 2 t) (iblk m c 3 t) (iblk m c 4 t) (iblk m c 5 t) (iblk m c 6 t) (iblk m c 7 t)) (iblk m c 4 t) r n
/-- Column `n` of the projection of a token. -/
def prm (b : Fin 2) (t : Fin 8192) (n : Fin 7256) : EReal :=
  pr (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b t n
/-- A turned head of a token. -/
def hdm (b : Fin 2) (t : Fin 8192) (o : ℕ) (ho : o + 64 ≤ 7256) : Fin 64 → EReal :=
  hd (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b t o ho

theorem pbk_of (t : Fin cfg0.N) (r : Fin 256) (n : Fin 7296) (n' : Fin 7256)
    (h : ∀ k : Fin 1024, iblk m c 4 t (ix2 k n) = (m ((c.tc : Thread nD τ).loc main_arg4) : FVec Ideal S1x1024x7256 .f32) (ix3 0 k n')) :
    pbk m c t r n = prm m c (bat t) (pos t r) n' := by
  unfold pbk pb prm pr
  refine Finset.sum_congr rfl fun k _ => ?_
  rw [pay80_at, h k]
  simp only [rd0, rd1, rd2, rd3]
theorem pbk_zero (t : Fin cfg0.N) (r : Fin 256) (n : Fin 7296) (h : ∀ k : Fin 1024, iblk m c 4 t (ix2 k n) = (0 : EReal)) : pbk m c t r n = 0 := by
  unfold pbk pb
  refine Finset.sum_eq_zero fun k _ => ?_
  rw [h k]; exact mul_zero _

theorem col_w0 (t : Fin cfg0.N) (r : Fin 256) (n : Fin 1024) : pbk m c t r ⟨0 + n.val, by omega⟩ = prm m c (bat t) (pos t r) ⟨0 + n.val, by omega⟩ :=
  pbk_of m c t r _ _ fun k => (w4 m c t k _).trans (Host.w0 _ k n)
theorem col_w1 (t : Fin cfg0.N) (r : Fin 256) (n : Fin 256) : pbk m c t r ⟨1024 + n.val, by omega⟩ = prm m c (bat t) (pos t r) ⟨1024 + n.val, by omega⟩ :=
  pbk_of m c t r _ _ fun k => (w4 m c t k _).trans (Host.w1 _ k n)
theorem col_w2 (t : Fin cfg0.N) (r : Fin 256) (n : Fin 256) : pbk m c t r ⟨1280 + n.val, by omega⟩ = prm m c (bat t) (pos t r) ⟨1280 + n.val, by omega⟩ :=
  pbk_of m c t r _ _ fun k => (w4 m c t k _).trans (Host.w2 _ k n)
theorem col_w3 (t : Fin cfg0.N) (r : Fin 256) (n : Fin 512) : pbk m c t r ⟨1536 + n.val, by omega⟩ = prm m c (bat t) (pos t r) ⟨1536 + n.val, by omega⟩ :=
  pbk_of m c t r _ _ fun k => (w4 m c t k _).trans (Host.w3 _ k n)
theorem col_u0 (t : Fin cfg0.N) (r : Fin 256) (n : Fin 64) : pbk m c t r ⟨2048 + n.val, by omega⟩ = prm m c (bat t) (pos t r) ⟨2048 + n.val, by omega⟩ :=
  pbk_of m c t r _ _ fun k => (w4 m c t k _).trans (Host.u0 _ k n)
theorem col_u1 (t : Fin cfg0.N) (r : Fin 256) (n : Fin 8) : pbk m c t r ⟨2112 + n.val, by omega⟩ = prm m c (bat t) (pos t r) ⟨2112 + n.val, by omega⟩ :=
  pbk_of m c t r _ _ fun k => (w4 m c t k _).trans (Host.u1 _ k n)
theorem col_u2 (t : Fin cfg0.N) (r : Fin 256) (n : Fin 16) : pbk m c t r ⟨2120 + n.val, by omega⟩ = prm m c (bat t) (pos t r) ⟨5192 + n.val, by omega⟩ :=
  pbk_of m c t r _ _ fun k => (w4 m c t k _).trans (Host.u2 _ k n)
theorem col_w5 (t : Fin cfg0.N) (r : Fin 256) (n : Fin 1024) : pbk m c t r ⟨2176 + n.val, by omega⟩ = prm m c (bat t) (pos t r) ⟨2120 + n.val, by omega⟩ :=
  pbk_of m c t r _ _ fun k => (w4 m c t k _).trans (Host.w5 _ k n)
theorem col_w6 (t : Fin cfg0.N) (r : Fin 256) (n : Fin 2048) : pbk m c t r ⟨3200 + n.val, by omega⟩ = prm m c (bat t) (pos t r) ⟨3144 + n.val, by omega⟩ :=
  pbk_of m c t r _ _ fun k => (w4 m c t k _).trans (Host.w6 _ k n)
theorem col_w7 (t : Fin cfg0.N) (r : Fin 256) (n : Fin 1024) : pbk m c t r ⟨5248 + n.val, by omega⟩ = prm m c (bat t) (pos t r) ⟨5208 + n.val, by omega⟩ :=
  pbk_of m c t r _ _ fun k => (w4 m c t k _).trans (Host.w7 _ k n)
theorem col_w8 (t : Fin cfg0.N) (r : Fin 256) (n : Fin 1024) : pbk m c t r ⟨6272 + n.val, by omega⟩ = prm m c (bat t) (pos t r) ⟨6232 + n.val, by omega⟩ :=
  pbk_of m c t r _ _ fun k => (w4 m c t k _).trans (Host.w8 _ k n)
theorem col_u3 (t : Fin cfg0.N) (r : Fin 256) (n : Fin 40) : pbk m c t r ⟨2136 + n.val, by omega⟩ = 0 :=
  pbk_zero m c t r _ fun k => (w4 m c t k _).trans (Host.u3 _ k n)

/-- The turn over 128 lanes of a block's row is the turn of a head of the token. -/
theorem hd_of (t : Fin cfg0.N) (r : Fin 256) (v : Fin 128 → EReal) (L : Fin 128) (d : Fin 64) (o : ℕ) (ho : o + 64 ≤ 7256) (hd : L.val % 64 = d.val)
    (hv : ∀ e : Fin 64, v ⟨64 * (L.val / 64) + e.val, by omega⟩ = prm m c (bat t) (pos t r) ⟨o + e.val, by omega⟩) :
    turn (row (iblk m c 5 t) r) (row (iblk m c 6 t) r) (row (iblk m c 7 t) r) v L = hdm m c (bat t) (pos t r) o ho d := by
  rw [rd5, rd6, rd7, turn_eq]
  simp only [hv]
  rw [show (⟨L.val % 64, by omega⟩ : Fin 64) = d from Fin.ext hd]
  rfl

end Cert.InprojIdeal.Final
-- ==== Proof.Inproj.FinalA.lean ====
/- The arrays the in-projection call leaves, as functions of the arguments. -/
module

public import proofs.«01_k».proof.Proof.Inproj.Reads

@[expose] public section

set_option maxRecDepth 16384

noncomputable section

namespace Cert.InprojIdeal.Final

open Idealize.ShloMosaic Idealize.ShloMosaic.TcCoe Idealize.SL.Sem
open Idealize.ShloMosaic.Pipeline (Dat)
open Cert.InprojIdeal Cert.InprojIdeal.Gen
open Cert.Mlp Cert.Inproj Cert.InprojIdeal.Block

variable (m : (ℓ : Loc nD τ sig) → Buf (Elt Ideal) ℓ) (c : Dev nD)

theorem emb8 (t : Fin cfg0.N) (z : Fin 1) (h : Fin 16) (r : Fin 256) (d : Fin 64) : ((cfg0.win 8).blk t).view.emb (ix4 z h r d) = ix4 (bat t) h (pos t r) d := by
  blk_ext [idx t, bat, pos]

/-- The scaled queries. -/
theorem final8 : (dats m 0 c).arrAt 8 cfg0.N = qF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 := by
  refine (dats m 0 c).arrAt_eq_of_covers 8 _ (by decide +kernel) fun t _ y => ?_
  blk_simp
  rw [after0_8]
  idx_vars y
  rw [Block.q_at]
  rw [emb8]
  refine congrArg (· * Ideal.ofBits .f32 0x3E000000#32) (hd_of m c t y2 _ _ y3 (y1.val * 64) (by omega) (by dsimp only <;> omega) fun e => ?_)
  exact (congrArg (pbk m c t _) (Fin.ext (by dsimp only <;> omega))).trans ((col_w0 m c t _ ⟨y1.val * 64 + e.val, by omega⟩).trans (congrArg (prm m c (bat t) _) (Fin.ext (by dsimp only <;> omega))))

theorem emb9 (t : Fin cfg0.N) (z : Fin 1) (n : Fin 256) (r : Fin 256) : ((cfg0.win 9).blk t).view.emb (ix3 z n r) = ix3 (bat t) n (pos t r) := by
  blk_ext [idx t, bat, pos]

/-- The keys. -/
theorem final9 : (dats m 0 c).arrAt 9 cfg0.N = kF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32 := by
  refine (dats m 0 c).arrAt_eq_of_covers 9 _ (by decide +kernel) fun t _ y => ?_
  blk_simp
  rw [after0_9]
  idx_vars y
  rw [Block.k_at]
  rw [emb9]
  refine hd_of m c t y2 _ _ ⟨y1.val % 64, by omega⟩ (1024 + y1.val / 64 * 64) (by omega) (by dsimp only <;> omega) fun e => ?_
  exact (congrArg (pbk m c t _) (Fin.ext (by dsimp only <;> omega))).trans ((col_w1 m c t _ ⟨y1.val / 64 * 64 + e.val, by omega⟩).trans (congrArg (prm m c (bat t) _) (Fin.ext (by dsimp only <;> omega))))

theorem emb10 (t : Fin cfg0.N) (z : Fin 1) (n : Fin 256) (r : Fin 256) : ((cfg0.win 10).blk t).view.emb (ix3 z n r) = ix3 (bat t) n (pos t r) := by
  blk_ext [idx t, bat, pos]

/-- The keys. -/
theorem final10 : (dats m 0 c).arrAt 10 cfg0.N = kF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 := by
  refine (dats m 0 c).arrAt_eq_of_covers 10 _ (by decide +kernel) fun t _ y => ?_
  blk_simp
  rw [after0_10]
  idx_vars y
  rw [Block.kb_at]
  rw [emb10]
  refine hd_of m c t y2 _ _ ⟨y1.val % 64, by omega⟩ (1024 + y1.val / 64 * 64) (by omega) (by dsimp only <;> omega) fun e => ?_
  exact (congrArg (pbk m c t _) (Fin.ext (by dsimp only <;> omega))).trans ((col_w1 m c t _ ⟨y1.val / 64 * 64 + e.val, by omega⟩).trans (congrArg (prm m c (bat t) _) (Fin.ext (by dsimp only <;> omega))))

theorem emb11 (t : Fin cfg0.N) (z : Fin 1) (n : Fin 256) (r : Fin 256) : ((cfg0.win 11).blk t).view.emb (ix3 z n r) = ix3 (bat t) n (pos t r) := by
  blk_ext [idx t, bat, pos]

/-- The values. -/
theorem final11 : (dats m 0 c).arrAt 11 cfg0.N = vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32 := by
  refine (dats m 0 c).arrAt_eq_of_covers 11 _ (by decide +kernel) fun t _ y => ?_
  blk_simp
  rw [after0_11]
  idx_vars y
  rw [Block.v_at]
  rw [emb11]
  exact col_w2 m c t y2 y1

/-- An entry of `veF`. -/
theorem ve_val (x : FVec Ideal ⟨3, ![2, 8192, 1024]⟩ .f32) (sc sh : FVec Ideal ⟨3, ![2, 1, 1024]⟩ .f32) (nw : FVec Ideal ⟨2, ![1, 1024]⟩ .f32)
    (w : FVec Ideal ⟨3, ![1, 1024, 7256]⟩ .f32) (b : Fin 2) (h : Fin 4) (t : Fin 8192) (d : Fin 128) :
    veF x sc sh nw w .bf16 (ix4 b h t d) = if hd : d.val < 64 then pr x sc sh nw w b t ⟨1280 + (h.val * 64 + d.val), by omega⟩ else if d.val = 64 then 1 else 0 := rfl
theorem emb12 (t : Fin cfg0.N) (z : Fin 1) (h : Fin 4) (r : Fin 256) (d : Fin 128) : ((cfg0.win 12).blk t).view.emb (ix4 z h r d) = ix4 (bat t) h (pos t r) d := by
  blk_ext [idx t, bat, pos]

/-- The values of each head, then a one, then zeros. -/
theorem final12 : (dats m 0 c).arrAt 12 cfg0.N = veF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 := by
  refine (dats m 0 c).arrAt_eq_of_covers 12 _ (by decide +kernel) fun t _ y => ?_
  blk_simp
  rw [after0_12]
  idx_vars y
  rw [Block.ve_at]
  rw [emb12]
  refine Eq.trans ?_ (ve_val _ _ _ _ _ (bat t) y1 (pos t y2) y3).symm
  by_cases h : y3.val < 64
  · rw [if_pos h, dif_pos h]
    exact (congrArg (pbk m c t _) (Fin.ext (by dsimp only <;> omega))).trans ((col_w2 m c t _ ⟨y1.val * 64 + y3.val, by omega⟩).trans (congrArg (prm m c (bat t) _) (Fin.ext (by dsimp only <;> omega))))
  · rw [if_neg h, dif_neg h]

end Cert.InprojIdeal.Final
-- ==== Proof.Inproj.FinalB.lean ====
/- The arrays the in-projection call leaves, as functions of the arguments. -/
module

public import proofs.«01_k».proof.Proof.Inproj.Reads

@[expose] public section

set_option maxRecDepth 16384

noncomputable section

namespace Cert.InprojIdeal.Final

open Idealize.ShloMosaic Idealize.ShloMosaic.TcCoe Idealize.SL.Sem
open Idealize.ShloMosaic.Pipeline (Dat)
open Cert.InprojIdeal Cert.InprojIdeal.Gen
open Cert.Mlp Cert.Inproj Cert.InprojIdeal.Block

variable (m : (ℓ : Loc nD τ sig) → Buf (Elt Ideal) ℓ) (c : Dev nD)

theorem emb13 (t : Fin cfg0.N) (z : Fin 1) (h : Fin 8) (r : Fin 256) (d : Fin 64) : ((cfg0.win 13).blk t).view.emb (ix4 z h r d) = ix4 (bat t) h (pos t r) d := by
  blk_ext [idx t, bat, pos]

/-- The index queries. -/
theorem final13 : (dats m 0 c).arrAt 13 cfg0.N = iqF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 := by
  refine (dats m 0 c).arrAt_eq_of_covers 13 _ (by decide +kernel) fun t _ y => ?_
  blk_simp
  rw [after0_13]
  idx_vars y
  rw [Block.iq_at]
  rw [emb13]
  refine hd_of m c t y2 _ _ y3 (1536 + y1.val * 64) (by omega) (by dsimp only <;> omega) fun e => ?_
  exact (congrArg (pbk m c t _) (Fin.ext (by dsimp only <;> omega))).trans ((col_w3 m c t _ ⟨y1.val * 64 + e.val, by omega⟩).trans (congrArg (prm m c (bat t) _) (Fin.ext (by dsimp only <;> omega))))

theorem emb14 (t : Fin cfg0.N) (z : Fin 1) (n : Fin 64) (r : Fin 256) : ((cfg0.win 14).blk t).view.emb (ix3 z n r) = ix3 (bat t) n (pos t r) := by
  blk_ext [idx t, bat, pos]

/-- The index keys. -/
theorem final14 : (dats m 0 c).arrAt 14 cfg0.N = ikF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32 := by
  refine (dats m 0 c).arrAt_eq_of_covers 14 _ (by decide +kernel) fun t _ y => ?_
  blk_simp
  rw [after0_14]
  idx_vars y
  rw [Block.ik_at]
  rw [emb14]
  refine hd_of m c t y2 _ _ y1 2048 (by omega) (by dsimp only <;> omega) fun e => ?_
  exact (congrArg (pbk m c t _) (Fin.ext (by dsimp only <;> omega))).trans ((col_u0 m c t _ ⟨e.val, by omega⟩).trans (congrArg (prm m c (bat t) _) (Fin.ext (by dsimp only <;> omega))))

theorem emb15 (t : Fin cfg0.N) (z : Fin 1) (n : Fin 64) (r : Fin 256) : ((cfg0.win 15).blk t).view.emb (ix3 z n r) = ix3 (bat t) n (pos t r) := by
  blk_ext [idx t, bat, pos]

/-- The index keys. -/
theorem final15 : (dats m 0 c).arrAt 15 cfg0.N = ikF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 := by
  refine (dats m 0 c).arrAt_eq_of_covers 15 _ (by decide +kernel) fun t _ y => ?_
  blk_simp
  rw [after0_15]
  idx_vars y
  rw [Block.ikb_at]
  rw [emb15]
  refine hd_of m c t y2 _ _ y1 2048 (by omega) (by dsimp only <;> omega) fun e => ?_
  exact (congrArg (pbk m c t _) (Fin.ext (by dsimp only <;> omega))).trans ((col_u0 m c t _ ⟨e.val, by omega⟩).trans (congrArg (prm m c (bat t) _) (Fin.ext (by dsimp only <;> omega))))

end Cert.InprojIdeal.Final
-- ==== Proof.Inproj.FinalC.lean ====
/- The arrays the in-projection call leaves, as functions of the arguments. -/
module

public import proofs.«01_k».proof.Proof.Inproj.Reads

@[expose] public section

set_option maxRecDepth 16384

noncomputable section

namespace Cert.InprojIdeal.Final

open Idealize.ShloMosaic Idealize.ShloMosaic.TcCoe Idealize.SL.Sem
open Idealize.ShloMosaic.Pipeline (Dat)
open Cert.InprojIdeal Cert.InprojIdeal.Gen
open Cert.Mlp Cert.Inproj Cert.InprojIdeal.Block

variable (m : (ℓ : Loc nD τ sig) → Buf (Elt Ideal) ℓ) (c : Dev nD)

/-- An entry of `miF` at a token given by its batch and its position. -/
theorem mi_val (x : FVec Ideal ⟨3, ![2, 8192, 1024]⟩ .f32) (sc sh : FVec Ideal ⟨3, ![2, 1, 1024]⟩ .f32) (nw : FVec Ideal ⟨2, ![1, 1024]⟩ .f32)
    (w : FVec Ideal ⟨3, ![1, 1024, 7256]⟩ .f32) (n : Fin 16384) (l : Fin 128) (b : Fin 2) (t : Fin 8192) (hb : b.val = n.val / 8192) (ht : t.val = n.val % 8192) :
    miF x sc sh nw w (ix2 n l) = if h : l.val < 64 then hd x sc sh nw w b t 2048 (by omega) ⟨l.val, h⟩
      else if h : l.val < 72 then pr x sc sh nw w b t ⟨2048 + l.val, by omega⟩
      else if h : l.val < 88 then pr x sc sh nw w b t ⟨5120 + l.val, by omega⟩ else 0 := by
  obtain rfl : b = ⟨n.val / 8192, by clear hb ht; omega⟩ := Fin.ext hb
  obtain rfl : t = ⟨n.val % 8192, by clear ht; omega⟩ := Fin.ext ht
  rfl

theorem emb16 (t : Fin cfg0.N) (r : Fin 256) (n : Fin 128) : ((cfg0.win 16).blk t).view.emb (ix2 r n) = ix2 (tok t r) n := by
  blk_ext [idx t, tok]

/-- The index keys, the index weights, the step sizes and forty zeros. -/
theorem final16 : (dats m 0 c).arrAt 16 cfg0.N = miF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 16 _ (by decide +kernel) fun t _ y => ?_
  blk_simp
  rw [after0_16]
  idx_vars y
  rw [Block.mi_at]
  rw [emb16]
  refine Eq.trans ?_ (mi_val _ _ _ _ _ (tok t y0) y1 (bat t) (pos t y0) (by simp only [tok, bat]; omega) (by simp only [tok, pos]; omega)).symm
  by_cases h : y1.val < 64
  · rw [if_pos h, dif_pos h]
    refine hd_of m c t y0 _ _ ⟨y1.val, h⟩ 2048 (by omega) (by dsimp only <;> omega) fun e => ?_
    exact (congrArg (pbk m c t _) (Fin.ext (by dsimp only <;> omega))).trans ((col_u0 m c t _ ⟨e.val, by omega⟩).trans (congrArg (prm m c (bat t) _) (Fin.ext (by dsimp only <;> omega))))
  · rw [if_neg h, dif_neg h]
    by_cases h2 : y1.val < 72
    · rw [dif_pos h2]
      exact (congrArg (pbk m c t _) (Fin.ext (by dsimp only <;> omega))).trans ((col_u1 m c t _ ⟨y1.val - 64, by omega⟩).trans (congrArg (prm m c (bat t) _) (Fin.ext (by dsimp only <;> omega))))
    · rw [dif_neg h2]
      by_cases h3 : y1.val < 88
      · rw [dif_pos h3]
        exact (congrArg (pbk m c t _) (Fin.ext (by dsimp only <;> omega))).trans ((col_u2 m c t _ ⟨y1.val - 72, by omega⟩).trans (congrArg (prm m c (bat t) _) (Fin.ext (by dsimp only <;> omega))))
      · rw [dif_neg h3]
        exact (congrArg (pbk m c t _) (Fin.ext (by dsimp only <;> omega))).trans (col_u3 m c t y0 ⟨y1.val - 88, by omega⟩)

end Cert.InprojIdeal.Final
-- ==== Proof.Inproj.FinalD.lean ====
/- The arrays the in-projection call leaves, as functions of the arguments. -/
module

public import proofs.«01_k».proof.Proof.Inproj.Reads

@[expose] public section

set_option maxRecDepth 16384

noncomputable section

namespace Cert.InprojIdeal.Final

open Idealize.ShloMosaic Idealize.ShloMosaic.TcCoe Idealize.SL.Sem
open Idealize.ShloMosaic.Pipeline (Dat)
open Cert.InprojIdeal Cert.InprojIdeal.Gen
open Cert.Mlp Cert.Inproj Cert.InprojIdeal.Block

variable (m : (ℓ : Loc nD τ sig) → Buf (Elt Ideal) ℓ) (c : Dev nD)

/-- An entry of a stretch at a token given by its batch and its position. -/
theorem st_val (x : FVec Ideal ⟨3, ![2, 8192, 1024]⟩ .f32) (sc sh : FVec Ideal ⟨3, ![2, 1, 1024]⟩ .f32) (nw : FVec Ideal ⟨2, ![1, 1024]⟩ .f32)
    (w : FVec Ideal ⟨3, ![1, 1024, 7256]⟩ .f32) (o N : ℕ) (ho : o + N ≤ 7256) (n : Fin 16384) (l : Fin N) (b : Fin 2) (t : Fin 8192) (hb : b.val = n.val / 8192) (ht : t.val = n.val % 8192) :
    stF x sc sh nw w o N ho (ix2 n l) = pr x sc sh nw w b t ⟨o + l.val, by omega⟩ := by
  obtain rfl : b = ⟨n.val / 8192, by clear hb ht; omega⟩ := Fin.ext hb
  obtain rfl : t = ⟨n.val % 8192, by clear ht; omega⟩ := Fin.ext ht
  rfl

theorem emb17 (t : Fin cfg0.N) (r : Fin 256) (n : Fin 1024) : ((cfg0.win 17).blk t).view.emb (ix2 r n) = ix2 (tok t r) n := by
  blk_ext [idx t, tok]

/-- The recurrence's gate. -/
theorem final17 : (dats m 0 c).arrAt 17 cfg0.N = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 2120 1024 (by omega) := by
  refine (dats m 0 c).arrAt_eq_of_covers 17 _ (by decide +kernel) fun t _ y => ?_
  blk_simp
  rw [after0_17]
  idx_vars y
  rw [Block.z_at]
  rw [emb17]
  exact (col_w5 m c t y0 y1).trans (st_val _ _ _ _ _ _ _ _ (tok t y0) y1 (bat t) (pos t y0) (by simp only [tok, bat]; omega) (by simp only [tok, pos]; omega)).symm

theorem emb18 (t : Fin cfg0.N) (r : Fin 256) (n : Fin 2048) : ((cfg0.win 18).blk t).view.emb (ix2 r n) = ix2 (tok t r) n := by
  blk_ext [idx t, tok]

/-- The recurrence's inputs. -/
theorem final18 : (dats m 0 c).arrAt 18 cfg0.N = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 3144 2048 (by omega) := by
  refine (dats m 0 c).arrAt_eq_of_covers 18 _ (by decide +kernel) fun t _ y => ?_
  blk_simp
  rw [after0_18]
  idx_vars y
  rw [Block.xbc_at]
  rw [emb18]
  exact (col_w6 m c t y0 y1).trans (st_val _ _ _ _ _ _ _ _ (tok t y0) y1 (bat t) (pos t y0) (by simp only [tok, bat]; omega) (by simp only [tok, pos]; omega)).symm

theorem emb19 (t : Fin cfg0.N) (r : Fin 256) (n : Fin 1024) : ((cfg0.win 19).blk t).view.emb (ix2 r n) = ix2 (tok t r) n := by
  blk_ext [idx t, tok]

/-- The attention gate. -/
theorem final19 : (dats m 0 c).arrAt 19 cfg0.N = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 5208 1024 (by omega) := by
  refine (dats m 0 c).arrAt_eq_of_covers 19 _ (by decide +kernel) fun t _ y => ?_
  blk_simp
  rw [after0_19]
  idx_vars y
  rw [Block.ga_at]
  rw [emb19]
  exact (col_w7 m c t y0 y1).trans (st_val _ _ _ _ _ _ _ _ (tok t y0) y1 (bat t) (pos t y0) (by simp only [tok, bat]; omega) (by simp only [tok, pos]; omega)).symm

theorem emb20 (t : Fin cfg0.N) (r : Fin 256) (n : Fin 1024) : ((cfg0.win 20).blk t).view.emb (ix2 r n) = ix2 (tok t r) n := by
  blk_ext [idx t, tok]

/-- The other gate. -/
theorem final20 : (dats m 0 c).arrAt 20 cfg0.N = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 6232 1024 (by omega) := by
  refine (dats m 0 c).arrAt_eq_of_covers 20 _ (by decide +kernel) fun t _ y => ?_
  blk_simp
  rw [after0_20]
  idx_vars y
  rw [Block.gs_at]
  rw [emb20]
  exact (col_w8 m c t y0 y1).trans (st_val _ _ _ _ _ _ _ _ (tok t y0) y1 (bat t) (pos t y0) (by simp only [tok, bat]; omega) (by simp only [tok, pos]; omega)).symm

end Cert.InprojIdeal.Final
-- ==== Proof.Inproj.Claims.lean ====
/- The in-projection call's claims. -/
module

public import proofs.«01_k».proof.Defs
public import proofs.«01_k».proof.Proof.Inproj.RefQ
public import proofs.«01_k».proof.Proof.Inproj.RefK
public import proofs.«01_k».proof.Proof.Inproj.RefKb
public import proofs.«01_k».proof.Proof.Inproj.RefV
public import proofs.«01_k».proof.Proof.Inproj.RefIq
public import proofs.«01_k».proof.Proof.Inproj.RefIk
public import proofs.«01_k».proof.Proof.Inproj.RefMi
public import proofs.«01_k».proof.Proof.Inproj.RefZ
public import proofs.«01_k».proof.Proof.Inproj.RefX
public import proofs.«01_k».proof.Proof.Inproj.RefGa
public import proofs.«01_k».proof.Proof.Inproj.RefGs
public import proofs.«01_k».proof.Proof.Inproj.FinalA
public import proofs.«01_k».proof.Proof.Inproj.FinalB
public import proofs.«01_k».proof.Proof.Inproj.FinalC
public import proofs.«01_k».proof.Proof.Inproj.FinalD
public import proofs.«01_k».proof.Proof.Gen.InprojIdeal.Value
public import proofs.«01_k».proof.Proof.Gen.InprojRefIdeal.Run
public import Idealize.ShloMosaic.Lib.Claim

@[expose] public section

set_option maxRecDepth 16384

noncomputable section

open Idealize.ShloMosaic Idealize.ShloMosaic.TcCoe Idealize.ShloMosaic.StableHlo Idealize.SL.Sem
open Cert.Inproj

namespace Cert.InprojIdeal.Final
open Cert.InprojIdeal Cert.InprojIdeal.Gen

/-- The run's results as functions of the arguments. -/
theorem runF (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v50_0) = qF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v50_1) = kF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32
    ∧ r.2.mem ((c.tc : Thread nD τ).loc main_v50_2) = kF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v50_3) = vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32
    ∧ r.2.mem ((c.tc : Thread nD τ).loc main_v50_4) = veF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v50_5) = iqF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v50_6) = ikF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32
    ∧ r.2.mem ((c.tc : Thread nD τ).loc main_v50_7) = ikF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v50_8) = miF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v50_9) = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 2120 1024 (by omega)
    ∧ r.2.mem ((c.tc : Thread nD τ).loc main_v50_10) = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 3144 2048 (by omega)
    ∧ r.2.mem ((c.tc : Thread nD τ).loc main_v50_11) = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 5208 1024 (by omega)
    ∧ r.2.mem ((c.tc : Thread nD τ).loc main_v50_12) = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 6232 1024 (by omega)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2.1.trans (final14 m c), (h c).2.2.2.2.2.2.2.1.trans (final15 m c), (h c).2.2.2.2.2.2.2.2.1.trans (final16 m c), (h c).2.2.2.2.2.2.2.2.2.1.trans (final17 m c), (h c).2.2.2.2.2.2.2.2.2.2.1.trans (final18 m c), (h c).2.2.2.2.2.2.2.2.2.2.2.1.trans (final19 m c), (h c).2.2.2.2.2.2.2.2.2.2.2.2.1.trans (final20 m c), (h c).2.2.2.2.2.2.2.2.2.2.2.2.2⟩) (Cert.InprojIdeal.Value.run_blocks m g)

end Cert.InprojIdeal.Final

namespace Cert.InprojRefIdeal.Stage
open Cert.InprojRefIdeal Cert.InprojRefIdeal.Gen

/-- The run's results as functions of the arguments. -/
theorem runF (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v197) = qF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v187) = kF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32
    ∧ r.2.mem ((c.tc : Thread nD τ).loc main_v198) = kF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v189) = vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32
    ∧ r.2.mem ((c.tc : Thread nD τ).loc main_v200) = veF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v202) = iqF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v193) = ikF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32
    ∧ r.2.mem ((c.tc : Thread nD τ).loc main_v203) = ikF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16
    ∧ r.2.mem ((c.tc : Thread nD τ).loc main_v204) = miF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v205) = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 2120 1024 (by omega)
    ∧ r.2.mem ((c.tc : Thread nD τ).loc main_v206) = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 3144 2048 (by omega)
    ∧ r.2.mem ((c.tc : Thread nD τ).loc main_v207) = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 5208 1024 (by omega)
    ∧ r.2.mem ((c.tc : Thread nD τ).loc main_v208) = stF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 6232 1024 (by omega)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (q_eq (launchContents m c)), (h c).2.1.trans (k_eq (launchContents m c)), (h c).2.2.1.trans (kb_eq (launchContents m c)), (h c).2.2.2.1.trans (v_eq (launchContents m c)), (h c).2.2.2.2.1.trans (ve_eq (launchContents m c)), (h c).2.2.2.2.2.1.trans (iq_eq (launchContents m c)), (h c).2.2.2.2.2.2.1.trans (ik_eq (launchContents m c)), (h c).2.2.2.2.2.2.2.1.trans (ikb_eq (launchContents m c)), (h c).2.2.2.2.2.2.2.2.1.trans (mi_eq (launchContents m c)), (h c).2.2.2.2.2.2.2.2.2.1.trans (z_eq (launchContents m c)), (h c).2.2.2.2.2.2.2.2.2.2.1.trans (xbc_eq (launchContents m c)), (h c).2.2.2.2.2.2.2.2.2.2.2.1.trans (ga_eq (launchContents m c)), (h c).2.2.2.2.2.2.2.2.2.2.2.2.1.trans (gs_eq (launchContents m c)), (h c).2.2.2.2.2.2.2.2.2.2.2.2.2⟩) (Cert.InprojRefIdeal.Value.run (F := Ideal) m g)

end Cert.InprojRefIdeal.Stage

/-- The reference leaves its arguments unchanged. -/
theorem Cert.InprojRefIdeal.Claims.frame : Cert.quiescent_InprojRefIdeal := fun m g _ =>
  (θ_run Cert.InprojRefIdeal.defs _ _).mono (fun r h => ⟨fun c => (h c).2.2.2.2.2.2.2.2.2.2.2.2.2, sem_eq_zero_of_no_sems (by decide) r.2⟩)
    (Cert.InprojRefIdeal.Value.run (F := Ideal) m g)

/-- The in-projection kernel and its reference end with the same thirteen results. -/
theorem Cert.InprojIdeal.Claims.algebraic : Cert.algebraic_InprojIdeal_InprojRefIdeal := by
  pair_intro
  · run_from Cert.InprojIdeal.Final.runF m g
  · run_from Cert.InprojRefIdeal.Stage.runF m' g'
-- ==== Proof.Mlps.Block.lean ====
/- What one grid point of the feed-forward call computes, row by row. -/
module

public import proofs.«01_k».proof.Proof.Mlp.Rows
public import proofs.«01_k».proof.Proof.Gen.MlpsIdeal.Frame

@[expose] public section

set_option maxRecDepth 16384

noncomputable section

namespace Cert.MlpsIdeal.Block

open Idealize.ShloMosaic Idealize.ShloMosaic.TcCoe Idealize.SL.Sem
open Cert.MlpsIdeal Cert.MlpsIdeal.Gen
open Cert.Mlp

/-- The residual of the first half, at one entry of the block. -/
theorem pay2_at (ga att gs y x : Vec Ideal S32x1024 .f32) (gt : Vec Ideal S1x32x1024 .f32)
    (wo : Vec Ideal S1024x1024 .bf16) (r : Fin 32) (d : Fin 1024) :
    k0_pay2 ga att gs y x gt wo (ix2 r d) =
      mid (fun k => x (ix2 r k)) (fun k => att (ix2 r k)) (fun k => y (ix2 r k)) (fun k => ga (ix2 r k))
        (fun k => gs (ix2 r k)) (fun k => gt (ix3 0 r k)) (fun k e => wo (ix2 k e)) d := by
  pointwise [k0_pay2, mid, sg]
  simp only [zero_sub]

/-- The sum of squares of a row of that residual. -/
theorem pay3_at (ga att gs y x : Vec Ideal S32x1024 .f32) (gt : Vec Ideal S1x32x1024 .f32)
    (wo : Vec Ideal S1024x1024 .bf16) (r : Fin 32) (z : Fin 1) :
    k0_pay3 ga att gs y x gt wo (ix2 r z) = ∑ k, k0_pay2 ga att gs y x gt wo (ix2 r k) * k0_pay2 ga att gs y x gt wo (ix2 r k) := by
  pointwise [k0_pay3]

/-- The modulated norm of a residual whose sums of squares are `q`. -/
theorem pay5_at (v : Vec Ideal S32x1024 .f32) (q : Vec Ideal S32x1 .f32) (w : Vec Ideal S1x1024 .f32)
    (sc sh : Vec Ideal S1x32x1024 .f32) (r : Fin 32) (hq : q (ix2 r 0) = ∑ k, v (ix2 r k) * v (ix2 r k)) (d : Fin 1024) :
    k0_pay5 (F := Ideal) v q k0_pay4 w sc sh (ix2 r d) =
      hid (fun k => v (ix2 r k)) (fun k => w (ix2 0 k)) (fun k => sc (ix3 0 r k)) (fun k => sh (ix3 0 r k)) d := by
  pointwise [k0_pay5, k0_pay4, hid, nrm]
  rw [hq]

/-- The first quarter of the feed-forward sum. -/
theorem pay6_at (v : Vec Ideal S32x1024 .f32) (q C : Vec Ideal S32x1 .f32) (w : Vec Ideal S1x1024 .f32)
    (sc sh : Vec Ideal S1x32x1024 .f32) (wu wd : Vec Ideal S1024x1024 .bf16) (r : Fin 32) (d : Fin 1024) :
    k0_pay6 (F := Ideal) v q C w sc sh wu wd (ix2 r d) =
      ∑ f, up (fun k => k0_pay5 (F := Ideal) v q C w sc sh (ix2 r k)) (fun k => wu (ix2 k f)) * wd (ix2 f d) := by
  pointwise [k0_pay6, up]

/-- The second quarter's hidden row. -/
theorem pay7_at (v : Vec Ideal S32x1024 .f32) (q C : Vec Ideal S32x1 .f32) (w : Vec Ideal S1x1024 .f32)
    (sc sh : Vec Ideal S1x32x1024 .f32) (wu : Vec Ideal S1024x1024 .bf16) (r : Fin 32) (f : Fin 1024) :
    k0_pay7 (F := Ideal) v q C w sc sh wu (ix2 r f) =
      up (fun k => k0_pay5 (F := Ideal) v q C w sc sh (ix2 r k)) (fun k => wu (ix2 k f)) := by
  pointwise [k0_pay7, up]

/-- The residual of the second half: the four quarters added one after another. -/
theorem pay8_at (v : Vec Ideal S32x1024 .f32) (h : Vec Ideal S32x1024 .bf16) (a : Vec Ideal S32x1024 .f32) (u : Vec Ideal S32x1024 .bf16)
    (d1 u2 d2 u3 d3 : Vec Ideal S1024x1024 .bf16) (gt : Vec Ideal S1x32x1024 .f32) (r : Fin 32) (d : Fin 1024) :
    k0_pay8 (F := Ideal) v h a u d1 u2 d2 u3 d3 gt (ix2 r d) =
      v (ix2 r d) + gt (ix3 0 r d) *
        (a (ix2 r d) + ∑ f, u (ix2 r f) * d1 (ix2 f d)
          + ∑ f, up (fun k => h (ix2 r k)) (fun k => u2 (ix2 k f)) * d2 (ix2 f d)
          + ∑ f, up (fun k => h (ix2 r k)) (fun k => u3 (ix2 k f)) * d3 (ix2 f d)) := by
  pointwise [k0_pay8, up]

/-- The factor of the closing norm. -/
theorem pay9_at (v : Vec Ideal S32x1024 .f32) (h : Vec Ideal S32x1024 .bf16) (a : Vec Ideal S32x1024 .f32) (u : Vec Ideal S32x1024 .bf16)
    (d1 u2 d2 u3 d3 : Vec Ideal S1024x1024 .bf16) (gt : Vec Ideal S1x32x1024 .f32) (r : Fin 32) (z : Fin 1) :
    k0_pay9 (F := Ideal) v h a u d1 u2 d2 u3 d3 gt (ix2 r z) =
      Ideal.rsqrt (Ideal.div (∑ k, k0_pay8 (F := Ideal) v h a u d1 u2 d2 u3 d3 gt (ix2 r k) * k0_pay8 (F := Ideal) v h a u d1 u2 d2 u3 d3 gt (ix2 r k))
        (Ideal.ofBits .f32 0x44800000#32) + Ideal.ofBits .f32 0x358637BD#32) := by
  pointwise [k0_pay9]

/-- The closing norm of a residual whose norm factors are `q`. -/
theorem pay1_at (v : Vec Ideal S32x1024 .f32) (q : Vec Ideal S32x1 .f32) (w : Vec Ideal S1x1024 .f32) (r : Fin 32)
    (hq : q (ix2 r 0) = Ideal.rsqrt (Ideal.div (∑ k, v (ix2 r k) * v (ix2 r k)) (Ideal.ofBits .f32 0x44800000#32) + Ideal.ofBits .f32 0x358637BD#32))
    (d : Fin 1024) : k0_pay1 (F := Ideal) v q w (ix2 r d) = nrm (fun k => v (ix2 r k)) (fun k => w (ix2 0 k)) d := by
  pointwise [k0_pay1, nrm]
  rw [hq]

/-- Four quarters of a sum over the 4096 hidden coordinates. -/
theorem quarters (g : Fin 4096 → EReal) :
    ∑ f, g f = ∑ f : Fin 1024, g ⟨f, by omega⟩ + ∑ f : Fin 1024, g ⟨1024 + f, by omega⟩
      + ∑ f : Fin 1024, g ⟨2048 + f, by omega⟩ + ∑ f : Fin 1024, g ⟨3072 + f, by omega⟩ := by
  rw [Fin.sum_univ_tiles 4 1024 rfl g, Fin.sum_univ_four]
  simp

/-- Column `f` of the piece of the up-projection that starts at column `a`. -/
theorem ldU (x : Vec Ideal S1024x4096 .bf16) (a : ℕ) (h : ∀ k, ![0, a] k + S1024x1024.size k ≤ S1024x4096.size k) (k f : Fin 1024) (ha : a + f < 4096) :
    View.ld x (Rect.unit (s := S1024x4096) ![0, a] S1024x1024.size h) (ix2 k f) = x (ix2 k ⟨a + f, ha⟩) := by
  rw [View.ld_apply]; congr 1; funext i; apply Fin.ext; fin_cases i <;> simp

/-- Row `f` of the piece of the down-projection that starts at row `a`. -/
theorem ldD (x : Vec Ideal S4096x1024 .bf16) (a : ℕ) (h : ∀ k, ![a, 0] k + S1024x1024.size k ≤ S4096x1024.size k) (f d : Fin 1024) (ha : a + f < 4096) :
    View.ld x (Rect.unit (s := S4096x1024) ![a, 0] S1024x1024.size h) (ix2 f d) = x (ix2 ⟨a + f, ha⟩ d) := by
  rw [View.ld_apply]; congr 1; funext i; apply Fin.ext; fin_cases i <;> simp

section
variable (x0 x1 x2 x3 x4 : Vec Ideal S32x1024 .f32) (x5 x6 x7 x8 : Vec Ideal S1x32x1024 .f32)
    (x9 x10 : Vec Ideal S1x1024 .f32) (x11 : Vec Ideal S1024x1024 .bf16) (x12 : Vec Ideal S1024x4096 .bf16)
    (x13 : Vec Ideal S4096x1024 .bf16)

/-- The residual row of the first half, of the windows' blocks. -/
abbrev midAt (r : Fin 32) : Row :=
  mid (fun k => x0 (ix2 r k)) (fun k => x1 (ix2 r k)) (fun k => x2 (ix2 r k)) (fun k => x3 (ix2 r k))
    (fun k => x4 (ix2 r k)) (fun k => x5 (ix3 0 r k)) (fun k e => x11 (ix2 k e))

/-- The hidden row, of the windows' blocks. -/
abbrev hidAt (r : Fin 32) : Row :=
  hid (midAt x0 x1 x2 x3 x4 x5 x11 r) (fun k => x9 (ix2 0 k)) (fun k => x6 (ix3 0 r k)) (fun k => x7 (ix3 0 r k))

/-- The residual row of the second half, of the windows' blocks. -/
abbrev resAt (r : Fin 32) : Row :=
  res (midAt x0 x1 x2 x3 x4 x5 x11 r) (hidAt x0 x1 x2 x3 x4 x5 x6 x7 x9 x11 r) (fun k => x8 (ix3 0 r k))
    (fun k e => x12 (ix2 k e)) (fun k e => x13 (ix2 k e))

theorem pay10_at (r : Fin 32) (d : Fin 1024) :
    k0_pay10 (F := Ideal) x0 x1 x2 x3 x4 x5 x6 x7 x8 x9 x10 x11 x12 x13 (ix2 r d) = midAt x0 x1 x2 x3 x4 x5 x11 r d := by
  simp (disch := decide) only [k0_pay10, View.ld_unit_lit']
  exact pay2_at ..

theorem pay11_at (r : Fin 32) :
    k0_pay11 (F := Ideal) x0 x1 x2 x3 x4 x5 x6 x7 x8 x9 x10 x11 x12 x13 (ix2 r 0) = ∑ k, k0_pay10 (F := Ideal) x0 x1 x2 x3 x4 x5 x6 x7 x8 x9 x10 x11 x12 x13 (ix2 r k) * k0_pay10 (F := Ideal) x0 x1 x2 x3 x4 x5 x6 x7 x8 x9 x10 x11 x12 x13 (ix2 r k) := by
  simp (disch := decide) only [k0_pay10, k0_pay11, View.ld_unit_lit']
  exact pay3_at ..

theorem pay13_at (r : Fin 32) (d : Fin 1024) :
    k0_pay13 (F := Ideal) x0 x1 x2 x3 x4 x5 x6 x7 x8 x9 x10 x11 x12 x13 (ix2 r d) = hidAt x0 x1 x2 x3 x4 x5 x6 x7 x9 x11 r d := by
  simp (disch := decide) only [k0_pay13, k0_pay12, View.ld_unit_lit']
  rw [pay5_at _ _ _ _ _ _ (pay11_at x0 x1 x2 x3 x4 x5 x6 x7 x8 x9 x10 x11 x12 x13 r)]
  simp only [pay10_at]

theorem res_at (r : Fin 32) (d : Fin 1024) :
    k0_pay8 (F := Ideal) (k0_pay10 x0 x1 x2 x3 x4 x5 x6 x7 x8 x9 x10 x11 x12 x13) (k0_pay13 x0 x1 x2 x3 x4 x5 x6 x7 x8 x9 x10 x11 x12 x13) (k0_pay14 x0 x1 x2 x3 x4 x5 x6 x7 x8 x9 x10 x11 x12 x13) (k0_pay15 x0 x1 x2 x3 x4 x5 x6 x7 x8 x9 x10 x11 x12 x13)
      (View.ld x13 r0_7) (View.ld x12 r0_8) (View.ld x13 r0_9) (View.ld x12 r0_10) (View.ld x13 r0_11) x8 (ix2 r d) =
      resAt x0 x1 x2 x3 x4 x5 x6 x7 x8 x9 x11 x12 x13 r d := by
  have h15 : ∀ f, k0_pay15 (F := Ideal) x0 x1 x2 x3 x4 x5 x6 x7 x8 x9 x10 x11 x12 x13 (ix2 r f) =
      up (fun k => k0_pay13 (F := Ideal) x0 x1 x2 x3 x4 x5 x6 x7 x8 x9 x10 x11 x12 x13 (ix2 r k)) (fun k => View.ld x12 r0_6 (ix2 k f)) :=
    fun f => pay7_at _ _ _ _ _ _ _ r f
  have h14 : k0_pay14 (F := Ideal) x0 x1 x2 x3 x4 x5 x6 x7 x8 x9 x10 x11 x12 x13 (ix2 r d) =
      ∑ f, up (fun k => k0_pay13 (F := Ideal) x0 x1 x2 x3 x4 x5 x6 x7 x8 x9 x10 x11 x12 x13 (ix2 r k)) (fun k => View.ld x12 r0_4 (ix2 k f)) * View.ld x13 r0_5 (ix2 f d) :=
    pay6_at _ _ _ _ _ _ _ _ r d
  rw [pay8_at, h14, pay10_at]
  simp only [h15, pay13_at]
  unfold resAt res
  rw [quarters]
  have e (a : ℕ) (hz : a ≤ 3072) (f : Fin 1024) : a + f.val < 4096 := by omega
  simp only [fun k f : Fin 1024 => ldU x12 0 (by decide) k f (e 0 (by decide) f), fun k f : Fin 1024 => ldU x12 1024 (by decide) k f (e _ (by decide) f),
    fun k f : Fin 1024 => ldU x12 2048 (by decide) k f (e _ (by decide) f), fun k f : Fin 1024 => ldU x12 3072 (by decide) k f (e _ (by decide) f),
    fun f : Fin 1024 => ldD x13 0 (by decide) f d (e 0 (by decide) f), fun f : Fin 1024 => ldD x13 1024 (by decide) f d (e _ (by decide) f),
    fun f : Fin 1024 => ldD x13 2048 (by decide) f d (e _ (by decide) f), fun f : Fin 1024 => ldD x13 3072 (by decide) f d (e _ (by decide) f), Nat.zero_add]

/-- What one grid point leaves in the output block, at one entry: the token's output row. -/
theorem out_at (r : Fin 32) (d : Fin 1024) :
    out0_14 (F := Ideal) x0 x1 x2 x3 x4 x5 x6 x7 x8 x9 x10 x11 x12 x13 (ix2 r d) =
      out (fun k => x0 (ix2 r k)) (fun k => x1 (ix2 r k)) (fun k => x2 (ix2 r k)) (fun k => x3 (ix2 r k))
        (fun k => x4 (ix2 r k)) (fun k => x5 (ix3 0 r k)) (fun k => x6 (ix3 0 r k)) (fun k => x7 (ix3 0 r k))
        (fun k => x8 (ix3 0 r k)) (fun k => x9 (ix2 0 k)) (fun k => x10 (ix2 0 k)) (fun k e => x11 (ix2 k e))
        (fun k e => x12 (ix2 k e)) (fun k e => x13 (ix2 k e)) d := by
  frame_out
  rw [pay1_at _ _ _ _ (pay9_at _ _ _ _ _ _ _ _ _ _ r 0)]
  simp only [res_at]
  rfl

end

end Cert.MlpsIdeal.Block
-- ==== Proof.Mlps.Ref.lean ====
/- What the reference of the feed-forward call computes, row by row. -/
module

public import proofs.«01_k».proof.Proof.Mlp.Rows
public import proofs.«01_k».proof.Proof.Gen.MlpsRefIdeal.Run

@[expose] public section

set_option maxRecDepth 16384

noncomputable section

namespace Cert.MlpsRefIdeal.Stage

open Idealize.ShloMosaic Idealize.ShloMosaic.TcCoe Idealize.SL.Sem
open Cert.MlpsRefIdeal Cert.MlpsRefIdeal.Gen
open Cert.Mlp

abbrev V3 := FVec Ideal S32x1x1024 .f32

/-- The logistic function of every entry. -/
def logis (g : V3) : V3 :=
  Host.divf (broadcastInDim S32x1x1024 ![] bcast_S_S32x1x1024 (constant S_ .f32 0x3F800000#32))
    (addf (broadcastInDim S32x1x1024 ![] bcast_S_S32x1x1024 (constant S_ .f32 0x3F800000#32)) (Host.exp (Host.negf g)))

/-- The residual of the first half. -/
def x1 (x att y ga gs : V3) (gt : V3) (wo : FVec Ideal S1024x1024 .f32) : V3 :=
  addf x (mulf gt
    (Host.dotGeneral dot_S32x1x1024_S1024x1024_S32x1x1024_2_0_01_1_n_n none (addf (mulf (logis ga) att) (mulf (logis gs) y)) wo))

/-- The root-mean-square norm of every token. -/
def norm (x : V3) (w : FVec Ideal S1024 .f32) : V3 :=
  mulf (mulf x (broadcastInDim S32x1x1024 ![0, 1, 2] bcast_S32x1x1_S32x1x1024_0_1_2 (Host.rsqrt (addf (Host.divf
      (broadcastInDim S32x1x1 ![0, 1] bcast_S32x1_S32x1x1_0_1 (Host.reduceAdd (mulf x x) (constant S_ .f32 0x00000000#32) reducesTo_S32x1x1024_S32x1_d2 h_S_))
      (broadcastInDim S32x1x1 ![] bcast_S_S32x1x1 (constant S_ .f32 0x44800000#32)))
      (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2] bcast_S1024_S1x1x1024_2 w))

/-- The modulated norm. -/
def h2 (x : V3) (w : FVec Ideal S1024 .f32) (sc sh : V3) : V3 :=
  addf (mulf (norm x w) ((addf (broadcastInDim S32x1x1024 ![] bcast_S_S32x1x1024 (constant S_ .f32 0x3F800000#32)) sc)))
    sh

/-- The positive part of the up-projection. -/
def relu (h : V3) (wu : FVec Ideal S1024x4096 .f32) : FVec Ideal S32x1x4096 .f32 :=
  maximumf (Host.dotGeneral dot_S32x1x1024_S1024x4096_S32x1x4096_2_0_01_1_n_n none h wu)
    (broadcastInDim S32x1x4096 ![] bcast_S_S32x1x4096 (constant S_ .f32 0x00000000#32))

/-- The residual of the second half. -/
def x2 (x h : V3) (gt : V3) (wu : FVec Ideal S1024x4096 .f32) (wd : FVec Ideal S4096x1024 .f32) : V3 :=
  addf x (mulf gt
    (Host.dotGeneral dot_S32x1x4096_S4096x1024_S32x1x1024_2_0_01_1_n_n none (mulf (relu h wu) (relu h wu)) wd))

theorem x1_at (x att y ga gs : V3) (gt : V3) (wo : FVec Ideal S1024x1024 .f32) (b : Fin 32) (t : Fin 1) (d : Fin 1024) :
    x1 x att y ga gs gt wo (ix3 b t d) =
      mid (fun k => x (ix3 b t k)) (fun k => att (ix3 b t k)) (fun k => y (ix3 b t k)) (fun k => ga (ix3 b t k))
        (fun k => gs (ix3 b t k)) (fun k => gt (ix3 b t k)) (fun k e => wo (ix2 k e)) d := by
  obtain rfl : t = 0 := Subsingleton.elim _ _
  pointwise [x1, logis, mid, sg]

theorem norm_at (x : V3) (w : FVec Ideal S1024 .f32) (b : Fin 32) (t : Fin 1) (d : Fin 1024) :
    norm x w (ix3 b t d) = nrm (fun k => x (ix3 b t k)) (fun k => w (ix1 k)) d := by
  obtain rfl : t = 0 := Subsingleton.elim _ _
  pointwise [norm, nrm]

theorem h2_at (x : V3) (w : FVec Ideal S1024 .f32) (sc sh : V3) (b : Fin 32) (t : Fin 1) (d : Fin 1024) :
    h2 x w sc sh (ix3 b t d) =
      hid (fun k => x (ix3 b t k)) (fun k => w (ix1 k)) (fun k => sc (ix3 b t k)) (fun k => sh (ix3 b t k)) d := by
  obtain rfl : t = 0 := Subsingleton.elim _ _
  rw [hid, ← norm_at]
  pointwise [h2]

theorem x2_at (x h : V3) (gt : V3) (wu : FVec Ideal S1024x4096 .f32) (wd : FVec Ideal S4096x1024 .f32)
    (b : Fin 32) (t : Fin 1) (d : Fin 1024) :
    x2 x h gt wu wd (ix3 b t d) =
      res (fun k => x (ix3 b t k)) (fun k => h (ix3 b t k)) (fun k => gt (ix3 b t k)) (fun k e => wu (ix2 k e)) (fun k e => wd (ix2 k e)) d := by
  obtain rfl : t = 0 := Subsingleton.elim _ _
  pointwise [x2, relu, res, up]

/-- The result as one function of the arguments, index by index. -/
def REF (x : V3) (att y ga gs : FVec Ideal S32x1024 .f32) (gt1 sc sh gt2 : FVec Ideal S1x32x1024 .f32) (n2 : FVec Ideal S1x1024 .f32)
    (fn : FVec Ideal S1024 .f32) (wo : FVec Ideal S1x1024x1024 .f32) (wu : FVec Ideal S1x1024x4096 .f32) (wd : FVec Ideal S1x4096x1024 .f32) :
    FVec Ideal S32x1024 .f32 := fun i =>
  let R : Fin 32 := i 0
  out (fun k => x (ix3 R 0 k)) (fun k => att (ix2 R k)) (fun k => y (ix2 R k)) (fun k => ga (ix2 R k)) (fun k => gs (ix2 R k))
    (fun k => gt1 (ix3 0 R k)) (fun k => sc (ix3 0 R k)) (fun k => sh (ix3 0 R k)) (fun k => gt2 (ix3 0 R k)) (fun k => n2 (ix2 0 k))
    (fun k => fn (ix1 k)) (fun k e => wo (ix3 0 k e)) (fun k e => wu (ix3 0 k e)) (fun k e => wd (ix3 0 k e)) (i 1)

/-- The reference's operations, stage by stage. -/
def full (x : V3) (att y ga gs : FVec Ideal S32x1024 .f32) (gt1 sc sh gt2 : FVec Ideal S1x32x1024 .f32) (n2 : FVec Ideal S1x1024 .f32)
    (fn : FVec Ideal S1024 .f32) (wo : FVec Ideal S1x1024x1024 .f32) (wu : FVec Ideal S1x1024x4096 .f32) (wd : FVec Ideal S1x4096x1024 .f32) : V3 :=
  let s : FVec Ideal S32x1024 .f32 → V3 := fun a => shapeCast S32x1x1024 a shapeCasts_S32x1024_S32x1x1024
  let z : FVec Ideal S1x32x1024 .f32 → V3 := fun a => shapeCast S32x1x1024 a shapeCasts_S1x32x1024_S32x1x1024
  let v := x1 x (s att) (s y) (s ga) (s gs) (z gt1) (shapeCast _ wo shapeCasts_S1x1024x1024_S1024x1024)
  norm (x2 v (h2 v (shapeCast _ n2 shapeCasts_S1x1024_S1024) (z sc) (z sh)) (z gt2) (shapeCast _ wu shapeCasts_S1x1024x4096_S1024x4096)
      (shapeCast _ wd shapeCasts_S1x4096x1024_S4096x1024)) fn

theorem result_eq (m : (ℓ : Loc nD τ sig) → Buf (Elt Ideal) ℓ) (c : Dev nD) :
    Value.res_out0 m c = shapeCast S32x1024 (full (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)))
      shapeCasts_S32x1x1024_S32x1024 := rfl

theorem full_eq (x : V3) (att y ga gs : FVec Ideal S32x1024 .f32) (gt1 sc sh gt2 : FVec Ideal S1x32x1024 .f32) (n2 : FVec Ideal S1x1024 .f32)
    (fn : FVec Ideal S1024 .f32) (wo : FVec Ideal S1x1024x1024 .f32) (wu : FVec Ideal S1x1024x4096 .f32) (wd : FVec Ideal S1x4096x1024 .f32) :
    shapeCast S32x1024 (full x att y ga gs gt1 sc sh gt2 n2 fn wo wu wd) shapeCasts_S32x1x1024_S32x1024 =
      REF x att y ga gs gt1 sc sh gt2 n2 fn wo wu wd := by
  funext i; idx_vars i
  unfold full REF out
  pointwise
  simp only [norm_at, x2_at, h2_at, x1_at]
  pointwise

end Cert.MlpsRefIdeal.Stage
-- ==== Proof.Mlps.Final.lean ====
/- The feed-forward call's output array: the reference's function of the arguments. -/
module

public import proofs.«01_k».proof.Proof.Mlps.Block
public import proofs.«01_k».proof.Proof.Mlps.Ref
public import proofs.«01_k».proof.Proof.Gen.MlpsIdeal.Value
public import Idealize.ShloMosaic.Lib.Claim

@[expose] public section

set_option maxRecDepth 16384

noncomputable section

namespace Cert.MlpsIdeal.Final

open Idealize.ShloMosaic Idealize.ShloMosaic.TcCoe Idealize.SL.Sem
open Idealize.ShloMosaic.Pipeline (Dat)
open Cert.MlpsIdeal Cert.MlpsIdeal.Gen
open Cert.Mlp

variable (m : (ℓ : Loc nD τ sig) → Buf (Elt Ideal) ℓ) (c : Dev nD)

/-- Every window's one block lies at the start of its array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0, 0] ∧ win0_6.index t = ![0, 0, 0] ∧ win0_7.index t = ![0, 0, 0] ∧ win0_8.index t = ![0, 0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

/-- The output block, entry by entry, in the array. -/
theorem emb14 (t : Fin cfg0.N) (r : Fin 32) (d : Fin 1024) : ((cfg0.win 14).blk t).view.emb (ix2 r d) = ix2 r d := by
  blk_ext [idx t]

/-! Each window's block, entry by entry, as an entry of its argument. -/

theorem rd0 (t : Fin cfg0.N) (r : Fin 32) (k : Fin 1024) : iblk m c 0 t (ix2 r k) = m ((c.tc : Thread nD τ).loc main_arg0) (ix3 r 0 k) := by
  blk_point [iblk, V, idx t]
theorem rd1 (t : Fin cfg0.N) (r : Fin 32) (k : Fin 1024) : iblk m c 1 t (ix2 r k) = m ((c.tc : Thread nD τ).loc main_arg1) (ix2 r k) := by
  blk_point [iblk, V, idx t]
theorem rd2 (t : Fin cfg0.N) (r : Fin 32) (k : Fin 1024) : iblk m c 2 t (ix2 r k) = m ((c.tc : Thread nD τ).loc main_arg2) (ix2 r k) := by
  blk_point [iblk, V, idx t]
theorem rd3 (t : Fin cfg0.N) (r : Fin 32) (k : Fin 1024) : iblk m c 3 t (ix2 r k) = m ((c.tc : Thread nD τ).loc main_arg3) (ix2 r k) := by
  blk_point [iblk, V, idx t]
theorem rd4 (t : Fin cfg0.N) (r : Fin 32) (k : Fin 1024) : iblk m c 4 t (ix2 r k) = m ((c.tc : Thread nD τ).loc main_arg4) (ix2 r k) := by
  blk_point [iblk, V, idx t]
theorem rd5 (t : Fin cfg0.N) (r : Fin 32) (k : Fin 1024) : iblk m c 5 t (ix3 0 r k) = m ((c.tc : Thread nD τ).loc main_arg5) (ix3 0 r k) := by
  blk_point [iblk, V, idx t]
theorem rd6 (t : Fin cfg0.N) (r : Fin 32) (k : Fin 1024) : iblk m c 6 t (ix3 0 r k) = m ((c.tc : Thread nD τ).loc main_arg6) (ix3 0 r k) := by
  blk_point [iblk, V, idx t]
theorem rd7 (t : Fin cfg0.N) (r : Fin 32) (k : Fin 1024) : iblk m c 7 t (ix3 0 r k) = m ((c.tc : Thread nD τ).loc main_arg7) (ix3 0 r k) := by
  blk_point [iblk, V, idx t]
theorem rd8 (t : Fin cfg0.N) (r : Fin 32) (k : Fin 1024) : iblk m c 8 t (ix3 0 r k) = m ((c.tc : Thread nD τ).loc main_arg8) (ix3 0 r k) := by
  blk_point [iblk, V, idx t]
theorem rd9 (t : Fin cfg0.N) (k : Fin 1024) : iblk m c 9 t (ix2 0 k) = m ((c.tc : Thread nD τ).loc main_arg9) (ix2 0 k) := by
  blk_point [iblk, V, idx t]
theorem rd10 (t : Fin cfg0.N) (k : Fin 1024) : iblk m c 10 t (ix2 0 k) = m ((c.tc : Thread nD τ).loc main_arg10) (ix1 k) := by
  blk_point [iblk, V, idx t]
theorem rd11 (t : Fin cfg0.N) (k e : Fin 1024) : iblk m c 11 t (ix2 k e) = m ((c.tc : Thread nD τ).loc main_arg11) (ix3 0 k e) := by
  blk_point [iblk, V, idx t]
theorem rd12 (t : Fin cfg0.N) (k : Fin 1024) (f : Fin 4096) : iblk m c 12 t (ix2 k f) = m ((c.tc : Thread nD τ).loc main_arg12) (ix3 0 k f) := by
  blk_point [iblk, V, idx t]
theorem rd13 (t : Fin cfg0.N) (f : Fin 4096) (d : Fin 1024) : iblk m c 13 t (ix2 f d) = m ((c.tc : Thread nD τ).loc main_arg13) (ix3 0 f d) := by
  blk_point [iblk, V, idx t]

/-- The kernel's output array is the reference's function of the arguments. -/
theorem final : (dats m 0 c).arrAt 14 cfg0.N =
    Cert.MlpsRefIdeal.Stage.REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) := by
  refine (dats m 0 c).arrAt_eq_of_covers 14 _ (by decide +kernel) fun t _ y => ?_
  blk_simp
  rw [after0_14]
  idx_vars y
  rw [Block.out_at]
  rw [emb14]
  unfold Cert.MlpsRefIdeal.Stage.REF
  simp only [rd0, rd1, rd2, rd3, rd4, rd5, rd6, rd7, rd8, rd9, rd10, rd11, rd12, rd13]
  rfl

end Cert.MlpsIdeal.Final
-- ==== Proof.Mlps.Claims.lean ====
/- The claims of the feed-forward call: the reference's frame, and the equation between the two programs' results. -/
module

public import proofs.«01_k».proof.Proof.Mlps.Final
public import proofs.«01_k».proof.Defs

@[expose] public section

noncomputable section

open Idealize.ShloMosaic Idealize.SL.Sem

/-- The reference changes no argument, and has no semaphore. -/
theorem Cert.MlpsRefIdeal.Claims.frame : Cert.quiescent_MlpsRefIdeal := fun m g _ =>
  (θ_run Cert.MlpsRefIdeal.defs _ _).mono (fun r h => ⟨fun c => (h c).2, sem_eq_zero_of_no_sems (by decide) r.2⟩)
    (Cert.MlpsRefIdeal.Value.run (F := Ideal) m g)

/-- The feed-forward kernel and its reference end with the same result. -/
theorem Cert.MlpsIdeal.Claims.algebraic : Cert.algebraic_MlpsIdeal_MlpsRefIdeal := by
  pair_intro
  · run_from Cert.MlpsIdeal.Value.run_blocks m g
  · run_from Cert.MlpsRefIdeal.Value.run m' g'
    refine (Cert.MlpsRefIdeal.Stage.result_eq m' c).trans ?_
    obtain ⟨h0, h1, h2, h3, h4, h5, h6, h7, h8, h9, h10, h11, h12, h13⟩ := hagree c
    rw [h0, h1, h2, h3, h4, h5, h6, h7, h8, h9, h10, h11, h12, h13]
    exact (Cert.MlpsRefIdeal.Stage.full_eq ..).trans (Cert.MlpsIdeal.Final.final m c).symm
-- ==== Proof.Step.Rows.lean ====
/- One step of the recurrence for one token, as functions of the token's rows over the extended reals. -/
module

public import proofs.«01_k».proof.Proof.Mlp.Rows

@[expose] public section

noncomputable section

namespace Cert.Step

open Idealize.ShloMosaic
open Cert.Mlp (sg)

/-- The causal convolution of the last three inputs `p` and the new input `u`. -/
def conv (u : Fin 2048 → EReal) (p : Fin 3 → Fin 2048 → EReal) (w : Fin 4 → Fin 2048 → EReal) (b : Fin 2048 → EReal) :
    Fin 2048 → EReal := fun c =>
  b c + w 3 c * u c + w 0 c * p 0 c + w 1 c * p 1 c + w 2 c * p 2 c

/-- The convolution with its activation. -/
def act (u : Fin 2048 → EReal) (p : Fin 3 → Fin 2048 → EReal) (w : Fin 4 → Fin 2048 → EReal) (b : Fin 2048 → EReal) :
    Fin 2048 → EReal := fun c => conv u p w b c * sg (conv u p w b c)

/-- The logarithm of one plus the exponential. -/
def sp (x : EReal) : EReal := max x 0 + Ideal.log1p (Ideal.exp (-max x (-x)))

/-- What is left of a state after a step of length `dt` at the rate `a`. -/
def decay (dt a : EReal) : EReal := Ideal.exp (dt * -Ideal.exp a)

/-- The new state at row `c` and column `n`, from the activated row `x`, each row's step `dt` and what is left `dec`. -/
def st (x : Fin 2048 → EReal) (dt dec : Fin 1024 → EReal) (s : Fin 1024 → Fin 128 → EReal) : Fin 1024 → Fin 128 → EReal := fun c n =>
  s c n * dec c + x ⟨c.val, by omega⟩ * dt c * x ⟨1024 + (c.val / 256 * 128 + n.val), by omega⟩

/-- What the new state `s` gives out, with the skip `sk`, times the gate `z`. -/
def gated (x : Fin 2048 → EReal) (s : Fin 1024 → Fin 128 → EReal) (sk z : Fin 1024 → EReal) : Fin 1024 → EReal := fun c =>
  (∑ n : Fin 128, x ⟨1536 + (c.val / 256 * 128 + n.val), by omega⟩ * s c n + sk c * x ⟨c.val, by omega⟩) * (z c * sg (z c))

/-- A row whose four groups of 256 entries are each divided by the root of their mean square, scaled by `w`. -/
def gnorm (v w : Fin 1024 → EReal) : Fin 1024 → EReal := fun c =>
  v c * Ideal.rsqrt (Ideal.div (∑ k : Fin 256, v ⟨c.val / 256 * 256 + k.val, by omega⟩ * v ⟨c.val / 256 * 256 + k.val, by omega⟩)
    (Ideal.ofBits .f32 0x43800000#32) + Ideal.ofBits .f32 0x358637BD#32) * w c

/-- A row spread by the matrix `e` in three parts: itself, what it differs from itself, and what that differs from itself. -/
def spread (v : Fin 128 → EReal) (e : Fin 128 → Fin 1024 → EReal) : Fin 1024 → EReal := fun c =>
  ∑ l, v l * e l c + ∑ l, (v l - v l) * e l c + ∑ l, (v l - v l - (v l - v l)) * e l c

/-- The matrix that spreads each of the sixteen lanes from 72 on over 64 columns. -/
def pick (l : Fin 128) (c : Fin 1024) : EReal := if l.val = 72 + c.val / 64 then 1 else 0

/-- Where the lane of a column is finite, the spread row holds it. -/
theorem spread_pick (v : Fin 128 → EReal) (c : Fin 1024) (h1 : v ⟨72 + c.val / 64, by omega⟩ ≠ ⊤) (h2 : v ⟨72 + c.val / 64, by omega⟩ ≠ ⊥) :
    spread v pick c = v ⟨72 + c.val / 64, by omega⟩ := by
  have hs (f : Fin 128 → EReal) : ∑ l, f l * pick l c = f ⟨72 + c.val / 64, by omega⟩ := by
    rw [Finset.sum_eq_single ⟨72 + c.val / 64, by omega⟩]
    · simp [pick]
    · intro l _ hl
      have : l.val ≠ 72 + c.val / 64 := fun h => hl (Fin.ext h)
      simp [pick, this]
    · simp
  unfold spread
  rw [hs, hs (fun l => v l - v l), hs (fun l => v l - v l - (v l - v l)), EReal.sub_self h1 h2]
  simp

end Cert.Step
-- ==== Proof.Step.Block.lean ====
/- What one grid point of the recurrence step computes from its blocks, value by value. -/
module

public import proofs.«01_k».proof.Proof.Step.Rows
public import proofs.«01_k».proof.Proof.Gen.StepIdeal.Frame

@[expose] public section

set_option maxRecDepth 16384

noncomputable section

namespace Cert.StepIdeal.Block

open Idealize.ShloMosaic Idealize.ShloMosaic.TcCoe Idealize.SL.Sem
open Cert.StepIdeal Cert.StepIdeal.Gen
open Cert.Step
open Cert.Mlp (sg)

/-- The convolved and activated row. -/
theorem pay2_at (u : Vec Ideal S1x1x2048 .f32) (p : Vec Ideal S1x3x2048 .f32) (b w3 w0 w1 w2 : Vec Ideal S1x2048 .f32) (c : Fin 2048) :
    k0_pay2 (F := Ideal) u p b w3 w0 w1 w2 (ix2 0 c) =
      (b (ix2 0 c) + w3 (ix2 0 c) * u (ix3 0 0 c) + w0 (ix2 0 c) * p (ix3 0 0 c) + w1 (ix2 0 c) * p (ix3 0 1 c) + w2 (ix2 0 c) * p (ix3 0 2 c))
        * sg (b (ix2 0 c) + w3 (ix2 0 c) * u (ix3 0 0 c) + w0 (ix2 0 c) * p (ix3 0 0 c) + w1 (ix2 0 c) * p (ix3 0 1 c) + w2 (ix2 0 c) * p (ix3 0 2 c)) := by
  pointwise [k0_pay2, sg]
  simp only [zero_sub, Ideal.absf_def]

/-- The columns of the spread steps times the inputs, and of what is left. -/
theorem pay6_at0 (x : FVec Ideal S1x1024 .f32) (mi : Vec Ideal S1x1x128 .f32) (db al : Vec Ideal S1x128 .f32) (e : Vec Ideal S128x1024 .bf16) (c : Fin 1024) :
    k0_pay6 (F := Ideal) x mi db al e (ix2 c 0) =
      x (ix2 0 c) * spread (fun l => sp (mi (ix3 0 0 l) + db (ix2 0 l))) (fun l c => e (ix2 l c)) c := by
  pointwise [k0_pay6, spread, sp]
  simp only [zero_sub, Ideal.absf_def]

theorem pay6_at1 (x : FVec Ideal S1x1024 .f32) (mi : Vec Ideal S1x1x128 .f32) (db al : Vec Ideal S1x128 .f32) (e : Vec Ideal S128x1024 .bf16) (c : Fin 1024) :
    k0_pay6 (F := Ideal) x mi db al e (ix2 c 1) =
      spread (fun l => decay (sp (mi (ix3 0 0 l) + db (ix2 0 l))) (al (ix2 0 l))) (fun l c => e (ix2 l c)) c := by
  pointwise [k0_pay6, spread, decay, sp]
  simp only [zero_sub, Ideal.absf_def]

/-! The new state of each of the four groups: the rows of the group, the group's columns of the second factor. -/

theorem pay8_at (b : FVec Ideal S1x512 .f32) (v : FVec Ideal S1024x128 .f32) (s : Vec Ideal S1x4x64x128 .f32) (r : Fin 256) (n : Fin 128) :
    k0_pay8 (F := Ideal) b v s (ix2 r n) =
      s (ix4 0 ⟨r.val / 64, by omega⟩ ⟨r.val % 64, by omega⟩ n) * v (ix2 ⟨r.val, by omega⟩ 1) + v (ix2 ⟨r.val, by omega⟩ 0) * b (ix2 0 ⟨n.val, by omega⟩) := by
  pointwise [k0_pay8]

theorem pay11_at (b : FVec Ideal S1x512 .f32) (v : FVec Ideal S1024x128 .f32) (s : Vec Ideal S1x4x64x128 .f32) (r : Fin 256) (n : Fin 128) :
    k0_pay11 (F := Ideal) b v s (ix2 r n) =
      s (ix4 0 ⟨r.val / 64, by omega⟩ ⟨r.val % 64, by omega⟩ n) * v (ix2 ⟨256 + r.val, by omega⟩ 1) + v (ix2 ⟨256 + r.val, by omega⟩ 0) * b (ix2 0 ⟨128 + n.val, by omega⟩) := by
  pointwise [k0_pay11]

theorem pay16_at (b : FVec Ideal S1x512 .f32) (v : FVec Ideal S1024x128 .f32) (s : Vec Ideal S1x4x64x128 .f32) (r : Fin 256) (n : Fin 128) :
    k0_pay16 (F := Ideal) b v s (ix2 r n) =
      s (ix4 0 ⟨r.val / 64, by omega⟩ ⟨r.val % 64, by omega⟩ n) * v (ix2 ⟨512 + r.val, by omega⟩ 1) + v (ix2 ⟨512 + r.val, by omega⟩ 0) * b (ix2 0 ⟨256 + n.val, by omega⟩) := by
  pointwise [k0_pay16]

theorem pay19_at (b : FVec Ideal S1x512 .f32) (v : FVec Ideal S1024x128 .f32) (s : Vec Ideal S1x4x64x128 .f32) (r : Fin 256) (n : Fin 128) :
    k0_pay19 (F := Ideal) b v s (ix2 r n) =
      s (ix4 0 ⟨r.val / 64, by omega⟩ ⟨r.val % 64, by omega⟩ n) * v (ix2 ⟨768 + r.val, by omega⟩ 1) + v (ix2 ⟨768 + r.val, by omega⟩ 0) * b (ix2 0 ⟨384 + n.val, by omega⟩) := by
  pointwise [k0_pay19]

/-! What each group's new state gives out, before the skip. -/

theorem pay10_at (b k : FVec Ideal S1x512 .f32) (v : FVec Ideal S1024x128 .f32) (o : FVec Ideal S15x128 .f32) (s : Vec Ideal S1x4x64x128 .f32) (r : Fin 256) :
    k0_pay10 (F := Ideal) b k v o s (ix2 0 r) = ∑ n : Fin 128, k (ix2 0 ⟨n.val, by omega⟩) * k0_pay8 (F := Ideal) b v s (ix2 r n) := by
  pointwise [k0_pay10]

theorem pay15_at (b k : FVec Ideal S1x512 .f32) (v : FVec Ideal S1024x128 .f32) (o : FVec Ideal S15x128 .f32) (s : Vec Ideal S1x4x64x128 .f32) (r : Fin 256) :
    k0_pay15 (F := Ideal) (k0_pay13 (F := Ideal) k o) (k0_pay14 (F := Ideal) b v s) (ix2 0 r) =
      ∑ n : Fin 128, k (ix2 0 ⟨128 + n.val, by omega⟩) * k0_pay11 (F := Ideal) b v s (ix2 r n) := by
  pointwise [k0_pay15, k0_pay13, k0_pay14]

theorem pay18_at (b k : FVec Ideal S1x512 .f32) (v : FVec Ideal S1024x128 .f32) (o : FVec Ideal S15x128 .f32) (s : Vec Ideal S1x4x64x128 .f32) (r : Fin 256) :
    k0_pay18 (F := Ideal) b k v o s (ix2 0 r) = ∑ n : Fin 128, k (ix2 0 ⟨256 + n.val, by omega⟩) * k0_pay16 (F := Ideal) b v s (ix2 r n) := by
  pointwise [k0_pay18]

/-! The stored pieces of the new state. -/

theorem pay9_at (b : FVec Ideal S1x512 .f32) (v : FVec Ideal S1024x128 .f32) (s : Vec Ideal S1x4x64x128 .f32) (a : Fin 4) (q : Fin 64) (n : Fin 128) :
    k0_pay9 (F := Ideal) b v s (ix4 0 a q n) = k0_pay8 (F := Ideal) b v s (ix2 ⟨a.val * 64 + q.val, by omega⟩ n) := by
  pointwise [k0_pay9]

theorem pay12_at (b : FVec Ideal S1x512 .f32) (v : FVec Ideal S1024x128 .f32) (s : Vec Ideal S1x4x64x128 .f32) (a : Fin 4) (q : Fin 64) (n : Fin 128) :
    k0_pay12 (F := Ideal) b v s (ix4 0 a q n) = k0_pay11 (F := Ideal) b v s (ix2 ⟨a.val * 64 + q.val, by omega⟩ n) := by
  pointwise [k0_pay12]

theorem pay17_at (b : FVec Ideal S1x512 .f32) (v : FVec Ideal S1024x128 .f32) (s : Vec Ideal S1x4x64x128 .f32) (a : Fin 4) (q : Fin 64) (n : Fin 128) :
    k0_pay17 (F := Ideal) b v s (ix4 0 a q n) = k0_pay16 (F := Ideal) b v s (ix2 ⟨a.val * 64 + q.val, by omega⟩ n) := by
  pointwise [k0_pay17]

theorem pay21_at (b : FVec Ideal S1x512 .f32) (v : FVec Ideal S1024x128 .f32) (s : Vec Ideal S1x4x64x128 .f32) (a : Fin 4) (q : Fin 64) (n : Fin 128) :
    k0_pay21 (F := Ideal) (k0_pay20 (F := Ideal) b v s) (ix4 0 a q n) = k0_pay19 (F := Ideal) b v s (ix2 ⟨a.val * 64 + q.val, by omega⟩ n) := by
  pointwise [k0_pay21, k0_pay20]

/-- The whole row before the norm: the four groups side by side, the skip, the gate. -/
def row4 (a b c d : Fin 256 → EReal) (i : Fin 1024) : EReal :=
  if h : i.val < 256 then a ⟨i.val, h⟩ else if h : i.val - 256 < 256 then b ⟨i.val - 256, h⟩
  else if h : i.val - 256 - 256 < 256 then c ⟨i.val - 256 - 256, h⟩ else d ⟨i.val - 256 - 256 - 256, by omega⟩

theorem pay23_at (x : FVec Ideal S1x1024 .f32) (k : FVec Ideal S1x512 .f32) (o : FVec Ideal S15x128 .f32) (a b c : FVec Ideal S1x256 .f32)
    (s : FVec Ideal S256x128 .f32) (sk : Vec Ideal S1x1024 .f32) (z : Vec Ideal S1x1x1024 .f32) (i : Fin 1024) :
    k0_pay23 (F := Ideal) x k o a b c s sk z (ix2 0 i) =
      (row4 (fun j => a (ix2 0 j)) (fun j => b (ix2 0 j)) (fun j => c (ix2 0 j))
        (fun j => ∑ n : Fin 128, k (ix2 0 ⟨384 + n.val, by omega⟩) * s (ix2 j n)) i + sk (ix2 0 i) * x (ix2 0 i)) * (z (ix3 0 0 i) * sg (z (ix3 0 0 i))) := by
  pointwise [k0_pay23, row4, sg]
  simp only [zero_sub, Ideal.absf_def]

end Cert.StepIdeal.Block
-- ==== Proof.Step.Norm.lean ====
/- The norm of the recurrence step over the four groups, entry by entry. -/
module

public import proofs.«01_k».proof.Proof.Step.Block

@[expose] public section

set_option maxRecDepth 16384

noncomputable section

namespace Cert.StepIdeal.Block

open Idealize.ShloMosaic Idealize.ShloMosaic.TcCoe Idealize.SL.Sem
open Cert.StepIdeal Cert.StepIdeal.Gen
open Cert.Step

/-- One group's entry times the inverse root of the group's mean square. -/
def part (v : Fin 1024 → EReal) (g : ℕ) (hg : g + 256 ≤ 1024) (j : Fin 256) : EReal :=
  v ⟨g + j.val, by omega⟩ * Ideal.rsqrt (Ideal.div (∑ k : Fin 256, v ⟨g + k.val, by omega⟩ * v ⟨g + k.val, by omega⟩)
    (Ideal.ofBits .f32 0x43800000#32) + Ideal.ofBits .f32 0x358637BD#32)

theorem pay1_at (w y : FVec Ideal S1x1024 .f32) (n s : FVec Ideal S1x256 .f32) (q : FVec Ideal S1x1 .f32) (e : EReal) (c : Fin 1024) :
    k0_pay1 (F := Ideal) w y n s q e (ix3 0 0 c) =
      row4 (fun j => n (ix2 0 j)) (fun j => s (ix2 0 j) * Ideal.rsqrt (q (ix2 0 0) + e))
        (part (fun c => y (ix2 0 c)) 512 (by decide)) (part (fun c => y (ix2 0 c)) 768 (by decide)) c * w (ix2 0 c) := by
  pointwise [k0_pay1, row4, part]

theorem pay24_at (x : FVec Ideal S1x1024 .f32) (k : FVec Ideal S1x512 .f32) (o : FVec Ideal S15x128 .f32) (a b c : FVec Ideal S1x256 .f32)
    (s : FVec Ideal S256x128 .f32) (sk : Vec Ideal S1x1024 .f32) (z : Vec Ideal S1x1x1024 .f32) (v : Fin 1024 → EReal)
    (h : ∀ i, k0_pay23 (F := Ideal) x k o a b c s sk z (ix2 0 i) = v i) (j : Fin 256) :
    k0_pay24 (F := Ideal) x k o a b c s sk z (ix2 0 j) = part v 0 (by decide) j := by
  unfold k0_pay24
  generalize k0_pay23 (F := Ideal) x k o a b c s sk z = y at h ⊢
  obtain rfl : (fun i => y (ix2 0 i)) = v := funext h
  pointwise [part]

theorem pay25_at (x : FVec Ideal S1x1024 .f32) (k : FVec Ideal S1x512 .f32) (o : FVec Ideal S15x128 .f32) (a b c : FVec Ideal S1x256 .f32)
    (s : FVec Ideal S256x128 .f32) (sk : Vec Ideal S1x1024 .f32) (z : Vec Ideal S1x1x1024 .f32) (v : Fin 1024 → EReal)
    (h : ∀ i, k0_pay23 (F := Ideal) x k o a b c s sk z (ix2 0 i) = v i) (j : Fin 256) :
    k0_pay25 (F := Ideal) x k o a b c s sk z (ix2 0 j) = v ⟨256 + j.val, by omega⟩ := by
  rw [← h]
  pointwise [k0_pay25]

theorem pay26_at (x : FVec Ideal S1x1024 .f32) (k : FVec Ideal S1x512 .f32) (o : FVec Ideal S15x128 .f32) (a b c : FVec Ideal S1x256 .f32)
    (s : FVec Ideal S256x128 .f32) (sk : Vec Ideal S1x1024 .f32) (z : Vec Ideal S1x1x1024 .f32) (v : Fin 1024 → EReal)
    (h : ∀ i, k0_pay23 (F := Ideal) x k o a b c s sk z (ix2 0 i) = v i) :
    k0_pay26 (F := Ideal) x k o a b c s sk z (ix2 0 0) =
      Ideal.div (∑ k : Fin 256, v ⟨256 + k.val, by omega⟩ * v ⟨256 + k.val, by omega⟩) (Ideal.ofBits .f32 0x43800000#32) := by
  simp only [← pay25_at x k o a b c s sk z v h]
  pointwise [k0_pay26]

/-- The four groups side by side are the norm. -/
theorem row4_norm (v w : Fin 1024 → EReal) (c : Fin 1024) :
    row4 (part v 0 (by decide)) (part v 256 (by decide)) (part v 512 (by decide)) (part v 768 (by decide)) c * w c = gnorm v w c := by
  have hc := c.isLt
  have key (g : ℕ) (hg : g + 256 ≤ 1024) (hq : c.val / 256 * 256 = g) (j : Fin 256) (hj : g + j.val = c.val) : part v g hg j * w c = gnorm v w c := by
    subst hq
    unfold part gnorm
    rw [show (⟨c.val / 256 * 256 + j.val, by omega⟩ : Fin 1024) = c from Fin.ext hj]
  unfold row4
  split
  · exact key 0 _ (by omega) _ (by dsimp only; omega)
  · split
    · exact key 256 _ (by omega) _ (by dsimp only; omega)
    · split
      · exact key 512 _ (by omega) _ (by dsimp only; omega)
      · exact key 768 _ (by omega) _ (by dsimp only; omega)

end Cert.StepIdeal.Block
-- ==== Proof.Step.Out.lean ====
/- What one grid point of the recurrence step leaves in its two output blocks. -/
module

public import proofs.«01_k».proof.Proof.Step.Norm

@[expose] public section

set_option maxRecDepth 16384

noncomputable section

namespace Cert.StepIdeal.Block

open Idealize.ShloMosaic Idealize.ShloMosaic.TcCoe Idealize.SL.Sem
open Cert.StepIdeal Cert.StepIdeal.Gen
open Cert.Step
open Cert.Mlp (sg)

/-- Row `a` of the four rows of the convolution's weights. -/
theorem ldW (x : Vec Ideal S4x2048 .f32) (a : ℕ) (h : ∀ k, ![a, 0] k + S1x2048.size k ≤ S4x2048.size k) (c : Fin 2048) (ha : a < 4) :
    View.ld x (Rect.unit (s := S4x2048) ![a, 0] S1x2048.size h) (ix2 0 c) = x (ix2 ⟨a, ha⟩ c) := by
  rw [View.ld_apply]; congr 1; funext i; apply Fin.ext; fin_cases i <;> simp

/-- The four heads from head `a` on. -/
theorem ldS (x : Vec Ideal S1x16x64x128 .f32) (a : ℕ) (h : ∀ k, ![0, a, 0, 0] k + S1x4x64x128.size k ≤ S1x16x64x128.size k)
    (i : Fin 4) (q : Fin 64) (n : Fin 128) (ha : a + i.val < 16) :
    View.ld x (Rect.unit (s := S1x16x64x128) ![0, a, 0, 0] S1x4x64x128.size h) (ix4 0 i q n) = x (ix4 0 ⟨a + i.val, ha⟩ q n) := by
  rw [View.ld_apply]; congr 1; funext i; apply Fin.ext; fin_cases i <;> simp

/-! The blocks read whole. -/

theorem ld2 (x : Vec Ideal S1x1x128 .f32) (l : Fin 128) : View.ld x r0_7 (ix3 0 0 l) = x (ix3 0 0 l) := by
  rw [View.ld_apply]; congr 1; funext i; apply Fin.ext; fin_cases i <;> simp
theorem ld7 (x : Vec Ideal S1x128 .f32) (l : Fin 128) : View.ld x r0_8 (ix2 0 l) = x (ix2 0 l) := by
  rw [View.ld_apply]; congr 1; funext i; apply Fin.ext; fin_cases i <;> simp
theorem ld9 (x : Vec Ideal S128x1024 .bf16) (l : Fin 128) (c : Fin 1024) : View.ld x r0_9 (ix2 l c) = x (ix2 l c) := by
  rw [View.ld_apply]; congr 1; funext i; apply Fin.ext; fin_cases i <;> simp

variable (x0 : Vec Ideal S1x1x2048 .f32) (x1 : Vec Ideal S1x3x2048 .f32) (x2 : Vec Ideal S1x1x128 .f32) (x3 : Vec Ideal S1x1x1024 .f32)
  (x4 : Vec Ideal S1x16x64x128 .f32) (x5 : Vec Ideal S4x2048 .f32) (x6 : Vec Ideal S1x2048 .f32) (x7 x8 : Vec Ideal S1x128 .f32)
  (x9 : Vec Ideal S128x1024 .bf16) (x10 x11 : Vec Ideal S1x1024 .f32)

/-- The activated row, of the windows' blocks. -/
abbrev A : Fin 2048 → EReal :=
  act (fun k => x0 (ix3 0 0 k)) (fun j k => x1 (ix3 0 j k)) (fun j k => x5 (ix2 j k)) (fun k => x6 (ix2 0 k))

/-- Each row's step, of the windows' blocks. -/
abbrev D : Fin 1024 → EReal := spread (fun l => sp (x2 (ix3 0 0 l) + x7 (ix2 0 l))) (fun l c => x9 (ix2 l c))

/-- What is left of each row, of the windows' blocks. -/
abbrev E : Fin 1024 → EReal := spread (fun l => decay (sp (x2 (ix3 0 0 l) + x7 (ix2 0 l))) (x8 (ix2 0 l))) (fun l c => x9 (ix2 l c))

/-- The new state, of the windows' blocks. -/
abbrev S : Fin 1024 → Fin 128 → EReal :=
  st (A x0 x1 x5 x6) (D x2 x7 x9) (E x2 x7 x8 x9) (fun c n => x4 (ix4 0 ⟨c.val / 64, by omega⟩ ⟨c.val % 64, by omega⟩ n))

theorem act_at (c : Fin 2048) :
    k0_pay2 (F := Ideal) (View.ld x0 r0_0) (View.ld x1 r0_1) (View.ld x6 r0_2) (View.ld x5 r0_3) (View.ld x5 r0_4) (View.ld x5 r0_5) (View.ld x5 r0_6) (ix2 0 c) =
      A x0 x1 x5 x6 c := by
  simp (disch := decide) only [View.ld_unit_lit']
  rw [pay2_at, ldW x5 3 _ c (by decide), ldW x5 0 _ c (by decide), ldW x5 1 _ c (by decide), ldW x5 2 _ c (by decide)]
  rfl

theorem pay27_at (c : Fin 1024) : k0_pay27 (F := Ideal) x0 x1 x2 x3 x4 x5 x6 x7 x8 x9 x10 x11 (ix2 0 c) = A x0 x1 x5 x6 ⟨c.val, by omega⟩ := by
  pointwise [k0_pay27, k0_pay3]
  exact act_at ..

theorem pay28_at (c : Fin 512) : k0_pay28 (F := Ideal) x0 x1 x2 x3 x4 x5 x6 x7 x8 x9 x10 x11 (ix2 0 c) = A x0 x1 x5 x6 ⟨1024 + c.val, by omega⟩ := by
  pointwise [k0_pay28, k0_pay4]
  exact act_at ..

theorem pay29_at (c : Fin 512) : k0_pay29 (F := Ideal) x0 x1 x2 x3 x4 x5 x6 x7 x8 x9 x10 x11 (ix2 0 c) = A x0 x1 x5 x6 ⟨1536 + c.val, by omega⟩ := by
  pointwise [k0_pay29, k0_pay5]
  exact act_at ..

theorem pay30_at0 (c : Fin 1024) : k0_pay30 (F := Ideal) x0 x1 x2 x3 x4 x5 x6 x7 x8 x9 x10 x11 (ix2 c 0) =
    A x0 x1 x5 x6 ⟨c.val, by omega⟩ * D x2 x7 x9 c := by
  unfold k0_pay30
  rw [pay6_at0, pay27_at]
  exact congrArg₂ (fun v e => A x0 x1 x5 x6 ⟨c.val, by omega⟩ * spread v e c)
    (funext fun l => congrArg sp (congrArg₂ (· + ·) (ld2 x2 l) (ld7 x7 l))) (funext fun l => funext fun c => ld9 x9 l c)

theorem pay30_at1 (c : Fin 1024) : k0_pay30 (F := Ideal) x0 x1 x2 x3 x4 x5 x6 x7 x8 x9 x10 x11 (ix2 c 1) = E x2 x7 x8 x9 c := by
  unfold k0_pay30
  rw [pay6_at1]
  exact congrArg₂ (fun v e => spread v e c)
    (funext fun l => congrArg₂ decay (congrArg sp (congrArg₂ (· + ·) (ld2 x2 l) (ld7 x7 l))) (ld7 x8 l)) (funext fun l => funext fun c => ld9 x9 l c)

/-- A row of a group's new state is the row of the whole state. -/
theorem row_st (g : ℕ) (hg : g < 4) (c : Fin 1024) (r : Fin 256) (hc : c.val = g * 256 + r.val) (n : Fin 128)
    (i : Fin 16) (hi : i.val = g * 4 + r.val / 64) (b : Fin 512) (hb : b.val = g * 128 + n.val) :
    x4 (ix4 0 i ⟨r.val % 64, by omega⟩ n) * k0_pay30 (F := Ideal) x0 x1 x2 x3 x4 x5 x6 x7 x8 x9 x10 x11 (ix2 c 1)
      + k0_pay30 (F := Ideal) x0 x1 x2 x3 x4 x5 x6 x7 x8 x9 x10 x11 (ix2 c 0) * k0_pay28 (F := Ideal) x0 x1 x2 x3 x4 x5 x6 x7 x8 x9 x10 x11 (ix2 0 b) =
    S x0 x1 x2 x4 x5 x6 x7 x8 x9 c n := by
  rw [pay30_at0, pay30_at1, pay28_at]
  unfold S st
  have e1 : i = ⟨c.val / 64, by omega⟩ := Fin.ext (by dsimp only; omega)
  have e2 : (⟨r.val % 64, by omega⟩ : Fin 64) = ⟨c.val % 64, by omega⟩ := Fin.ext (by dsimp only; omega)
  have e3 : (⟨1024 + b.val, by omega⟩ : Fin 2048) = ⟨1024 + (c.val / 256 * 128 + n.val), by omega⟩ := Fin.ext (by dsimp only; omega)
  rw [e1, e2, e3]

/-! The new state of each group. -/

theorem g0 (r : Fin 256) (n : Fin 128) :
    k0_pay8 (F := Ideal) (k0_pay28 x0 x1 x2 x3 x4 x5 x6 x7 x8 x9 x10 x11) (k0_pay30 x0 x1 x2 x3 x4 x5 x6 x7 x8 x9 x10 x11) (View.ld x4 r0_10) (ix2 r n) =
      S x0 x1 x2 x4 x5 x6 x7 x8 x9 ⟨r.val, by omega⟩ n := by
  rw [pay8_at, ldS x4 0 _ _ _ _ (by dsimp only; omega)]
  exact row_st (g := 0) (hg := by decide) (hc := by dsimp only; omega) (hi := by dsimp only) (hb := by dsimp only; omega) ..

theorem g1 (r : Fin 256) (n : Fin 128) :
    k0_pay11 (F := Ideal) (k0_pay28 x0 x1 x2 x3 x4 x5 x6 x7 x8 x9 x10 x11) (k0_pay30 x0 x1 x2 x3 x4 x5 x6 x7 x8 x9 x10 x11) (View.ld x4 r0_11) (ix2 r n) =
      S x0 x1 x2 x4 x5 x6 x7 x8 x9 ⟨256 + r.val, by omega⟩ n := by
  rw [pay11_at, ldS x4 4 _ _ _ _ (by dsimp only; omega)]
  exact row_st (g := 1) (hg := by decide) (hc := by dsimp only) (hi := by dsimp only) (hb := by dsimp only) ..

theorem g2 (r : Fin 256) (n : Fin 128) :
    k0_pay16 (F := Ideal) (k0_pay28 x0 x1 x2 x3 x4 x5 x6 x7 x8 x9 x10 x11) (k0_pay30 x0 x1 x2 x3 x4 x5 x6 x7 x8 x9 x10 x11) (View.ld x4 r0_12) (ix2 r n) =
      S x0 x1 x2 x4 x5 x6 x7 x8 x9 ⟨512 + r.val, by omega⟩ n := by
  rw [pay16_at, ldS x4 8 _ _ _ _ (by dsimp only; omega)]
  exact row_st (g := 2) (hg := by decide) (hc := by dsimp only) (hi := by dsimp only) (hb := by dsimp only) ..

theorem g3 (r : Fin 256) (n : Fin 128) :
    k0_pay19 (F := Ideal) (k0_pay28 x0 x1 x2 x3 x4 x5 x6 x7 x8 x9 x10 x11) (k0_pay30 x0 x1 x2 x3 x4 x5 x6 x7 x8 x9 x10 x11) (View.ld x4 r0_13) (ix2 r n) =
      S x0 x1 x2 x4 x5 x6 x7 x8 x9 ⟨768 + r.val, by omega⟩ n := by
  rw [pay19_at, ldS x4 12 _ _ _ _ (by dsimp only; omega)]
  exact row_st (g := 3) (hg := by decide) (hc := by dsimp only) (hi := by dsimp only) (hb := by dsimp only) ..

/-- The block of the new state. -/
theorem state_at (h : Fin 16) (q : Fin 64) (n : Fin 128) :
    out0_13 (F := Ideal) x0 x1 x2 x3 x4 x5 x6 x7 x8 x9 x10 x11 (ix4 0 h q n) =
      S x0 x1 x2 x4 x5 x6 x7 x8 x9 ⟨h.val * 64 + q.val, by omega⟩ n := by
  canon_tiles x k
  all_goals
    idx_vars x
    obtain rfl : q = x2 := Fin.ext (by simpa using k2)
    obtain rfl : n = x3 := Fin.ext (by simpa using k3)
    obtain rfl : x0 = 0 := Subsingleton.elim _ _
    have k1' : h.val = _ := k1
  all_goals first | rw [pay9_at, g0] | rw [pay12_at, g1] | rw [pay17_at, g2] | rw [pay21_at, g3]
  all_goals exact congrArg (fun c => S _ _ _ _ _ _ _ _ _ c n) (Fin.ext (by dsimp only; omega))

/-- The row before the norm. -/
theorem gated_at (c : Fin 1024) :
    k0_pay23 (F := Ideal) (k0_pay27 x0 x1 x2 x3 x4 x5 x6 x7 x8 x9 x10 x11) (k0_pay29 x0 x1 x2 x3 x4 x5 x6 x7 x8 x9 x10 x11)
      (k0_pay31 x0 x1 x2 x3 x4 x5 x6 x7 x8 x9 x10 x11) (k0_pay32 x0 x1 x2 x3 x4 x5 x6 x7 x8 x9 x10 x11) (k0_pay33 x0 x1 x2 x3 x4 x5 x6 x7 x8 x9 x10 x11)
      (k0_pay34 x0 x1 x2 x3 x4 x5 x6 x7 x8 x9 x10 x11) (k0_pay35 x0 x1 x2 x3 x4 x5 x6 x7 x8 x9 x10 x11) x10 x3 (ix2 0 c) =
      gated (A x0 x1 x5 x6) (S x0 x1 x2 x4 x5 x6 x7 x8 x9) (fun c => x10 (ix2 0 c)) (fun c => x3 (ix3 0 0 c)) c := by
  have h32 (j : Fin 256) : k0_pay32 (F := Ideal) x0 x1 x2 x3 x4 x5 x6 x7 x8 x9 x10 x11 (ix2 0 j) =
      ∑ n : Fin 128, A x0 x1 x5 x6 ⟨1536 + n.val, by omega⟩ * S x0 x1 x2 x4 x5 x6 x7 x8 x9 ⟨j.val, by omega⟩ n := by
    unfold k0_pay32; rw [pay10_at]; simp only [pay29_at, g0]
  have h33 (j : Fin 256) : k0_pay33 (F := Ideal) x0 x1 x2 x3 x4 x5 x6 x7 x8 x9 x10 x11 (ix2 0 j) =
      ∑ n : Fin 128, A x0 x1 x5 x6 ⟨1536 + (128 + n.val), by omega⟩ * S x0 x1 x2 x4 x5 x6 x7 x8 x9 ⟨256 + j.val, by omega⟩ n := by
    unfold k0_pay33; rw [pay15_at]; simp only [pay29_at, g1]
  have h34 (j : Fin 256) : k0_pay34 (F := Ideal) x0 x1 x2 x3 x4 x5 x6 x7 x8 x9 x10 x11 (ix2 0 j) =
      ∑ n : Fin 128, A x0 x1 x5 x6 ⟨1536 + (256 + n.val), by omega⟩ * S x0 x1 x2 x4 x5 x6 x7 x8 x9 ⟨512 + j.val, by omega⟩ n := by
    unfold k0_pay34; rw [pay18_at]; simp only [pay29_at, g2]
  have h35 (j : Fin 256) (n : Fin 128) : k0_pay35 (F := Ideal) x0 x1 x2 x3 x4 x5 x6 x7 x8 x9 x10 x11 (ix2 j n) =
      S x0 x1 x2 x4 x5 x6 x7 x8 x9 ⟨768 + j.val, by omega⟩ n := by
    unfold k0_pay35; rw [g3]
  rw [pay23_at]
  simp (disch := decide) only [View.ld_unit_lit', h32, h33, h34, h35, pay27_at, pay29_at]
  unfold gated
  refine congrArg (fun t => (t + _) * _) ?_
  have hc := c.isLt
  have key (g : ℕ) (hg : g < 4) (hq : c.val / 256 = g) (f : Fin 1024) (hf : f.val = c.val) (k : Fin 128 → Fin 2048)
      (hk : ∀ n, (k n).val = 1536 + (g * 128 + n.val)) :
      ∑ n : Fin 128, A x0 x1 x5 x6 (k n) * S x0 x1 x2 x4 x5 x6 x7 x8 x9 f n =
        ∑ n : Fin 128, A x0 x1 x5 x6 ⟨1536 + (c.val / 256 * 128 + n.val), by omega⟩ * S x0 x1 x2 x4 x5 x6 x7 x8 x9 c n := by
    obtain rfl : f = c := Fin.ext hf
    refine Finset.sum_congr rfl fun n _ => ?_
    rw [show k n = ⟨1536 + (f.val / 256 * 128 + n.val), by omega⟩ from Fin.ext (by dsimp only; rw [hk n, hq])]
  unfold row4
  split
  · exact key 0 (by decide) (by omega) _ rfl _ (fun n => by dsimp only; omega)
  · split
    · exact key 1 (by decide) (by omega) _ (by dsimp only; omega) _ (fun n => by dsimp only)
    · split
      · exact key 2 (by decide) (by omega) _ (by dsimp only; omega) _ (fun n => by dsimp only)
      · exact key 3 (by decide) (by omega) _ (by dsimp only; omega) _ (fun n => by dsimp only)

/-- The block of the normed row. -/
theorem norm_at (c : Fin 1024) :
    out0_12 (F := Ideal) x0 x1 x2 x3 x4 x5 x6 x7 x8 x9 x10 x11 (ix3 0 0 c) =
      gnorm (gated (A x0 x1 x5 x6) (S x0 x1 x2 x4 x5 x6 x7 x8 x9) (fun c => x10 (ix2 0 c)) (fun c => x3 (ix3 0 0 c))) (fun c => x11 (ix2 0 c)) c := by
  have h := gated_at x0 x1 x2 x3 x4 x5 x6 x7 x8 x9 x10 x11
  refine Eq.trans ?_ (row4_norm _ _ c)
  frame_out
  rw [pay1_at]
  have hw : k0_pay22 (F := Ideal) x11 (ix2 0 c) = x11 (ix2 0 c) := by
    pointwise [k0_pay22]
  rw [hw, pay26_at (h := h)]
  simp only [pay24_at (h := h), pay25_at (h := h), h]
  rfl

end Cert.StepIdeal.Block
-- ==== Proof.Step.Ref.lean ====
/- What the reference of the recurrence step computes, stage by stage. -/
module

public import proofs.«01_k».proof.Proof.Step.Rows
public import proofs.«01_k».proof.Proof.Gen.StepRefIdeal.Run

@[expose] public section

set_option maxRecDepth 16384

noncomputable section

namespace Cert.StepRefIdeal.Stage

open Idealize.ShloMosaic Idealize.ShloMosaic.TcCoe Idealize.SL.Sem
open Cert.StepRefIdeal Cert.StepRefIdeal.Gen
open Cert.Step
open Cert.Mlp (sg)

/-- The last three inputs and the new one. -/
def ins (p : FVec Ideal S1x32x3x2048 .f32) (u : FVec Ideal S32x2048 .f32) : FVec Ideal S32x4x2048 .f32 :=
  concatenate S32x4x2048 1 [⟨S32x3x2048, shapeCast S32x3x2048 p shapeCasts_S1x32x3x2048_S32x3x2048⟩,
    ⟨S32x1x2048, broadcastInDim S32x1x2048 ![0, 2] bcast_S32x2048_S32x1x2048_0_2 u⟩] concatenates_S32x3x2048_S32x1x2048_S32x4x2048_d1

/-- One row for every token. -/
def every (b : FVec Ideal S2048 .f32) : FVec Ideal S32x2048 .f32 :=
  broadcastInDim S32x2048 ![0, 1] bcast_S1x2048_S32x2048_0_1 (broadcastInDim S1x2048 ![1] bcast_S2048_S1x2048_1 b)

/-- The convolution. -/
def cv (x : FVec Ideal S32x4x2048 .f32) (w : FVec Ideal S1x4x2048 .f32) (b : FVec Ideal S1x2048 .f32) : FVec Ideal S32x2048 .f32 :=
  addf (addf (addf (addf
    (mulf (shapeCast S32x2048 (extractStridedSlice S32x1x2048 ![0, 0, 0] x slices_S32x4x2048_S32x1x2048_0_0_0) shapeCasts_S32x1x2048_S32x2048)
      (every (shapeCast S2048 (extractStridedSlice S1x1x2048 ![0, 0, 0] w slices_S1x4x2048_S1x1x2048_0_0_0) shapeCasts_S1x1x2048_S2048)))
    (mulf (shapeCast S32x2048 (extractStridedSlice S32x1x2048 ![0, 1, 0] x slices_S32x4x2048_S32x1x2048_0_1_0) shapeCasts_S32x1x2048_S32x2048)
      (every (shapeCast S2048 (extractStridedSlice S1x1x2048 ![0, 1, 0] w slices_S1x4x2048_S1x1x2048_0_1_0) shapeCasts_S1x1x2048_S2048))))
    (mulf (shapeCast S32x2048 (extractStridedSlice S32x1x2048 ![0, 2, 0] x slices_S32x4x2048_S32x1x2048_0_2_0) shapeCasts_S32x1x2048_S32x2048)
      (every (shapeCast S2048 (extractStridedSlice S1x1x2048 ![0, 2, 0] w slices_S1x4x2048_S1x1x2048_0_2_0) shapeCasts_S1x1x2048_S2048))))
    (mulf (shapeCast S32x2048 (extractStridedSlice S32x1x2048 ![0, 3, 0] x slices_S32x4x2048_S32x1x2048_0_3_0) shapeCasts_S32x1x2048_S32x2048)
      (every (shapeCast S2048 (extractStridedSlice S1x1x2048 ![0, 3, 0] w slices_S1x4x2048_S1x1x2048_0_3_0) shapeCasts_S1x1x2048_S2048))))
    (every (shapeCast S2048 b shapeCasts_S1x2048_S2048))

/-- The activation. -/
def silu (x : FVec Ideal S32x2048 .f32) : FVec Ideal S32x2048 .f32 :=
  mulf x (Host.divf (broadcastInDim S32x2048 ![] bcast_S_S32x2048 (constant S_ .f32 0x3F800000#32))
    (addf (broadcastInDim S32x2048 ![] bcast_S_S32x2048 (constant S_ .f32 0x3F800000#32)) (Host.exp (Host.negf x))))

/-- The argument of the step of every head. -/
def pre (mi : FVec Ideal S32x128 .f32) (db : FVec Ideal S1x16 .f32) : FVec Ideal S32x16 .f32 :=
  addf (extractStridedSlice S32x16 ![0, 72] mi slices_S32x128_S32x16_0_72)
    (broadcastInDim S32x16 ![0, 1] bcast_S1x16_S32x16_0_1 (broadcastInDim S1x16 ![1] bcast_S16_S1x16_1 (shapeCast S16 db shapeCasts_S1x16_S16)))

/-- The logarithm of one plus the exponential. -/
def softplus (x : FVec Ideal S32x16 .f32) : FVec Ideal S32x16 .f32 :=
  let z := broadcastInDim S32x16 ![] bcast_S_S32x16 (constant (F := Ideal) S_ .f32 0x00000000#32)
  select (cmpf .une (subf x z) (subf x z)) (addf x z) (addf (maximumf x z) (Host.log1p (Host.exp (Host.negf (Host.absf (subf x z))))))

/-- What is left of every head's state. -/
def left (dt : FVec Ideal S32x16 .f32) (al : FVec Ideal S1x16 .f32) : FVec Ideal S32x16 .f32 :=
  Host.exp (mulf dt (broadcastInDim S32x16 ![0, 1] bcast_S1x16_S32x16_0_1 (broadcastInDim S1x16 ![1] bcast_S16_S1x16_1
    (Host.negf (Host.exp (shapeCast S16 al shapeCasts_S1x16_S16))))))

/-- The inputs of the recurrence, by group and head. -/
def xs (a : FVec Ideal S32x2048 .f32) : FVec Ideal S32x4x4x64 .f32 :=
  shapeCast S32x4x4x64 (extractStridedSlice S32x1024 ![0, 0] a slices_S32x2048_S32x1024_0_0) shapeCasts_S32x1024_S32x4x4x64

/-- The new state. -/
def state (a : FVec Ideal S32x2048 .f32) (dt dec : FVec Ideal S32x16 .f32) (s : FVec Ideal S1x32x16x64x128 .f32) : FVec Ideal S32x4x4x64x128 .f32 :=
  addf (mulf (shapeCast S32x4x4x64x128 (shapeCast S32x16x64x128 s shapeCasts_S1x32x16x64x128_S32x16x64x128) shapeCasts_S32x16x64x128_S32x4x4x64x128)
      (broadcastInDim S32x4x4x64x128 ![0, 1, 2, 3, 4] bcast_S32x4x4x1x1_S32x4x4x64x128_0_1_2_3_4
        (broadcastInDim S32x4x4x1x1 ![0, 1, 2] bcast_S32x4x4_S32x4x4x1x1_0_1_2 (shapeCast S32x4x4 dec shapeCasts_S32x16_S32x4x4))))
    (mulf (broadcastInDim S32x4x4x64x128 ![0, 1, 2, 3, 4] bcast_S32x4x4x64x1_S32x4x4x64x128_0_1_2_3_4
        (broadcastInDim S32x4x4x64x1 ![0, 1, 2, 3] bcast_S32x4x4x64_S32x4x4x64x1_0_1_2_3
          (mulf (xs a) (broadcastInDim S32x4x4x64 ![0, 1, 2, 3] bcast_S32x4x4x1_S32x4x4x64_0_1_2_3
            (broadcastInDim S32x4x4x1 ![0, 1, 2] bcast_S32x4x4_S32x4x4x1_0_1_2 (shapeCast S32x4x4 dt shapeCasts_S32x16_S32x4x4))))))
      (broadcastInDim S32x4x4x64x128 ![0, 1, 2, 3, 4] bcast_S32x4x1x1x128_S32x4x4x64x128_0_1_2_3_4
        (broadcastInDim S32x4x1x1x128 ![0, 1, 4] bcast_S32x4x128_S32x4x1x1x128_0_1_4
          (shapeCast S32x4x128 (extractStridedSlice S32x512 ![0, 1024] a slices_S32x2048_S32x512_0_1024) shapeCasts_S32x512_S32x4x128))))

/-- What the new state gives out, with the skip. -/
def given (a : FVec Ideal S32x2048 .f32) (s : FVec Ideal S32x4x4x64x128 .f32) (sk : FVec Ideal S1x16 .f32) : FVec Ideal S32x4x4x64 .f32 :=
  addf (Host.dotGeneral dot_S32x4x128_S32x4x4x64x128_S32x4x4x64_2_4_n_23_01_01 none
      (shapeCast S32x4x128 (extractStridedSlice S32x512 ![0, 1536] a slices_S32x2048_S32x512_0_1536) shapeCasts_S32x512_S32x4x128) s)
    (mulf (broadcastInDim S32x4x4x64 ![0, 1, 2, 3] bcast_S1x4x4x1_S32x4x4x64_0_1_2_3 (broadcastInDim S1x4x4x1 ![1, 2, 3] bcast_S4x4x1_S1x4x4x1_1_2_3
      (broadcastInDim S4x4x1 ![0, 1] bcast_S4x4_S4x4x1_0_1 (shapeCast S4x4 (shapeCast S16 sk shapeCasts_S1x16_S16) shapeCasts_S16_S4x4)))) (xs a))

/-- The gate. -/
def gate (y : FVec Ideal S32x4x4x64 .f32) (z : FVec Ideal S32x1024 .f32) : FVec Ideal S32x1024 .f32 :=
  mulf (shapeCast S32x1024 y shapeCasts_S32x4x4x64_S32x1024)
    (mulf z (Host.divf (broadcastInDim S32x1024 ![] bcast_S_S32x1024 (constant S_ .f32 0x3F800000#32))
      (addf (broadcastInDim S32x1024 ![] bcast_S_S32x1024 (constant S_ .f32 0x3F800000#32)) (Host.exp (Host.negf z)))))

/-- The norm of every group. -/
def norm (g : FVec Ideal S32x1024 .f32) (w : FVec Ideal S1x1024 .f32) : FVec Ideal S32x1x1024 .f32 :=
  let v : FVec Ideal S32x1x4x256 .f32 := shapeCast S32x1x4x256 g shapeCasts_S32x1024_S32x1x4x256
  mulf (shapeCast S32x1x1024 (mulf v (broadcastInDim S32x1x4x256 ![0, 1, 2, 3] bcast_S32x1x4x1_S32x1x4x256_0_1_2_3 (Host.rsqrt (addf (Host.divf
      (broadcastInDim S32x1x4x1 ![0, 1, 2] bcast_S32x1x4_S32x1x4x1_0_1_2 (Host.reduceAdd (mulf v v) (constant S_ .f32 0x00000000#32) reducesTo_S32x1x4x256_S32x1x4_d3 h_S_))
      (broadcastInDim S32x1x4x1 ![] bcast_S_S32x1x4x1 (constant S_ .f32 0x43800000#32)))
      (broadcastInDim S32x1x4x1 ![] bcast_S_S32x1x4x1 (constant S_ .f32 0x358637BD#32)))))) shapeCasts_S32x1x4x256_S32x1x1024)
    (broadcastInDim S32x1x1024 ![0, 1, 2] bcast_S1x1x1024_S32x1x1024_0_1_2 (broadcastInDim S1x1x1024 ![2] bcast_S1024_S1x1x1024_2 (shapeCast S1024 w shapeCasts_S1x1024_S1024)))

/-- Five terms in another order. -/
theorem turn5 (a b c d e : EReal) : a + b + c + d + e = e + d + a + b + c := by ac_rfl

theorem silu_at (p : FVec Ideal S1x32x3x2048 .f32) (u : FVec Ideal S32x2048 .f32) (w : FVec Ideal S1x4x2048 .f32) (b : FVec Ideal S1x2048 .f32)
    (r : Fin 32) (c : Fin 2048) :
    silu (cv (ins p u) w b) (ix2 r c) =
      act (fun k => u (ix2 r k)) (fun j k => p (ix4 0 r j k)) (fun j k => w (ix3 0 j k)) (fun k => b (ix2 0 k)) c := by
  have h : cv (ins p u) w b (ix2 r c) =
      conv (fun k => u (ix2 r k)) (fun j k => p (ix4 0 r j k)) (fun j k => w (ix3 0 j k)) (fun k => b (ix2 0 k)) c := by
    pointwise [cv, ins, every, conv]
    exact (turn5 _ _ _ _ _).trans (by simp only [mul_comm] <;> rfl)
  pointwise [silu]
  rw [h]
  rfl

theorem pre_at (mi : FVec Ideal S32x128 .f32) (db : FVec Ideal S1x16 .f32) (r : Fin 32) (h : Fin 16) :
    pre mi db (ix2 r h) = mi (ix2 r ⟨72 + h.val, by omega⟩) + db (ix2 0 h) := by
  pointwise [pre]

theorem softplus_at (x : FVec Ideal S32x16 .f32) (r : Fin 32) (h : Fin 16) : softplus x (ix2 r h) = sp (x (ix2 r h)) := by
  pointwise [softplus, sp]
  simp [Ideal.cmp, Ideal.absf_def]

theorem left_at (dt : FVec Ideal S32x16 .f32) (al : FVec Ideal S1x16 .f32) (r : Fin 32) (h : Fin 16) :
    left dt al (ix2 r h) = decay (dt (ix2 r h)) (al (ix2 0 h)) := by
  pointwise [left, decay]

theorem state_at (a : FVec Ideal S32x2048 .f32) (dt dec : FVec Ideal S32x16 .f32) (s : FVec Ideal S1x32x16x64x128 .f32)
    (r : Fin 32) (g h : Fin 4) (q : Fin 64) (n : Fin 128) :
    state a dt dec s (ix5 r g h q n) =
      st (fun k => a (ix2 r k)) (fun c => dt (ix2 r ⟨c.val / 64, by omega⟩)) (fun c => dec (ix2 r ⟨c.val / 64, by omega⟩))
        (fun c n => s (ix5 0 r ⟨c.val / 64, by omega⟩ ⟨c.val % 64, by omega⟩ n)) ⟨g.val * 256 + h.val * 64 + q.val, by omega⟩ n := by
  have e1 : (g.val * 256 + h.val * 64 + q.val) / 64 = g.val * 4 + h.val := by omega
  have e2 : (g.val * 256 + h.val * 64 + q.val) % 64 = q.val := by omega
  have e3 : (g.val * 256 + h.val * 64 + q.val) / 256 = g.val := by omega
  pointwise [state, xs, st]
  simp only [e1, e2, e3]

theorem gate_at (a : FVec Ideal S32x2048 .f32) (s : FVec Ideal S32x4x4x64x128 .f32) (sk : FVec Ideal S1x16 .f32) (z : FVec Ideal S32x1024 .f32)
    (r : Fin 32) (c : Fin 1024) :
    gate (given a s sk) z (ix2 r c) =
      gated (fun k => a (ix2 r k)) (fun c n => s (ix5 r ⟨c.val / 256, by omega⟩ ⟨c.val / 64 % 4, by omega⟩ ⟨c.val % 64, by omega⟩ n))
        (fun c => sk (ix2 0 ⟨c.val / 64, by omega⟩)) (fun k => z (ix2 r k)) c := by
  pointwise [gate, given, xs, gated, sg]
  simp only [show c.val / 256 * 4 + c.val / 64 % 4 = c.val / 64 by omega]

theorem norm_at (g : FVec Ideal S32x1024 .f32) (w : FVec Ideal S1x1024 .f32) (r : Fin 32) (t : Fin 1) (c : Fin 1024) :
    norm g w (ix3 r t c) = gnorm (fun k => g (ix2 r k)) (fun k => w (ix2 0 k)) c := by
  obtain rfl : t = 0 := Subsingleton.elim _ _
  pointwise [norm, gnorm]

/-! The two results as functions of the arguments. -/

section Results

variable (u : FVec Ideal S32x2048 .f32) (p : FVec Ideal S1x32x3x2048 .f32) (mi : FVec Ideal S32x128 .f32) (z : FVec Ideal S32x1024 .f32)
  (s : FVec Ideal S1x32x16x64x128 .f32) (w : FVec Ideal S1x4x2048 .f32) (b : FVec Ideal S1x2048 .f32) (db al sk : FVec Ideal S1x16 .f32)
  (nw : FVec Ideal S1x1024 .f32)

/-- Token `r`'s step of head `h`. -/
abbrev stepOf (r : Fin 32) (h : Fin 16) : EReal := sp (mi (ix2 r ⟨72 + h.val, by omega⟩) + db (ix2 0 h))

/-- Token `r`'s activated row. -/
abbrev actOf (r : Fin 32) : Fin 2048 → EReal :=
  act (fun k => u (ix2 r k)) (fun j k => p (ix4 0 r j k)) (fun j k => w (ix3 0 j k)) (fun k => b (ix2 0 k))

/-- Token `r`'s new state. -/
abbrev stOf (r : Fin 32) : Fin 1024 → Fin 128 → EReal :=
  st (actOf u p w b r) (fun c => stepOf mi db r ⟨c.val / 64, by omega⟩)
    (fun c => decay (stepOf mi db r ⟨c.val / 64, by omega⟩) (al (ix2 0 ⟨c.val / 64, by omega⟩)))
    (fun c n => s (ix5 0 r ⟨c.val / 64, by omega⟩ ⟨c.val % 64, by omega⟩ n))

/-- The normed row of every token. -/
def Y : FVec Ideal S32x1x1024 .f32 := fun i =>
  gnorm (gated (actOf u p w b (i 0)) (stOf u p mi s w b db al (i 0)) (fun c => sk (ix2 0 ⟨c.val / 64, by omega⟩)) (fun c => z (ix2 (i 0) c)))
    (fun c => nw (ix2 0 c)) (i 2)

/-- The new state of every token. -/
def N : FVec Ideal S32x16x64x128 .f32 := fun i =>
  stOf u p mi s w b db al (i 0) ⟨(i 1).val * 64 + (i 2).val, by have h1 : (i 1).val < 16 := (i 1).isLt; have h2 : (i 2).val < 64 := (i 2).isLt; omega⟩ (i 3)

/-- The new state, of the stages. -/
abbrev fullState : FVec Ideal S32x4x4x64x128 .f32 :=
  state (silu (cv (ins p u) w b)) (softplus (pre mi db)) (left (softplus (pre mi db)) al) s

theorem fullState_at (r : Fin 32) (g h : Fin 4) (q : Fin 64) (n : Fin 128) (c : Fin 1024) (hc : g.val * 256 + h.val * 64 + q.val = c.val) :
    fullState u p mi s w b db al (ix5 r g h q n) = stOf u p mi s w b db al r c n := by
  rw [fullState, state_at, show (⟨g.val * 256 + h.val * 64 + q.val, by omega⟩ : Fin 1024) = c from Fin.ext hc]
  simp only [silu_at, left_at, softplus_at, pre_at]

theorem y_eq : norm (gate (given (silu (cv (ins p u) w b)) (fullState u p mi s w b db al) sk) z) nw = Y u p mi z s w b db al sk nw := by
  funext i; idx_vars i
  rw [norm_at]
  unfold Y
  refine congrArg (fun v => gnorm v _ _) (funext fun c => ?_)
  rw [gate_at]
  simp only [silu_at]
  refine congrArg (fun t => gated _ t _ _ c) (funext fun c => funext fun n => ?_)
  exact fullState_at _ _ _ _ _ _ _ _ _ _ _ _ _ c (by dsimp only; omega)

theorem n_eq : shapeCast S32x16x64x128 (fullState u p mi s w b db al) shapeCasts_S32x4x4x64x128_S32x16x64x128 = N u p mi s w b db al := by
  funext i; idx_vars i
  unfold N
  pointwise
  exact fullState_at _ _ _ _ _ _ _ _ _ _ _ _ _ _ (by dsimp only; omega)

end Results

variable (m : (ℓ : Loc nD τ sig) → Buf (Elt Ideal) ℓ) (c : Dev nD)

theorem result0 : Value.res_out0 m c = Y (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) := by
  rw [← y_eq]; rfl

theorem result1 : Value.res_out1 m c = N (m ((c.tc : Thread nD τ).loc main_arg0)) (m ((c.tc : Thread nD τ).loc main_arg1))
    (m ((c.tc : Thread nD τ).loc main_arg2)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := by
  rw [← n_eq]; rfl

end Cert.StepRefIdeal.Stage
-- ==== Proof.Step.Host.lean ====
/- What the host operations before the recurrence step leave in its operands, entry by entry. -/
module

public import proofs.«01_k».proof.Proof.Step.Rows
public import proofs.«01_k».proof.Proof.Gen.StepIdeal.Value
public import Idealize.ShloMosaic.Lib.Claim
public import Idealize.ShloMosaic.Lib.StableHlo.RunRead
public import Idealize.ShloMosaic.Lib.Routing.OpsSet

@[expose] public section

set_option maxRecDepth 16384
noncomputable section

namespace Cert.StepIdeal.Host

open Idealize.ShloMosaic Idealize.ShloMosaic.TcCoe Idealize.SL.Sem
open Idealize.ShloMosaic.Pipeline (Dat)
open Idealize.ShloMosaic.StableHlo
open Idealize.ShloMosaic.Routing
open Cert.StepIdeal Cert.StepIdeal.Gen
open Cert.Step

variable (V0 : Valuation τ sig (Elt Ideal))

/-- Sixteen values written from entry 72 on: entry `72 + h` holds value `h`. -/
theorem put16 (x0 : FVec Ideal S128 .f32) (idx : IVec S1 32) (hi : ∀ i, idx i = 72#32) (upd : FVec Ideal S16 .f32) (h : Fin 16) :
    Host.scatter scatter_S128_S1_S16_0_n_0_0 (fun _ b => b) x0 idx upd (ix1 ⟨72 + h.val, by omega⟩) = upd (ix1 h) := by
  have hl (k : Fin 16) (x : Fin 128) : scatter_S128_S1_S16_0_n_0_0.resultIdx? (ix1 k) idx = some (ix1 x) ↔ 72 + k.val = x.val := by
    have h0 : scatter_S128_S1_S16_0_n_0_0.start (ix1 k) idx 0 = (72#32).toInt := congrArg BitVec.toInt (hi _)
    have h1 : scatter_S128_S1_S16_0_n_0_0.window (ix1 k) 0 = k.val := rfl
    have h2 : (72#32 : BitVec 32).toInt = 72 := by decide
    refine (resultIdx?_ix1 _ _ _ _).trans ?_
    rw [h0, h1, h2]; omega
  refine scatter_set_hit _ _ _ _ _ _ (fun j hj => ?_) (ix1 h) ((hl h _).2 rfl)
  idx_vars j
  have := (hl j0 _).1 hj
  exact congrArg upd (congrArg ix1 (Fin.ext (by simpa using this)))

/-- Sixteen rows written from row 72 on: the rows 72 to 87 hold them, the other rows what was there. -/
theorem put16r (x0 : FVec Ideal S128x1024 .f32) (idx : IVec S1 32) (hi : ∀ i, idx i = 72#32) (upd : FVec Ideal S16x1024 .f32) (l : Fin 128) (c : Fin 1024) :
    Host.scatter scatter_S128x1024_S1_S16x1024_01_n_0_0 (fun _ b => b) x0 idx upd (ix2 l c) =
      if h : 72 ≤ l.val ∧ l.val < 88 then upd (ix2 ⟨l.val - 72, by omega⟩ c) else x0 (ix2 l c) := by
  have hl (k : Fin 16) (d : Fin 1024) : scatter_S128x1024_S1_S16x1024_01_n_0_0.resultIdx? (ix2 k d) idx = some (ix2 l c) ↔
      72 + k.val = l.val ∧ d.val = c.val := by
    have h0 : scatter_S128x1024_S1_S16x1024_01_n_0_0.start (ix2 k d) idx 0 = (72#32).toInt := congrArg BitVec.toInt (hi _)
    have h1 : scatter_S128x1024_S1_S16x1024_01_n_0_0.window (ix2 k d) 0 = k.val := rfl
    have h3 : scatter_S128x1024_S1_S16x1024_01_n_0_0.start (ix2 k d) idx 1 = 0 := rfl
    have h4 : scatter_S128x1024_S1_S16x1024_01_n_0_0.window (ix2 k d) 1 = d.val := rfl
    have h2 : (72#32 : BitVec 32).toInt = 72 := by decide
    refine (resultIdx?_ix2 _ _ _ _ _).trans ?_
    rw [h0, h1, h2, h3, h4]; omega
  by_cases h : 72 ≤ l.val ∧ l.val < 88
  · rw [dif_pos h]
    refine scatter_set_hit _ _ _ _ _ _ (fun j hj => ?_) (ix2 ⟨l.val - 72, by omega⟩ c) ((hl _ _).2 ⟨by dsimp only; omega, rfl⟩)
    idx_vars j
    have := (hl j0 j1).1 hj
    exact congrArg upd (congrArg₂ ix2 (Fin.ext (by dsimp only; omega)) (Fin.ext this.2))
  · rw [dif_neg h]
    refine scatter_set_miss _ _ _ _ _ fun j hj => ?_
    idx_vars j
    have := (hl j0 j1).1 hj
    exact h (by omega)

theorem dtb (h : Fin 16) : (after (hostOps0 (F := Ideal)) V0 (Proc.devRef .tc main_v4) : FVec Ideal S1x128 .f32) (ix2 0 ⟨72 + h.val, by omega⟩) =
    (V0 (Proc.devRef .tc main_arg7) : FVec Ideal S1x16 .f32) (ix2 0 h) := by
  after_reads_simp
  pointwise []
  exact put16 _ _ (fun _ => rfl) _ h

theorem alog (h : Fin 16) : (after (hostOps0 (F := Ideal)) V0 (Proc.devRef .tc main_v8) : FVec Ideal S1x128 .f32) (ix2 0 ⟨72 + h.val, by omega⟩) =
    (V0 (Proc.devRef .tc main_arg8) : FVec Ideal S1x16 .f32) (ix2 0 h) := by
  after_reads_simp
  pointwise []
  exact put16 _ _ (fun _ => rfl) _ h

/-- The test for two equal small numbers, as a number. -/
theorem eye (a b : Fin 16) : FloatOps.uitofp (F := Ideal) FTy.f32 (IntOp.cmpi .eq (IntOp.addi (BitVec.ofNat 32 a.val) 0#32) (BitVec.ofNat 32 b.val)) =
    if a.val = b.val then (1 : EReal) else 0 := by
  have h : ∀ a b : Fin 16, IntOp.cmpi .eq (IntOp.addi (BitVec.ofNat 32 a.val) 0#32) (BitVec.ofNat 32 b.val) = if a.val = b.val then 1#1 else 0#1 := by
    decide +kernel
  rw [h a b]
  split <;> simp [FloatOps.uitofp]

theorem emat (l : Fin 128) (c : Fin 1024) : (after (hostOps0 (F := Ideal)) V0 (Proc.devRef .tc main_v20) : FVec Ideal S128x1024 .bf16) (ix2 l c) = pick l c := by
  after_reads_simp
  pointwise []
  refine (put16r _ _ (fun _ => rfl) _ l c).trans ?_
  unfold pick
  have hc := c.isLt
  by_cases h : 72 ≤ l.val ∧ l.val < 88
  · rw [dif_pos h]
    pointwise []
    refine (eye ⟨l.val - 72, by omega⟩ ⟨c.val / 64, by omega⟩).trans ?_
    dsimp only
    exact if_congr (by omega) rfl rfl
  · rw [dif_neg h, if_neg (by omega)]
    pointwise []

theorem skip (c : Fin 1024) : (after (hostOps0 (F := Ideal)) V0 (Proc.devRef .tc main_v24) : FVec Ideal S1x1024 .f32) (ix2 0 c) =
    (V0 (Proc.devRef .tc main_arg9) : FVec Ideal S1x16 .f32) (ix2 0 ⟨c.val / 64, by omega⟩) := by
  after_reads_simp
  pointwise []

end Cert.StepIdeal.Host
-- ==== Proof.Step.Finite.lean ====
/- The softplus and the decay are finite where the step's input is below infinity. -/
module

public import proofs.«01_k».proof.Proof.Step.Rows

@[expose] public section

noncomputable section

namespace Cert.Step

open Idealize.ShloMosaic

theorem exp_bot : Ideal.exp ⊥ = 0 := rfl
theorem exp_top : Ideal.exp ⊤ = ⊤ := rfl
theorem exp_coe (r : ℝ) : Ideal.exp (r : EReal) = (Real.exp r : EReal) := rfl
theorem log1p_top : Ideal.log1p ⊤ = ⊤ := rfl
theorem log1p_coe (r : ℝ) (h : 0 ≤ r) : Ideal.log1p (r : EReal) = (Real.log (1 + r) : EReal) := by
  have e : Ideal.log ((1 + r : ℝ) : EReal) = if 1 + r ≤ 0 then ⊥ else (Real.log (1 + r) : EReal) := rfl
  rw [Ideal.log1p, ← EReal.coe_one, ← EReal.coe_add, e, if_neg (by linarith)]

theorem coe_max (r s : ℝ) : ((max r s : ℝ) : EReal) = max (r : EReal) (s : EReal) := EReal.coe_strictMono.monotone.map_max

theorem exp_nonneg (x : EReal) : 0 ≤ Ideal.exp x := by
  induction x with
  | bot => exact le_refl _
  | top => exact le_top
  | coe r => rw [exp_coe]; exact_mod_cast (Real.exp_pos r).le

theorem log1p_nonneg (x : EReal) (h : 0 ≤ x) : 0 ≤ Ideal.log1p x := by
  induction x with
  | bot => simp at h
  | top => exact le_top
  | coe r =>
    have hr : 0 ≤ r := by exact_mod_cast h
    rw [log1p_coe r hr]
    exact_mod_cast Real.log_nonneg (by linarith)

theorem sp_nonneg (x : EReal) : 0 ≤ sp x :=
  add_nonneg (le_max_right _ _) (log1p_nonneg _ (exp_nonneg _))

theorem sp_ne_bot (x : EReal) : sp x ≠ ⊥ := fun h => by simpa [h] using sp_nonneg x

theorem sp_ne_top (x : EReal) (h : x < ⊤) : sp x ≠ ⊤ := by
  induction x with
  | bot =>
    have e : sp ⊥ = 0 + Ideal.log1p ((0 : ℝ) : EReal) := by
      unfold sp
      rw [EReal.neg_bot, max_eq_right bot_le, max_eq_right bot_le, EReal.neg_top, exp_bot, EReal.coe_zero]
    rw [e, log1p_coe 0 (le_refl _), ← EReal.coe_zero, ← EReal.coe_add]
    exact EReal.coe_ne_top _
  | top => exact absurd h (lt_irrefl _)
  | coe r =>
    unfold sp
    rw [← EReal.coe_neg, ← EReal.coe_zero, ← coe_max, ← coe_max, ← EReal.coe_neg, exp_coe, log1p_coe _ (Real.exp_pos _).le, ← EReal.coe_add]
    exact EReal.coe_ne_top _

theorem decay_ne_bot (d a : EReal) : decay d a ≠ ⊥ := fun h => by
  have := exp_nonneg (d * -Ideal.exp a)
  unfold decay at h
  rw [h] at this
  simp at this

theorem decay_ne_top (d a : EReal) (hd : 0 ≤ d) : decay d a ≠ ⊤ := by
  have h : d * -Ideal.exp a ≤ 0 := by
    rw [mul_neg]
    exact by simpa using EReal.neg_le_neg_iff.2 (mul_nonneg hd (exp_nonneg a))
  unfold decay
  generalize d * -Ideal.exp a = y at h
  induction y with
  | bot => rw [exp_bot]; exact EReal.zero_ne_top
  | top => simp at h
  | coe r => rw [exp_coe]; exact EReal.coe_ne_top _

end Cert.Step
-- ==== Proof.Step.Final.lean ====
/- The output arrays of the recurrence step, as functions of the arguments. -/
module

public import proofs.«01_k».proof.Proof.Step.Out
public import proofs.«01_k».proof.Proof.Step.Ref
public import proofs.«01_k».proof.Proof.Step.Host
public import proofs.«01_k».proof.Proof.Step.Finite

@[expose] public section

set_option maxRecDepth 16384

noncomputable section

namespace Cert.StepIdeal.Final

open Idealize.ShloMosaic Idealize.ShloMosaic.TcCoe Idealize.SL.Sem
open Idealize.ShloMosaic.Pipeline (Dat)
open Cert.StepIdeal Cert.StepIdeal.Gen
open Cert.Step Cert.StepRefIdeal.Stage

variable (m : (ℓ : Loc nD τ sig) → Buf (Elt Ideal) ℓ) (c : Dev nD)

/-- Each window's block: of the rows of one token, or the whole. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val, 0, 0] ∧ win0_13.index t = ![t.val, 0, 0, 0] :=
  (by decide +kernel : ∀ t : Fin grid0.N, _)

/-- The token of a grid point. -/
def tok (t : Fin cfg0.N) : Fin 32 := t

theorem emb12 (t : Fin cfg0.N) (a b : Fin 1) (k : Fin 1024) : ((cfg0.win 12).blk t).view.emb (ix3 a b k) = ix3 (tok t) b k := by
  blk_ext [idx t, tok]
theorem emb13 (t : Fin cfg0.N) (a : Fin 1) (h : Fin 16) (q : Fin 64) (n : Fin 128) :
    ((cfg0.win 13).blk t).view.emb (ix4 a h q n) = ix4 (tok t) h q n := by
  blk_ext [idx t, tok]

/-! Each window's block, entry by entry, as an entry of its argument. -/

theorem rd0 (t : Fin cfg0.N) (k : Fin 2048) : iblk m c 0 t (ix3 0 0 k) = m ((c.tc : Thread nD τ).loc main_arg0) (ix2 (tok t) k) := by
  blk_point [iblk, V, idx t, tok]
theorem rd1 (t : Fin cfg0.N) (j : Fin 3) (k : Fin 2048) : iblk m c 1 t (ix3 0 j k) = m ((c.tc : Thread nD τ).loc main_arg1) (ix4 0 (tok t) j k) := by
  blk_point [iblk, V, idx t, tok]
theorem rd2 (t : Fin cfg0.N) (k : Fin 128) : iblk m c 2 t (ix3 0 0 k) = m ((c.tc : Thread nD τ).loc main_arg2) (ix2 (tok t) k) := by
  blk_point [iblk, V, idx t, tok]
theorem rd3 (t : Fin cfg0.N) (k : Fin 1024) : iblk m c 3 t (ix3 0 0 k) = m ((c.tc : Thread nD τ).loc main_arg3) (ix2 (tok t) k) := by
  blk_point [iblk, V, idx t, tok]
theorem rd4 (t : Fin cfg0.N) (h : Fin 16) (q : Fin 64) (n : Fin 128) :
    iblk m c 4 t (ix4 0 h q n) = m ((c.tc : Thread nD τ).loc main_arg4) (ix5 0 (tok t) h q n) := by
  blk_point [iblk, V, idx t, tok]
theorem rd5 (t : Fin cfg0.N) (j : Fin 4) (k : Fin 2048) : iblk m c 5 t (ix2 j k) = m ((c.tc : Thread nD τ).loc main_arg5) (ix3 0 j k) := by
  blk_point [iblk, V, idx t, tok]
theorem rd6 (t : Fin cfg0.N) (k : Fin 2048) : iblk m c 6 t (ix2 0 k) = m ((c.tc : Thread nD τ).loc main_arg6) (ix2 0 k) := by
  blk_point [iblk, V, idx t, tok]
theorem w7 (t : Fin cfg0.N) (l : Fin 128) : iblk m c 7 t (ix2 0 l) = V m c (Pipeline.arrRef spec0 7) (ix2 0 l) := by
  blk_point [iblk, idx t]
theorem rd7 (t : Fin cfg0.N) (h : Fin 16) : iblk m c 7 t (ix2 0 ⟨72 + h.val, by omega⟩) = m ((c.tc : Thread nD τ).loc main_arg7) (ix2 0 h) :=
  (w7 m c t _).trans (Host.dtb _ h)
theorem w8 (t : Fin cfg0.N) (l : Fin 128) : iblk m c 8 t (ix2 0 l) = V m c (Pipeline.arrRef spec0 8) (ix2 0 l) := by
  blk_point [iblk, idx t]
theorem rd8 (t : Fin cfg0.N) (h : Fin 16) : iblk m c 8 t (ix2 0 ⟨72 + h.val, by omega⟩) = m ((c.tc : Thread nD τ).loc main_arg8) (ix2 0 h) :=
  (w8 m c t _).trans (Host.alog _ h)
theorem w9 (t : Fin cfg0.N) (l : Fin 128) (k : Fin 1024) : iblk m c 9 t (ix2 l k) = V m c (Pipeline.arrRef spec0 9) (ix2 l k) := by
  unfold iblk
  generalize V m c (Pipeline.arrRef spec0 9) = v
  blk_point [idx t]
theorem rd9 (t : Fin cfg0.N) (l : Fin 128) (k : Fin 1024) : iblk m c 9 t (ix2 l k) = pick l k :=
  (w9 m c t l k).trans (Host.emat _ l k)
theorem w10 (t : Fin cfg0.N) (k : Fin 1024) : iblk m c 10 t (ix2 0 k) = V m c (Pipeline.arrRef spec0 10) (ix2 0 k) := by
  blk_point [iblk, idx t]
theorem rd10 (t : Fin cfg0.N) (k : Fin 1024) : iblk m c 10 t (ix2 0 k) = m ((c.tc : Thread nD τ).loc main_arg9) (ix2 0 ⟨k.val / 64, by omega⟩) :=
  (w10 m c t k).trans (Host.skip _ k)
theorem rd11 (t : Fin cfg0.N) (k : Fin 1024) : iblk m c 11 t (ix2 0 k) = m ((c.tc : Thread nD τ).loc main_arg10) (ix2 0 k) := by
  blk_point [iblk, V, idx t, tok]

/-- The input of every step lies below infinity. -/
def Below (mi : FVec Ideal S32x128 .f32) (db : FVec Ideal S1x16 .f32) : Prop :=
  ∀ (r : Fin 32) (h : Fin 16), mi (ix2 r ⟨72 + h.val, by omega⟩) + db (ix2 0 h) < (⊤ : EReal)

/-- The activated row of the block is the token's. -/
theorem a_eq (t : Fin cfg0.N) : Block.A (iblk m c 0 t) (iblk m c 1 t) (iblk m c 5 t) (iblk m c 6 t) =
    actOf (m ((c.tc : Thread nD τ).loc main_arg0)) (m ((c.tc : Thread nD τ).loc main_arg1)) (m ((c.tc : Thread nD τ).loc main_arg5))
      (m ((c.tc : Thread nD τ).loc main_arg6)) (tok t) := by
  unfold Block.A actOf
  simp only [rd0, rd1, rd5, rd6]

/-- A spread row is the lane of each column, where that is finite. -/
theorem spread_eq (t : Fin cfg0.N) (v : Fin 128 → EReal) (k : Fin 1024) (h1 : v ⟨72 + k.val / 64, by omega⟩ ≠ ⊤) (h2 : v ⟨72 + k.val / 64, by omega⟩ ≠ ⊥) :
    spread v (fun l k => iblk m c 9 t (ix2 l k)) k = v ⟨72 + k.val / 64, by omega⟩ := by
  rw [show (fun l k => iblk m c 9 t (ix2 l k)) = pick from funext fun l => funext fun k => rd9 m c t l k]
  exact spread_pick v k h1 h2

variable (hb : Below (m ((c.tc : Thread nD τ).loc main_arg2)) (m ((c.tc : Thread nD τ).loc main_arg7)))
include hb

/-- Each row's step is the head's. -/
theorem d_eq (t : Fin cfg0.N) (k : Fin 1024) : Block.D (iblk m c 2 t) (iblk m c 7 t) (iblk m c 9 t) k =
    stepOf (m ((c.tc : Thread nD τ).loc main_arg2)) (m ((c.tc : Thread nD τ).loc main_arg7)) (tok t) ⟨k.val / 64, by omega⟩ := by
  have e := congrArg₂ (fun a b : EReal => sp (a + b)) (rd2 m c t ⟨72 + k.val / 64, by omega⟩) (rd7 m c t ⟨k.val / 64, by omega⟩)
  have hlt := hb (tok t) ⟨k.val / 64, by omega⟩
  refine (spread_eq m c t _ k ?_ ?_).trans e
  · exact fun h => sp_ne_top _ hlt (e.symm.trans h)
  · exact sp_ne_bot _

/-- What is left of each row is what is left of the head. -/
theorem e_eq (t : Fin cfg0.N) (k : Fin 1024) : Block.E (iblk m c 2 t) (iblk m c 7 t) (iblk m c 8 t) (iblk m c 9 t) k =
    decay (stepOf (m ((c.tc : Thread nD τ).loc main_arg2)) (m ((c.tc : Thread nD τ).loc main_arg7)) (tok t) ⟨k.val / 64, by omega⟩)
      ((m ((c.tc : Thread nD τ).loc main_arg8) : FVec Ideal S1x16 .f32) (ix2 0 ⟨k.val / 64, by omega⟩)) := by
  have e := congrArg₂ decay (congrArg₂ (fun a b : EReal => sp (a + b)) (rd2 m c t ⟨72 + k.val / 64, by omega⟩) (rd7 m c t ⟨k.val / 64, by omega⟩))
    (rd8 m c t ⟨k.val / 64, by omega⟩)
  refine (spread_eq m c t _ k ?_ ?_).trans e
  · exact decay_ne_top _ _ (sp_nonneg _)
  · exact decay_ne_bot _ _

/-- The new state of the block is the token's. -/
theorem s_eq (t : Fin cfg0.N) : Block.S (iblk m c 0 t) (iblk m c 1 t) (iblk m c 2 t) (iblk m c 4 t) (iblk m c 5 t) (iblk m c 6 t)
      (iblk m c 7 t) (iblk m c 8 t) (iblk m c 9 t) =
    stOf (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (tok t) := by
  unfold Block.S stOf
  rw [a_eq m c t, funext (d_eq m c hb t), funext (e_eq m c hb t)]
  simp only [rd4]

/-- The normed rows. -/
theorem final12 : (dats m 0 c).arrAt 12 cfg0.N =
    Y (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := by
  refine (dats m 0 c).arrAt_eq_of_covers 12 _ (by decide +kernel) fun t _ y => ?_
  blk_simp
  rw [after0_12]
  idx_vars y
  obtain rfl : y0 = 0 := Subsingleton.elim _ _
  obtain rfl : y1 = 0 := Subsingleton.elim _ _
  rw [Block.norm_at, emb12, a_eq m c t, s_eq m c hb t]
  unfold Y
  simp only [rd3, rd10, rd11]
  rfl

/-- The new states. -/
theorem final13 : (dats m 0 c).arrAt 13 cfg0.N =
    N (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) := by
  refine (dats m 0 c).arrAt_eq_of_covers 13 _ (by decide +kernel) fun t _ y => ?_
  blk_simp
  rw [after0_13]
  idx_vars y
  obtain rfl : y0 = 0 := Subsingleton.elim _ _
  rw [Block.state_at, emb13, s_eq m c hb t]
  rfl

end Cert.StepIdeal.Final
-- ==== Proof.Step.Claims.lean ====
/- The claims of the recurrence step: the frames under the precondition, and the equation between the two programs' results. -/
module

public import proofs.«01_k».proof.Proof.Step.Final
public import proofs.«01_k».proof.Defs

@[expose] public section

noncomputable section

open Idealize.ShloMosaic Idealize.ShloMosaic.TcCoe Idealize.ShloMosaic.StableHlo Idealize.SL.Sem
open Cert.StepRefIdeal.Stage (Y N)

/-- The shape relations of the precondition. -/
theorem Cert.Step.preFacts : Cert.Pre_steps_finite.Facts where
  slices_S32x128_S32x16_0_72 := by decide
  bcast_S1x16_S32x16_0_1 := by decide
  bcast_S_S32x16 := by decide

namespace Cert.StepIdeal.Final
open Cert.StepIdeal Cert.StepIdeal.Gen

attribute [local instance] Cert.Step.preFacts

/-- The precondition, entry by entry. -/
theorem below (a0 : FVec Ideal S32x2048 .f32) (a1 : FVec Ideal S1x32x3x2048 .f32) (a2 : FVec Ideal S32x128 .f32) (a3 : FVec Ideal S32x1024 .f32)
    (a4 : FVec Ideal S1x32x16x64x128 .f32) (a5 : FVec Ideal S1x4x2048 .f32) (a6 : FVec Ideal S1x2048 .f32) (a7 a8 a9 : FVec Ideal S1x16 .f32)
    (a10 : FVec Ideal S1x1024 .f32) (h : Cert.Pre_steps_finite.fn (F := Ideal) a0 a1 a2 a3 a4 a5 a6 a7 a8 a9 a10 = fun _ => 1#1) : Below a2 a7 := by
  intro r k
  have e := congrFun h (ix2 r k)
  unfold Cert.Pre_steps_finite.fn at e
  dsimp only at e
  have e' : BitVec.ofBool (decide (a2 (ix2 r ⟨72 + k.val, by omega⟩) + a7 (ix2 0 k) < Ideal.ofBits .f32 0x7F800000#32)) = 1#1 := by
    refine Eq.trans ?_ e
    pointwise []
  by_contra hn
  have ht : (Ideal.ofBits .f32 0x7F800000#32 : EReal) = ⊤ := by simp [Ideal.ofBits, Ideal.ieee]
  rw [ht, decide_eq_false hn] at e'
  exact absurd e' (by decide)

/-- The run's results as functions of the arguments, under the precondition. -/
theorem runF (m : (ℓ : Loc nD τ sig) → Buf (Elt Ideal) ℓ) (g : Dev nD → PrngReg)
    (hb : ∀ c : Dev nD, Below (m ((c.tc : Thread nD τ).loc main_arg2)) (m ((c.tc : Thread nD τ).loc main_arg7))) :
    θ_run defs (onTc (τ := τ) (main (F := Ideal))) ⟨m, fun _ => 0, g⟩ fun r => ∀ c : Dev nD,
    r.2.mem ((c.tc : Thread nD τ).loc main_v35_0) = Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ r.2.mem ((c.tc : Thread nD τ).loc main_v35_1) = N (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  (θ_run defs _ _).mono (fun r h c => ⟨(h c).1.trans (final12 m c (hb c)), (h c).2.1.trans (final13 m c (hb c)), (h c).2.2⟩)
    (Cert.StepIdeal.Value.run_blocks m g)

end Cert.StepIdeal.Final

/-- The reference changes no argument, and has no semaphore. -/
theorem Cert.StepRefIdeal.Claims.frame : Cert.quiescent_StepRefIdeal := fun m g _ =>
  (θ_run Cert.StepRefIdeal.defs _ _).mono (fun r h => ⟨fun c => (h c).2.2, sem_eq_zero_of_no_sems (by decide) r.2⟩)
    (Cert.StepRefIdeal.Value.run (F := Ideal) m g)

/-- The recurrence step and its reference end with the same two results. -/
theorem Cert.StepIdeal.Claims.algebraic :
    Cert.algebraic_StepIdeal_StepRefIdeal_pre_steps_finite (hPre_steps_finite := Cert.Step.preFacts) := by
  intro m g m' g' hpre hagree
  have hb := fun c => Cert.StepIdeal.Final.below _ _ _ _ _ _ _ _ _ _ _ (hpre c)
  refine ⟨_, _, Cert.StepIdeal.Final.runF m g hb, (θ_run Cert.StepRefIdeal.defs _ _).mono (fun r h c => ?_) (Cert.StepRefIdeal.Value.run (F := Ideal) m' g')⟩
  obtain ⟨h0, h1, h2, h3, h4, h5, h6, h7, h8, h9, h10⟩ := hagree c
  refine ⟨(h c).1.trans ((Cert.StepRefIdeal.Stage.result0 m' c).trans ?_), (h c).2.1.trans ((Cert.StepRefIdeal.Stage.result1 m' c).trans ?_), (h c).2.2⟩
  · rw [h0, h1, h2, h3, h4, h5, h6, h7, h8, h9, h10]
  · rw [h0, h1, h2, h4, h5, h6, h7, h8]
-- ==== Proof.Inprojs.Rows.lean ====
/- The in-projection of the sample's tokens, as functions of the arguments over the extended reals. -/
module

public import proofs.«01_k».proof.Proof.Inproj.Rows

@[expose] public section

noncomputable section

namespace Cert.Inprojs

open Idealize.ShloMosaic
open Cert.Inproj

variable (x : FVec Ideal ⟨3, ![32, 1, 1024]⟩ .f32) (sc sh : FVec Ideal ⟨3, ![1, 32, 1024]⟩ .f32) (nw : FVec Ideal ⟨2, ![1, 1024]⟩ .f32)
  (w : FVec Ideal ⟨3, ![1, 1024, 7256]⟩ .f32)

/-- The cosines of the position 8192, which follows the past. -/
def csS (j : Fin 8) : EReal := Ideal.cos (ang 8192 j)

/-- The sines of the position 8192. -/
def snS (j : Fin 8) : EReal := Ideal.sin (ang 8192 j)

/-- Column `n` of the projection of the token of sample `r`. -/
def prs (r : Fin 32) (n : Fin 7256) : EReal :=
  ∑ k, Mlp.hid (fun k => x (ix3 r 0 k)) (fun k => nw (ix2 0 k)) (fun k => sc (ix3 0 r k)) (fun k => sh (ix3 0 r k)) k * w (ix3 0 k n)

/-- The rotary turn of the head whose columns start at `o`. -/
def hds (r : Fin 32) (o : ℕ) (ho : o + 64 ≤ 7256) : Fin 64 → EReal :=
  rope csS snS (fun e => prs x sc sh nw w r ⟨o + e.val, by omega⟩)

/-- The turned heads of `n` columns from column `o`, side by side. -/
def tnS (φ : FTy) (o n : ℕ) (ho : o + n ≤ 7256) (h64 : n % 64 = 0) : FVec Ideal ⟨2, ![32, n]⟩ φ := fun i =>
  hds x sc sh nw w (i 0) (o + (i 1).val / 64 * 64) (by have := (i 1).isLt; simp at this; omega) ⟨(i 1).val % 64, by omega⟩

/-- The scaled queries. -/
def qS : FVec Ideal ⟨2, ![32, 1024]⟩ .f32 := fun i =>
  tnS x sc sh nw w .f32 0 1024 (by omega) (by omega) i * Ideal.ofBits .f32 0x3E000000#32

/-- The index keys, the index weights, the step sizes and forty zeros. -/
def miS : FVec Ideal ⟨2, ![32, 128]⟩ .f32 := fun i =>
  if h : (i 1).val < 64 then hds x sc sh nw w (i 0) 2048 (by omega) ⟨(i 1).val, h⟩
  else if h : (i 1).val < 72 then prs x sc sh nw w (i 0) ⟨2048 + (i 1).val, by omega⟩
  else if h : (i 1).val < 88 then prs x sc sh nw w (i 0) ⟨5120 + (i 1).val, by omega⟩ else 0

/-- A stretch of `n` columns of the projection, from column `o`. -/
def stS (o n : ℕ) (ho : o + n ≤ 7256) : FVec Ideal ⟨2, ![32, n]⟩ .f32 := fun i =>
  prs x sc sh nw w (i 0) ⟨o + (i 1).val, by have := (i 1).isLt; simp at this; omega⟩

end Cert.Inprojs
-- ==== Proof.Inprojs.Block.lean ====
/- What the one grid point of the sample's in-projection call computes, row by row. -/
module

public import proofs.«01_k».proof.Proof.Inprojs.Rows
public import proofs.«01_k».proof.Proof.Gen.InprojsIdeal.Frame
public import Idealize.ShloMosaic.Lib.Pipeline.ValueKit

@[expose] public section

set_option maxRecDepth 16384

noncomputable section

namespace Cert.InprojsIdeal.Block

open Idealize.ShloMosaic Idealize.ShloMosaic.TcCoe Idealize.SL.Sem
open Idealize.ShloMosaic.Pipeline (Dat)
open Cert.InprojsIdeal Cert.InprojsIdeal.Gen
open Cert.Mlp Cert.Inproj Cert.Inprojs

/-- The row of a table. -/
def row (v : FVec Ideal S1x128 .f32) : Fin 128 → EReal := fun l => v (ix2 0 l)

/-- Column `n` of the block's projection. -/
def pb (hb : FVec Ideal S32x1024 .bf16) (w : FVec Ideal S1024x7296 .bf16) (r : Fin 32) (n : Fin 7296) : EReal := ∑ k, hb (ix2 r k) * w (ix2 k n)

/-- A choice by the column below 64. -/
theorem sel_lt (l : Fin 128) (a b : EReal) : Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]; split <;> rfl
theorem rot1 (n : ℕ) : n + 128 - 120 = n + 8 := by omega
theorem rot2 (n : ℕ) : n + 128 - 8 = n + 120 := by omega

variable (b0 : Vec Ideal S32x1024 .f32) (b1 b2 : Vec Ideal S1x32x1024 .f32) (b3 : Vec Ideal S1x1024 .f32) (b4 : Vec Ideal S1024x7296 .bf16) (b5 b6 b7 : Vec Ideal S1x128 .f32)

/-- The modulated norm of a row of the block. -/
theorem pay41_at (r : Fin 32) (k : Fin 1024) : k0_pay41 b0 b1 b2 b3 b4 b5 b6 b7 (ix2 r k) =
    hid (fun k => b0 (ix2 r k)) (fun k => b3 (ix2 0 k)) (fun k => b1 (ix3 0 r k)) (fun k => b2 (ix3 0 r k)) k := by
  pointwise [k0_pay41, k0_pay6, hid, nrm]
theorem row42 : row (k0_pay42 b0 b1 b2 b3 b4 b5 b6 b7) = row b5 := by
  funext l; pointwise [k0_pay42, k0_pay7, row]
theorem row43 : row (k0_pay43 b0 b1 b2 b3 b4 b5 b6 b7) = row b6 := by
  funext l; pointwise [k0_pay43, k0_pay8, row]
theorem row44 : row (k0_pay44 b0 b1 b2 b3 b4 b5 b6 b7) = row b7 := by
  funext l; pointwise [k0_pay44, k0_pay9, row]

/-! The projections, by their columns. -/

theorem pay45_at (r : Fin 32) (n : Fin 1024) : k0_pay45 b0 b1 b2 b3 b4 b5 b6 b7 (ix2 r n) = pb (k0_pay41 b0 b1 b2 b3 b4 b5 b6 b7) b4 r ⟨n.val, by omega⟩ := by
  pointwise [k0_pay45, k0_pay10, pb, k0_pay41]
theorem pay46_at (r : Fin 32) (n : Fin 512) : k0_pay46 b0 b1 b2 b3 b4 b5 b6 b7 (ix2 r n) = pb (k0_pay41 b0 b1 b2 b3 b4 b5 b6 b7) b4 r ⟨1536 + n.val, by omega⟩ := by
  pointwise [k0_pay46, k0_pay29, pb]

section
variable (c s u : FVec Ideal S1x128 .f32) (v : FVec Ideal S32x1024 .f32) (v5 : FVec Ideal S32x512 .f32) (hb : FVec Ideal S32x1024 .bf16) (r : Fin 32) (l : Fin 128)

/-! Each turned stretch of 128 columns. -/

theorem pay13_at (a : Vec Ideal S32x1024 .f32) (nw : Vec Ideal S1x1024 .f32) (d e : Vec Ideal S1x32x1024 .f32) (w : Vec Ideal S1024x1024 .bf16) :
    k0_pay13 s u (k0_pay11 a nw d e w) (k0_pay12 a nw d e c w) (ix2 r l) =
      turn (row c) (row s) (row u) (fun l => k0_pay10 a nw d e w (ix2 r ⟨l.val, by omega⟩)) l * Ideal.ofBits .f32 0x3E000000#32 := by
  pointwise [k0_pay13, k0_pay12, k0_pay11, k0_pay7, turn, row]
  simp only [rot1, rot2]
theorem pay14_at : k0_pay14 c s u v (ix2 r l) = turn (row c) (row s) (row u) (fun l => v (ix2 r ⟨128 + l.val, by omega⟩)) l * Ideal.ofBits .f32 0x3E000000#32 := by
  pointwise [k0_pay14, turn, row]
  simp only [rot1, rot2]
theorem pay15_at : k0_pay15 c s u v (ix2 r l) = turn (row c) (row s) (row u) (fun l => v (ix2 r ⟨256 + l.val, by omega⟩)) l * Ideal.ofBits .f32 0x3E000000#32 := by
  pointwise [k0_pay15, turn, row]
  simp only [rot1, rot2]
theorem pay19_at : k0_pay19 c s u v (ix2 r l) = turn (row c) (row s) (row u) (fun l => v (ix2 r ⟨512 + l.val, by omega⟩)) l * Ideal.ofBits .f32 0x3E000000#32 := by
  pointwise [k0_pay19, turn, row]
  simp only [rot1, rot2]
theorem pay20_at : k0_pay20 c s u v (ix2 r l) = turn (row c) (row s) (row u) (fun l => v (ix2 r ⟨640 + l.val, by omega⟩)) l * Ideal.ofBits .f32 0x3E000000#32 := by
  pointwise [k0_pay20, turn, row]
  simp only [rot1, rot2]
theorem pay24_at : k0_pay24 c s u v (ix2 r l) = turn (row c) (row s) (row u) (fun l => v (ix2 r ⟨896 + l.val, by omega⟩)) l * Ideal.ofBits .f32 0x3E000000#32 := by
  pointwise [k0_pay24, turn, row]
  simp only [rot1, rot2]
theorem pay18_at : k0_pay18 s u (k0_pay16 v) (k0_pay17 c v) (ix2 r l) = turn (row c) (row s) (row u) (fun l => v (ix2 r ⟨384 + l.val, by omega⟩)) l * Ideal.ofBits .f32 0x3E000000#32 := by
  pointwise [k0_pay18, k0_pay16, k0_pay17, turn, row]
  simp only [rot1, rot2]
theorem pay23_at : k0_pay23 s u (k0_pay21 v) (k0_pay22 c v) (ix2 r l) = turn (row c) (row s) (row u) (fun l => v (ix2 r ⟨768 + l.val, by omega⟩)) l * Ideal.ofBits .f32 0x3E000000#32 := by
  pointwise [k0_pay23, k0_pay21, k0_pay22, turn, row]
  simp only [rot1, rot2]
theorem pay26_at (w : FVec Ideal S1024x256 .bf16) : k0_pay26 hb c s u w (ix2 r l) = turn (row c) (row s) (row u) (fun l => ∑ k, hb (ix2 r k) * w (ix2 k ⟨l.val, by omega⟩)) l := by
  pointwise [k0_pay26, k0_pay25, turn, row]
  simp only [rot1, rot2]
theorem pay27_at (w : FVec Ideal S1024x256 .bf16) : k0_pay27 c s u (k0_pay25 hb w) (ix2 r l) = turn (row c) (row s) (row u) (fun l => ∑ k, hb (ix2 r k) * w (ix2 k ⟨128 + l.val, by omega⟩)) l := by
  pointwise [k0_pay27, k0_pay25, turn, row]
  simp only [rot1, rot2]
theorem pay30_at (w : FVec Ideal S1024x512 .bf16) : k0_pay30 hb c s u w (ix2 r l) = turn (row c) (row s) (row u) (fun l => ∑ k, hb (ix2 r k) * w (ix2 k ⟨l.val, by omega⟩)) l := by
  pointwise [k0_pay30, k0_pay29, turn, row]
  simp only [rot1, rot2]
theorem pay33_at (w : FVec Ideal S1024x512 .bf16) : k0_pay33 u (k0_pay31 hb w) (k0_pay32 hb c s w) 8#32 (ix2 r l) = turn (row c) (row s) (row u) (fun l => ∑ k, hb (ix2 r k) * w (ix2 k ⟨128 + l.val, by omega⟩)) l := by
  pointwise [k0_pay33, k0_pay31, k0_pay32, k0_pay29, turn, row]
  simp only [rot1, rot2]
theorem pay34_at : k0_pay34 c s u v5 (ix2 r l) = turn (row c) (row s) (row u) (fun l => v5 (ix2 r ⟨256 + l.val, by omega⟩)) l := by
  pointwise [k0_pay34, turn, row]
  simp only [rot1, rot2]
theorem pay35_at : k0_pay35 c s u v5 (ix2 r l) = turn (row c) (row s) (row u) (fun l => v5 (ix2 r ⟨384 + l.val, by omega⟩)) l := by
  pointwise [k0_pay35, turn, row]
  simp only [rot1, rot2]
theorem pay1_at (w : FVec Ideal S1024x128 .bf16) :
    k0_pay1 u (k0_pay36 hb w) k0_pay37 (k0_pay38 hb c w) (k0_pay39 hb w) (k0_pay40 s) (ix2 r l) =
      if l.val < 64 then turn (row c) (row s) (row u) (fun l => ∑ k, hb (ix2 r k) * w (ix2 k l)) l else ∑ k, hb (ix2 r k) * w (ix2 k l) := by
  pointwise [k0_pay1, k0_pay36, k0_pay37, k0_pay38, k0_pay39, k0_pay40, turn, row]
  simp only [rot1, rot2]
  exact sel_lt ..
end

/-! The blocks of the results. -/

/-- The scaled queries. -/
theorem q_at (r : Fin 32) (n : Fin 1024) : out0_8 b0 b1 b2 b3 b4 b5 b6 b7 (ix2 r n) = turn (row b5) (row b6) (row b7) (fun l => pb (k0_pay41 b0 b1 b2 b3 b4 b5 b6 b7) b4 r ⟨128 * (n.val / 128) + l.val, by omega⟩) ⟨n.val % 128, by omega⟩ * Ideal.ofBits .f32 0x3E000000#32 := by
  canon_tiles x k
  all_goals
    idx_vars x
    obtain rfl : r = x0 := Fin.ext (by simpa using k0)
  · have hn : n.val = 896 + x1.val := by simpa using k1
    have ha : n.val / 128 = 7 := by omega
    have hb : n.val % 128 = x1.val := by omega
    simp only [ha, hb, Nat.reduceMul, Nat.zero_add, Nat.mul_zero, Nat.mul_one]
    simp only [pay24_at, row42, row43, row44, pay45_at]
  · have hn : n.val = 768 + x1.val := by simpa using k1
    have ha : n.val / 128 = 6 := by omega
    have hb : n.val % 128 = x1.val := by omega
    simp only [ha, hb, Nat.reduceMul, Nat.zero_add, Nat.mul_zero, Nat.mul_one]
    simp only [pay23_at, row42, row43, row44, pay45_at]
  · have hn : n.val = 640 + x1.val := by simpa using k1
    have ha : n.val / 128 = 5 := by omega
    have hb : n.val % 128 = x1.val := by omega
    simp only [ha, hb, Nat.reduceMul, Nat.zero_add, Nat.mul_zero, Nat.mul_one]
    simp only [pay20_at, row42, row43, row44, pay45_at]
  · have hn : n.val = 512 + x1.val := by simpa using k1
    have ha : n.val / 128 = 4 := by omega
    have hb : n.val % 128 = x1.val := by omega
    simp only [ha, hb, Nat.reduceMul, Nat.zero_add, Nat.mul_zero, Nat.mul_one]
    simp only [pay19_at, row42, row43, row44, pay45_at]
  · have hn : n.val = 384 + x1.val := by simpa using k1
    have ha : n.val / 128 = 3 := by omega
    have hb : n.val % 128 = x1.val := by omega
    simp only [ha, hb, Nat.reduceMul, Nat.zero_add, Nat.mul_zero, Nat.mul_one]
    simp only [pay18_at, row42, row43, row44, pay45_at]
  · have hn : n.val = 256 + x1.val := by simpa using k1
    have ha : n.val / 128 = 2 := by omega
    have hb : n.val % 128 = x1.val := by omega
    simp only [ha, hb, Nat.reduceMul, Nat.zero_add, Nat.mul_zero, Nat.mul_one]
    simp only [pay15_at, row42, row43, row44, pay45_at]
  · have hn : n.val = 128 + x1.val := by simpa using k1
    have ha : n.val / 128 = 1 := by omega
    have hb : n.val % 128 = x1.val := by omega
    simp only [ha, hb, Nat.reduceMul, Nat.zero_add, Nat.mul_zero, Nat.mul_one]
    simp only [pay14_at, row42, row43, row44, pay45_at]
  · have hn : n.val = 0 + x1.val := by simpa using k1
    have ha : n.val / 128 = 0 := by omega
    have hb : n.val % 128 = x1.val := by omega
    simp only [ha, hb, Nat.reduceMul, Nat.zero_add, Nat.mul_zero, Nat.mul_one]
    simp only [pay13_at, row42, row43, row44, pay45_at]
    pointwise [pb, k0_pay10, k0_pay41]
    refine congrArg (· * _) (congrArg (fun f => turn f (row b6) (row b7) _ _) ?_)
    funext l
    pointwise [row]

/-- The keys. -/
theorem k_at (r : Fin 32) (n : Fin 256) : out0_9 b0 b1 b2 b3 b4 b5 b6 b7 (ix2 r n) = turn (row b5) (row b6) (row b7) (fun l => pb (k0_pay41 b0 b1 b2 b3 b4 b5 b6 b7) b4 r ⟨1024 + (128 * (n.val / 128) + l.val), by omega⟩) ⟨n.val % 128, by omega⟩ := by
  canon_tiles x k
  all_goals
    idx_vars x
    obtain rfl : r = x0 := Fin.ext (by simpa using k0)
  · have hn : n.val = 128 + x1.val := by simpa using k1
    have ha : n.val / 128 = 1 := by omega
    have hb : n.val % 128 = x1.val := by omega
    simp only [ha, hb, Nat.reduceMul, Nat.zero_add, Nat.mul_zero, Nat.mul_one]
    simp only [pay27_at, row42, row43, row44]
    pointwise [pb]
    try simp only [← Nat.add_assoc, Nat.reduceAdd]
  · have hn : n.val = 0 + x1.val := by simpa using k1
    have ha : n.val / 128 = 0 := by omega
    have hb : n.val % 128 = x1.val := by omega
    simp only [ha, hb, Nat.reduceMul, Nat.zero_add, Nat.mul_zero, Nat.mul_one]
    simp only [pay26_at, row42, row43, row44]
    pointwise [pb]
    try simp only [← Nat.add_assoc, Nat.reduceAdd]

/-- The index queries. -/
theorem iq_at (r : Fin 32) (n : Fin 512) : out0_11 b0 b1 b2 b3 b4 b5 b6 b7 (ix2 r n) = turn (row b5) (row b6) (row b7) (fun l => pb (k0_pay41 b0 b1 b2 b3 b4 b5 b6 b7) b4 r ⟨1536 + (128 * (n.val / 128) + l.val), by omega⟩) ⟨n.val % 128, by omega⟩ := by
  canon_tiles x k
  all_goals
    idx_vars x
    obtain rfl : r = x0 := Fin.ext (by simpa using k0)
  · have hn : n.val = 384 + x1.val := by simpa using k1
    have ha : n.val / 128 = 3 := by omega
    have hb : n.val % 128 = x1.val := by omega
    simp only [ha, hb, Nat.reduceMul, Nat.zero_add, Nat.mul_zero, Nat.mul_one]
    simp only [pay35_at, row42, row43, row44, pay46_at]
    try pointwise [pb]
    try simp only [← Nat.add_assoc, Nat.reduceAdd]
  · have hn : n.val = 256 + x1.val := by simpa using k1
    have ha : n.val / 128 = 2 := by omega
    have hb : n.val % 128 = x1.val := by omega
    simp only [ha, hb, Nat.reduceMul, Nat.zero_add, Nat.mul_zero, Nat.mul_one]
    simp only [pay34_at, row42, row43, row44, pay46_at]
    try pointwise [pb]
    try simp only [← Nat.add_assoc, Nat.reduceAdd]
  · have hn : n.val = 128 + x1.val := by simpa using k1
    have ha : n.val / 128 = 1 := by omega
    have hb : n.val % 128 = x1.val := by omega
    simp only [ha, hb, Nat.reduceMul, Nat.zero_add, Nat.mul_zero, Nat.mul_one]
    simp only [pay33_at, row42, row43, row44, pay46_at]
    try pointwise [pb]
    try simp only [← Nat.add_assoc, Nat.reduceAdd]
  · have hn : n.val = 0 + x1.val := by simpa using k1
    have ha : n.val / 128 = 0 := by omega
    have hb : n.val % 128 = x1.val := by omega
    simp only [ha, hb, Nat.reduceMul, Nat.zero_add, Nat.mul_zero, Nat.mul_one]
    simp only [pay30_at, row42, row43, row44, pay46_at]
    try pointwise [pb]
    try simp only [← Nat.add_assoc, Nat.reduceAdd]

/-- The index keys, then further columns as they are. -/
theorem mi_at (r : Fin 32) (n : Fin 128) : out0_12 b0 b1 b2 b3 b4 b5 b6 b7 (ix2 r n) = if n.val < 64 then turn (row b5) (row b6) (row b7) (fun l => pb (k0_pay41 b0 b1 b2 b3 b4 b5 b6 b7) b4 r ⟨2048 + l.val, by omega⟩) n else pb (k0_pay41 b0 b1 b2 b3 b4 b5 b6 b7) b4 r ⟨2048 + n.val, by omega⟩ := by
  frame_out
  rw [pay1_at, row42, row43, row44]
  pointwise [pb]

/-- The values. -/
theorem v_at (r : Fin 32) (n : Fin 256) : out0_10 b0 b1 b2 b3 b4 b5 b6 b7 (ix2 r n) = pb (k0_pay41 b0 b1 b2 b3 b4 b5 b6 b7) b4 r ⟨1280 + n.val, by omega⟩ := by
  frame_out
  pointwise [k0_pay28, pb]

/-- The recurrence's gate. -/
theorem z_at (r : Fin 32) (n : Fin 1024) : out0_13 b0 b1 b2 b3 b4 b5 b6 b7 (ix2 r n) = pb (k0_pay41 b0 b1 b2 b3 b4 b5 b6 b7) b4 r ⟨2176 + n.val, by omega⟩ := by
  frame_out
  pointwise [k0_pay2, pb]

/-- The recurrence's inputs. -/
theorem xbc_at (r : Fin 32) (n : Fin 2048) : out0_14 b0 b1 b2 b3 b4 b5 b6 b7 (ix2 r n) = pb (k0_pay41 b0 b1 b2 b3 b4 b5 b6 b7) b4 r ⟨3200 + n.val, by omega⟩ := by
  frame_out
  pointwise [k0_pay3, pb]

/-- The attention's gate. -/
theorem ga_at (r : Fin 32) (n : Fin 1024) : out0_15 b0 b1 b2 b3 b4 b5 b6 b7 (ix2 r n) = pb (k0_pay41 b0 b1 b2 b3 b4 b5 b6 b7) b4 r ⟨5248 + n.val, by omega⟩ := by
  frame_out
  pointwise [k0_pay4, pb]

/-- The recurrence's output gate. -/
theorem gs_at (r : Fin 32) (n : Fin 1024) : out0_16 b0 b1 b2 b3 b4 b5 b6 b7 (ix2 r n) = pb (k0_pay41 b0 b1 b2 b3 b4 b5 b6 b7) b4 r ⟨6272 + n.val, by omega⟩ := by
  frame_out
  pointwise [k0_pay5, pb]

end Cert.InprojsIdeal.Block
-- ==== Proof.Inprojs.Host.lean ====
/- What the host operations before the sample's in-projection call leave in its operands, entry by entry. -/
module

public import proofs.«01_k».proof.Proof.Inprojs.Rows
public import proofs.«01_k».proof.Proof.Gen.InprojsIdeal.Value
public import Idealize.ShloMosaic.Lib.Claim
public import Idealize.ShloMosaic.Lib.StableHlo.RunRead

@[expose] public section

set_option maxRecDepth 16384
noncomputable section

namespace Cert.InprojsIdeal.Host

open Idealize.ShloMosaic Idealize.ShloMosaic.TcCoe Idealize.SL.Sem
open Idealize.ShloMosaic.Pipeline (Dat)
open Cert.InprojsIdeal Cert.InprojsIdeal.Gen
open Cert.Mlp Cert.Inproj Cert.Inprojs

open Idealize.ShloMosaic.StableHlo

variable (V0 : Valuation τ sig (Elt Ideal))

theorem cat0 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 1024) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨0 + n.val, by omega⟩) = a0 (ix2 k n) := by
  pointwise []

theorem cat1 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 256) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨1024 + n.val, by omega⟩) = a1 (ix2 k n) := by
  pointwise []
  repeat first
    | rw [dif_neg (by omega)]
    | rw [dif_pos (by omega)]
  try exact congrArg _ (congrArg (ix2 k) (Fin.ext (by dsimp only; omega)))

theorem cat2 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 256) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨1280 + n.val, by omega⟩) = a2 (ix2 k n) := by
  pointwise []
  repeat first
    | rw [dif_neg (by omega)]
    | rw [dif_pos (by omega)]
  try exact congrArg _ (congrArg (ix2 k) (Fin.ext (by dsimp only; omega)))

theorem cat3 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 512) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨1536 + n.val, by omega⟩) = a3 (ix2 k n) := by
  pointwise []
  repeat first
    | rw [dif_neg (by omega)]
    | rw [dif_pos (by omega)]
  try exact congrArg _ (congrArg (ix2 k) (Fin.ext (by dsimp only; omega)))

theorem cat4 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 128) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨2048 + n.val, by omega⟩) = a4 (ix2 k n) := by
  pointwise []
  repeat first
    | rw [dif_neg (by omega)]
    | rw [dif_pos (by omega)]
  try exact congrArg _ (congrArg (ix2 k) (Fin.ext (by dsimp only; omega)))

theorem cat5 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 1024) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨2176 + n.val, by omega⟩) = a5 (ix2 k n) := by
  pointwise []
  repeat first
    | rw [dif_neg (by omega)]
    | rw [dif_pos (by omega)]
  try exact congrArg _ (congrArg (ix2 k) (Fin.ext (by dsimp only; omega)))

theorem cat6 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 2048) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨3200 + n.val, by omega⟩) = a6 (ix2 k n) := by
  pointwise []
  repeat first
    | rw [dif_neg (by omega)]
    | rw [dif_pos (by omega)]
  try exact congrArg _ (congrArg (ix2 k) (Fin.ext (by dsimp only; omega)))

theorem cat7 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 1024) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨5248 + n.val, by omega⟩) = a7 (ix2 k n) := by
  pointwise []
  repeat first
    | rw [dif_neg (by omega)]
    | rw [dif_pos (by omega)]
  try exact congrArg _ (congrArg (ix2 k) (Fin.ext (by dsimp only; omega)))

theorem cat8 (a0 : FVec Ideal S1024x1024 .f32) (a1 : FVec Ideal S1024x256 .f32) (a2 : FVec Ideal S1024x256 .f32) (a3 : FVec Ideal S1024x512 .f32) (a4 : FVec Ideal S1024x128 .f32) (a5 : FVec Ideal S1024x1024 .f32) (a6 : FVec Ideal S1024x2048 .f32) (a7 : FVec Ideal S1024x1024 .f32) (a8 : FVec Ideal S1024x1024 .f32) (k : Fin 1024) (n : Fin 1024) : (concatenate S1024x7296 1 [⟨S1024x1024, a0⟩, ⟨S1024x256, a1⟩, ⟨S1024x256, a2⟩, ⟨S1024x512, a3⟩, ⟨S1024x128, a4⟩, ⟨S1024x1024, a5⟩, ⟨S1024x2048, a6⟩, ⟨S1024x1024, a7⟩, ⟨S1024x1024, a8⟩] concatenates_S1024x1024_S1024x256_S1024x256_S1024x512_S1024x128_S1024x1024_S1024x2048_S1024x1024_S1024x1024_S1024x7296_d1 : FVec Ideal S1024x7296 .f32) (ix2 k ⟨6272 + n.val, by omega⟩) = a8 (ix2 k n) := by
  pointwise []
  repeat first
    | rw [dif_neg (by omega)]
    | rw [dif_pos (by omega)]
  try exact congrArg _ (congrArg (ix2 k) (Fin.ext (by dsimp only; omega)))

theorem w0 (k : Fin 1024) (n : Fin 1024) : (after (hostOps0 (F := Ideal)) V0 (Proc.devRef .tc main_v15) : FVec Ideal S1024x7296 .bf16) (ix2 k ⟨0 + n.val, by omega⟩) = (V0 (Proc.devRef .tc main_arg4) : FVec Ideal S1x1024x7256 .f32) (ix3 0 k ⟨0 + n.val, by omega⟩) := by
  after_reads_simp
  refine (cat0 _ _ _ _ _ _ _ _ _ k n).trans ?_
  show (upto hostOps0 V0 15 (Proc.devRef .tc main_v1) : FVec Ideal S1024x1024 .f32) (ix2 k n) = _
  after_reads_simp
  pointwise []

theorem w1 (k : Fin 1024) (n : Fin 256) : (after (hostOps0 (F := Ideal)) V0 (Proc.devRef .tc main_v15) : FVec Ideal S1024x7296 .bf16) (ix2 k ⟨1024 + n.val, by omega⟩) = (V0 (Proc.devRef .tc main_arg4) : FVec Ideal S1x1024x7256 .f32) (ix3 0 k ⟨1024 + n.val, by omega⟩) := by
  after_reads_simp
  refine (cat1 _ _ _ _ _ _ _ _ _ k n).trans ?_
  show (upto hostOps0 V0 15 (Proc.devRef .tc main_v2) : FVec Ideal S1024x256 .f32) (ix2 k n) = _
  after_reads_simp
  pointwise []

theorem w2 (k : Fin 1024) (n : Fin 256) : (after (hostOps0 (F := Ideal)) V0 (Proc.devRef .tc main_v15) : FVec Ideal S1024x7296 .bf16) (ix2 k ⟨1280 + n.val, by omega⟩) = (V0 (Proc.devRef .tc main_arg4) : FVec Ideal S1x1024x7256 .f32) (ix3 0 k ⟨1280 + n.val, by omega⟩) := by
  after_reads_simp
  refine (cat2 _ _ _ _ _ _ _ _ _ k n).trans ?_
  show (upto hostOps0 V0 15 (Proc.devRef .tc main_v3) : FVec Ideal S1024x256 .f32) (ix2 k n) = _
  after_reads_simp
  pointwise []

theorem w3 (k : Fin 1024) (n : Fin 512) : (after (hostOps0 (F := Ideal)) V0 (Proc.devRef .tc main_v15) : FVec Ideal S1024x7296 .bf16) (ix2 k ⟨1536 + n.val, by omega⟩) = (V0 (Proc.devRef .tc main_arg4) : FVec Ideal S1x1024x7256 .f32) (ix3 0 k ⟨1536 + n.val, by omega⟩) := by
  after_reads_simp
  refine (cat3 _ _ _ _ _ _ _ _ _ k n).trans ?_
  show (upto hostOps0 V0 15 (Proc.devRef .tc main_v4) : FVec Ideal S1024x512 .f32) (ix2 k n) = _
  after_reads_simp
  pointwise []

theorem w5 (k : Fin 1024) (n : Fin 1024) : (after (hostOps0 (F := Ideal)) V0 (Proc.devRef .tc main_v15) : FVec Ideal S1024x7296 .bf16) (ix2 k ⟨2176 + n.val, by omega⟩) = (V0 (Proc.devRef .tc main_arg4) : FVec Ideal S1x1024x7256 .f32) (ix3 0 k ⟨2120 + n.val, by omega⟩) := by
  after_reads_simp
  refine (cat5 _ _ _ _ _ _ _ _ _ k n).trans ?_
  show (upto hostOps0 V0 15 (Proc.devRef .tc main_v7) : FVec Ideal S1024x1024 .f32) (ix2 k n) = _
  after_reads_simp
  pointwise []

theorem w6 (k : Fin 1024) (n : Fin 2048) : (after (hostOps0 (F := Ideal)) V0 (Proc.devRef .tc main_v15) : FVec Ideal S1024x7296 .bf16) (ix2 k ⟨3200 + n.val, by omega⟩) = (V0 (Proc.devRef .tc main_arg4) : FVec Ideal S1x1024x7256 .f32) (ix3 0 k ⟨3144 + n.val, by omega⟩) := by
  after_reads_simp
  refine (cat6 _ _ _ _ _ _ _ _ _ k n).trans ?_
  show (upto hostOps0 V0 15 (Proc.devRef .tc main_v8) : FVec Ideal S1024x2048 .f32) (ix2 k n) = _
  after_reads_simp
  pointwise []

theorem w7 (k : Fin 1024) (n : Fin 1024) : (after (hostOps0 (F := Ideal)) V0 (Proc.devRef .tc main_v15) : FVec Ideal S1024x7296 .bf16) (ix2 k ⟨5248 + n.val, by omega⟩) = (V0 (Proc.devRef .tc main_arg4) : FVec Ideal S1x1024x7256 .f32) (ix3 0 k ⟨5208 + n.val, by omega⟩) := by
  after_reads_simp
  refine (cat7 _ _ _ _ _ _ _ _ _ k n).trans ?_
  show (upto hostOps0 V0 15 (Proc.devRef .tc main_v10) : FVec Ideal S1024x1024 .f32) (ix2 k n) = _
  after_reads_simp
  pointwise []

theorem w8 (k : Fin 1024) (n : Fin 1024) : (after (hostOps0 (F := Ideal)) V0 (Proc.devRef .tc main_v15) : FVec Ideal S1024x7296 .bf16) (ix2 k ⟨6272 + n.val, by omega⟩) = (V0 (Proc.devRef .tc main_arg4) : FVec Ideal S1x1024x7256 .f32) (ix3 0 k ⟨6232 + n.val, by omega⟩) := by
  after_reads_simp
  refine (cat8 _ _ _ _ _ _ _ _ _ k n).trans ?_
  show (upto hostOps0 V0 15 (Proc.devRef .tc main_v11) : FVec Ideal S1024x1024 .f32) (ix2 k n) = _
  after_reads_simp
  pointwise []

theorem dog0 (a0 : FVec Ideal S1024x64 .f32) (a1 : FVec Ideal S1024x8 .f32) (a2 : FVec Ideal S1024x16 .f32) (a3 : FVec Ideal S1024x40 .f32) (k : Fin 1024) (n : Fin 64) : (concatenate S1024x128 1 [⟨S1024x64, a0⟩, ⟨S1024x8, a1⟩, ⟨S1024x16, a2⟩, ⟨S1024x40, a3⟩] concatenates_S1024x64_S1024x8_S1024x16_S1024x40_S1024x128_d1 : FVec Ideal S1024x128 .f32) (ix2 k ⟨0 + n.val, by omega⟩) = a0 (ix2 k n) := by
  pointwise []

theorem u0 (k : Fin 1024) (n : Fin 64) : (after (hostOps0 (F := Ideal)) V0 (Proc.devRef .tc main_v15) : FVec Ideal S1024x7296 .bf16) (ix2 k ⟨2048 + n.val, by omega⟩) = (V0 (Proc.devRef .tc main_arg4) : FVec Ideal S1x1024x7256 .f32) (ix3 0 k ⟨2048 + n.val, by omega⟩) := by
  after_reads_simp
  refine (congrArg (concatenate S1024x7296 1 _ _ : FVec Ideal S1024x7296 .f32) (congrArg (ix2 k) (Fin.ext (by dsimp only; omega) : (⟨2048 + n.val, by omega⟩ : Fin 7296) = ⟨2048 + (0 + n.val), by omega⟩))).trans ((cat4 _ _ _ _ _ _ _ _ _ k ⟨0 + n.val, by omega⟩).trans ?_)
  show (upto hostOps0 V0 15 (Proc.devRef .tc main_v13) : FVec Ideal S1024x128 .f32) (ix2 k _) = _
  after_reads_simp
  refine (dog0 _ _ _ _ k n).trans ?_
  show (upto hostOps0 V0 14 (Proc.devRef .tc main_v5) : FVec Ideal S1024x64 .f32) (ix2 k n) = _
  after_reads_simp
  pointwise []

theorem dog1 (a0 : FVec Ideal S1024x64 .f32) (a1 : FVec Ideal S1024x8 .f32) (a2 : FVec Ideal S1024x16 .f32) (a3 : FVec Ideal S1024x40 .f32) (k : Fin 1024) (n : Fin 8) : (concatenate S1024x128 1 [⟨S1024x64, a0⟩, ⟨S1024x8, a1⟩, ⟨S1024x16, a2⟩, ⟨S1024x40, a3⟩] concatenates_S1024x64_S1024x8_S1024x16_S1024x40_S1024x128_d1 : FVec Ideal S1024x128 .f32) (ix2 k ⟨64 + n.val, by omega⟩) = a1 (ix2 k n) := by
  pointwise []
  repeat first
    | rw [dif_neg (by omega)]
    | rw [dif_pos (by omega)]
  try exact congrArg _ (congrArg (ix2 k) (Fin.ext (by dsimp only; omega)))

theorem u1 (k : Fin 1024) (n : Fin 8) : (after (hostOps0 (F := Ideal)) V0 (Proc.devRef .tc main_v15) : FVec Ideal S1024x7296 .bf16) (ix2 k ⟨2112 + n.val, by omega⟩) = (V0 (Proc.devRef .tc main_arg4) : FVec Ideal S1x1024x7256 .f32) (ix3 0 k ⟨2112 + n.val, by omega⟩) := by
  after_reads_simp
  refine (congrArg (concatenate S1024x7296 1 _ _ : FVec Ideal S1024x7296 .f32) (congrArg (ix2 k) (Fin.ext (by dsimp only; omega) : (⟨2112 + n.val, by omega⟩ : Fin 7296) = ⟨2048 + (64 + n.val), by omega⟩))).trans ((cat4 _ _ _ _ _ _ _ _ _ k ⟨64 + n.val, by omega⟩).trans ?_)
  show (upto hostOps0 V0 15 (Proc.devRef .tc main_v13) : FVec Ideal S1024x128 .f32) (ix2 k _) = _
  after_reads_simp
  refine (dog1 _ _ _ _ k n).trans ?_
  show (upto hostOps0 V0 14 (Proc.devRef .tc main_v6) : FVec Ideal S1024x8 .f32) (ix2 k n) = _
  after_reads_simp
  pointwise []

theorem dog2 (a0 : FVec Ideal S1024x64 .f32) (a1 : FVec Ideal S1024x8 .f32) (a2 : FVec Ideal S1024x16 .f32) (a3 : FVec Ideal S1024x40 .f32) (k : Fin 1024) (n : Fin 16) : (concatenate S1024x128 1 [⟨S1024x64, a0⟩, ⟨S1024x8, a1⟩, ⟨S1024x16, a2⟩, ⟨S1024x40, a3⟩] concatenates_S1024x64_S1024x8_S1024x16_S1024x40_S1024x128_d1 : FVec Ideal S1024x128 .f32) (ix2 k ⟨72 + n.val, by omega⟩) = a2 (ix2 k n) := by
  pointwise []
  repeat first
    | rw [dif_neg (by omega)]
    | rw [dif_pos (by omega)]
  try exact congrArg _ (congrArg (ix2 k) (Fin.ext (by dsimp only; omega)))

theorem u2 (k : Fin 1024) (n : Fin 16) : (after (hostOps0 (F := Ideal)) V0 (Proc.devRef .tc main_v15) : FVec Ideal S1024x7296 .bf16) (ix2 k ⟨2120 + n.val, by omega⟩) = (V0 (Proc.devRef .tc main_arg4) : FVec Ideal S1x1024x7256 .f32) (ix3 0 k ⟨5192 + n.val, by omega⟩) := by
  after_reads_simp
  refine (congrArg (concatenate S1024x7296 1 _ _ : FVec Ideal S1024x7296 .f32) (congrArg (ix2 k) (Fin.ext (by dsimp only; omega) : (⟨2120 + n.val, by omega⟩ : Fin 7296) = ⟨2048 + (72 + n.val), by omega⟩))).trans ((cat4 _ _ _ _ _ _ _ _ _ k ⟨72 + n.val, by omega⟩).trans ?_)
  show (upto hostOps0 V0 15 (Proc.devRef .tc main_v13) : FVec Ideal S1024x128 .f32) (ix2 k _) = _
  after_reads_simp
  refine (dog2 _ _ _ _ k n).trans ?_
  show (upto hostOps0 V0 14 (Proc.devRef .tc main_v9) : FVec Ideal S1024x16 .f32) (ix2 k n) = _
  after_reads_simp
  pointwise []

theorem dog3 (a0 : FVec Ideal S1024x64 .f32) (a1 : FVec Ideal S1024x8 .f32) (a2 : FVec Ideal S1024x16 .f32) (a3 : FVec Ideal S1024x40 .f32) (k : Fin 1024) (n : Fin 40) : (concatenate S1024x128 1 [⟨S1024x64, a0⟩, ⟨S1024x8, a1⟩, ⟨S1024x16, a2⟩, ⟨S1024x40, a3⟩] concatenates_S1024x64_S1024x8_S1024x16_S1024x40_S1024x128_d1 : FVec Ideal S1024x128 .f32) (ix2 k ⟨88 + n.val, by omega⟩) = a3 (ix2 k n) := by
  pointwise []
  repeat first
    | rw [dif_neg (by omega)]
    | rw [dif_pos (by omega)]
  try exact congrArg _ (congrArg (ix2 k) (Fin.ext (by dsimp only; omega)))

theorem u3 (k : Fin 1024) (n : Fin 40) : (after (hostOps0 (F := Ideal)) V0 (Proc.devRef .tc main_v15) : FVec Ideal S1024x7296 .bf16) (ix2 k ⟨2136 + n.val, by omega⟩) = (0 : EReal) := by
  after_reads_simp
  refine (congrArg (concatenate S1024x7296 1 _ _ : FVec Ideal S1024x7296 .f32) (congrArg (ix2 k) (Fin.ext (by dsimp only; omega) : (⟨2136 + n.val, by omega⟩ : Fin 7296) = ⟨2048 + (88 + n.val), by omega⟩))).trans ((cat4 _ _ _ _ _ _ _ _ _ k ⟨88 + n.val, by omega⟩).trans ?_)
  show (upto hostOps0 V0 15 (Proc.devRef .tc main_v13) : FVec Ideal S1024x128 .f32) (ix2 k _) = _
  after_reads_simp
  refine (dog3 _ _ _ _ k n).trans ?_
  show (upto hostOps0 V0 14 (Proc.devRef .tc main_v12) : FVec Ideal S1024x40 .f32) (ix2 k n) = _
  after_reads_simp
  pointwise []

/-- A table of one row: three stretches of a head, the same for both heads. -/
theorem tab_at (a b : FVec Ideal S1x8 .f32) (o : FVec Ideal S1x48 .f32) (l : Fin 128) :
    shapeCast S1x128 (broadcastInDim S1x1x2x64 ![0, 1, 2, 3] bcast_S1x1x1x64_S1x1x2x64_0_1_2_3 (fun i => shapeCast S1x1x1x64
      (concatenate S1x64 1 [⟨S1x8, a⟩, ⟨S1x8, b⟩, ⟨S1x48, o⟩] concatenates_S1x8_S1x8_S1x48_S1x64_d1) shapeCasts_S1x64_S1x1x1x64 i) : FVec Ideal S1x1x2x64 .f32) shapeCasts_S1x1x2x64_S1x128 (ix2 0 l)
      = if h : l.val % 64 < 8 then a (ix2 0 ⟨l.val % 64, h⟩) else if h' : l.val % 64 - 8 < 8 then b (ix2 0 ⟨l.val % 64 - 8, h'⟩) else o (ix2 0 ⟨l.val % 64 - 8 - 8, by omega⟩) := by
  pointwise []

/-- The factors of the lanes themselves. -/
theorem tab_c (l : Fin 128) : (after (hostOps0 (F := Ideal)) V0 (Proc.devRef .tc main_v42) : FVec Ideal S1x128 .f32) (ix2 0 l) = tabC csS l := by
  after_reads_simp
  refine (tab_at _ _ _ l).trans ?_
  show (if h : l.val % 64 < 8 then (upto hostOps0 V0 44 (Proc.devRef .tc main_v31) : FVec Ideal S1x8 .f32) (ix2 0 ⟨l.val % 64, h⟩)
    else if h' : l.val % 64 - 8 < 8 then (upto hostOps0 V0 44 (Proc.devRef .tc main_v31) : FVec Ideal S1x8 .f32) (ix2 0 ⟨l.val % 64 - 8, h'⟩)
    else (upto hostOps0 V0 44 (Proc.devRef .tc main_v33) : FVec Ideal S1x48 .f32) (ix2 0 ⟨l.val % 64 - 8 - 8, by omega⟩)) = _
  after_reads_simp
  pointwise [ang, csS, snS, tabC, tabS, tabU]
  by_cases h1 : l.val % 64 < 8
  · have e : l.val % 8 = l.val % 64 := by omega
    rw [dif_pos h1, if_pos (by omega)] <;> rw [e]
  · by_cases h2 : l.val % 64 - 8 < 8
    · have e : l.val % 8 = l.val % 64 - 8 := by omega
      rw [dif_neg h1, dif_pos h2, if_pos (by omega)] <;> rw [e]
    · rw [dif_neg h1, dif_neg h2, if_neg (by omega)]

/-- The factors of the lanes eight further on. -/
theorem tab_s (l : Fin 128) : (after (hostOps0 (F := Ideal)) V0 (Proc.devRef .tc main_v45) : FVec Ideal S1x128 .f32) (ix2 0 l) = tabS snS l := by
  after_reads_simp
  refine (tab_at _ _ _ l).trans ?_
  show (if h : l.val % 64 < 8 then (upto hostOps0 V0 46 (Proc.devRef .tc main_v37) : FVec Ideal S1x8 .f32) (ix2 0 ⟨l.val % 64, h⟩)
    else if h' : l.val % 64 - 8 < 8 then (upto hostOps0 V0 46 (Proc.devRef .tc main_v35) : FVec Ideal S1x8 .f32) (ix2 0 ⟨l.val % 64 - 8, h'⟩)
    else (upto hostOps0 V0 46 (Proc.devRef .tc main_v34) : FVec Ideal S1x48 .f32) (ix2 0 ⟨l.val % 64 - 8 - 8, by omega⟩)) = _
  after_reads_simp
  pointwise [ang, csS, snS, tabC, tabS, tabU]
  by_cases h1 : l.val % 64 < 8
  · have e : l.val % 8 = l.val % 64 := by omega
    rw [dif_pos h1, if_pos (by omega)] <;> rw [e]
  · by_cases h2 : l.val % 64 - 8 < 8
    · have e : l.val % 8 = l.val % 64 - 8 := by omega
      rw [dif_neg h1, dif_pos h2, if_neg (by omega)]
    · rw [dif_neg h1, dif_neg h2, if_neg (by omega)]

/-- The factors of the lanes eight before. -/
theorem tab_t (l : Fin 128) : (after (hostOps0 (F := Ideal)) V0 (Proc.devRef .tc main_v48) : FVec Ideal S1x128 .f32) (ix2 0 l) = tabU snS l := by
  after_reads_simp
  refine (tab_at _ _ _ l).trans ?_
  show (if h : l.val % 64 < 8 then (upto hostOps0 V0 47 (Proc.devRef .tc main_v35) : FVec Ideal S1x8 .f32) (ix2 0 ⟨l.val % 64, h⟩)
    else if h' : l.val % 64 - 8 < 8 then (upto hostOps0 V0 47 (Proc.devRef .tc main_v32) : FVec Ideal S1x8 .f32) (ix2 0 ⟨l.val % 64 - 8, h'⟩)
    else (upto hostOps0 V0 47 (Proc.devRef .tc main_v34) : FVec Ideal S1x48 .f32) (ix2 0 ⟨l.val % 64 - 8 - 8, by omega⟩)) = _
  after_reads_simp
  pointwise [ang, csS, snS, tabC, tabS, tabU]
  by_cases h1 : l.val % 64 < 8
  · have e : l.val % 8 = l.val % 64 := by omega
    rw [dif_pos h1, if_neg (by omega)]
  · by_cases h2 : l.val % 64 - 8 < 8
    · have e : l.val % 8 = l.val % 64 - 8 := by omega
      rw [dif_neg h1, dif_pos h2, if_pos (by omega)] <;> rw [e]
    · rw [dif_neg h1, dif_neg h2, if_neg (by omega)]

/-- The tokens, without the axis of length one. -/
theorem x0 (r : Fin 32) (k : Fin 1024) : (after (hostOps0 (F := Ideal)) V0 (Proc.devRef .tc main_v16) : FVec Ideal S32x1024 .f32) (ix2 r k) =
    (V0 (Proc.devRef .tc main_arg0) : FVec Ideal S32x1x1024 .f32) (ix3 r 0 k) := by
  after_reads_simp
  pointwise []

end Cert.InprojsIdeal.Host
-- ==== Proof.Inprojs.Reads.lean ====
/- What the one block of the sample's in-projection call reads, and its projection. -/
module

public import proofs.«01_k».proof.Proof.Inprojs.Block
public import proofs.«01_k».proof.Proof.Inprojs.Host

@[expose] public section

set_option maxRecDepth 16384

noncomputable section

namespace Cert.InprojsIdeal.Final

open Idealize.ShloMosaic Idealize.ShloMosaic.TcCoe Idealize.SL.Sem
open Idealize.ShloMosaic.Pipeline (Dat)
open Cert.InprojsIdeal Cert.InprojsIdeal.Gen
open Cert.Mlp Cert.Inproj Cert.Inprojs Cert.InprojsIdeal.Block

variable (m : (ℓ : Loc nD τ sig) → Buf (Elt Ideal) ℓ) (c : Dev nD)

/-- Where each window's block lies. -/
theorem idx : ∀ t : Fin cfg0.N, win0_0.index t = ![0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] ∧ win0_16.index t = ![0, 0] :=
  (by decide +kernel : ∀ t : Fin grid0.N, _)

/-! Each block, entry by entry. -/

theorem w0 (t : Fin cfg0.N) (r : Fin 32) (k : Fin 1024) : iblk m c 0 t (ix2 r k) = V m c (Pipeline.arrRef spec0 0) (ix2 r k) := by
  blk_point [iblk, idx t]
theorem rd0 (t : Fin cfg0.N) (r : Fin 32) (k : Fin 1024) : iblk m c 0 t (ix2 r k) =
    (m ((c.tc : Thread nD τ).loc main_arg0) : FVec Ideal S32x1x1024 .f32) (ix3 r 0 k) :=
  (w0 m c t r k).trans (Host.x0 _ r k)
theorem rd1 (t : Fin cfg0.N) (r : Fin 32) (k : Fin 1024) : iblk m c 1 t (ix3 0 r k) = m ((c.tc : Thread nD τ).loc main_arg1) (ix3 0 r k) := by
  blk_point [iblk, V, idx t]
theorem rd2 (t : Fin cfg0.N) (r : Fin 32) (k : Fin 1024) : iblk m c 2 t (ix3 0 r k) = m ((c.tc : Thread nD τ).loc main_arg2) (ix3 0 r k) := by
  blk_point [iblk, V, idx t]
theorem rd3 (t : Fin cfg0.N) (k : Fin 1024) : iblk m c 3 t (ix2 0 k) = m ((c.tc : Thread nD τ).loc main_arg3) (ix2 0 k) := by
  blk_point [iblk, V, idx t]
theorem w4 (t : Fin cfg0.N) (k : Fin 1024) (n : Fin 7296) : iblk m c 4 t (ix2 k n) = V m c (Pipeline.arrRef spec0 4) (ix2 k n) := by
  blk_point [iblk, idx t]
theorem w5 (t : Fin cfg0.N) (l : Fin 128) : iblk m c 5 t (ix2 0 l) = V m c (Pipeline.arrRef spec0 5) (ix2 0 l) := by
  blk_point [iblk, idx t]
theorem rd5 (t : Fin cfg0.N) : row (iblk m c 5 t) = tabC csS :=
  funext fun l => (w5 m c t l).trans (Host.tab_c _ l)
theorem w6 (t : Fin cfg0.N) (l : Fin 128) : iblk m c 6 t (ix2 0 l) = V m c (Pipeline.arrRef spec0 6) (ix2 0 l) := by
  blk_point [iblk, idx t]
theorem rd6 (t : Fin cfg0.N) : row (iblk m c 6 t) = tabS snS :=
  funext fun l => (w6 m c t l).trans (Host.tab_s _ l)
theorem w7 (t : Fin cfg0.N) (l : Fin 128) : iblk m c 7 t (ix2 0 l) = V m c (Pipeline.arrRef spec0 7) (ix2 0 l) := by
  blk_point [iblk, idx t]
theorem rd7 (t : Fin cfg0.N) : row (iblk m c 7 t) = tabU snS :=
  funext fun l => (w7 m c t l).trans (Host.tab_t _ l)

/-! The block's projection is the projection of the block's tokens, column stretch by column stretch. -/

/-- Column `n` of the block's projection. -/
def pbk (t : Fin cfg0.N) (r : Fin 32) (n : Fin 7296) : EReal :=
  pb (k0_pay41 (iblk m c 0 t) (iblk m c 1 t) (iblk m c 2 t) (iblk m c 3 t) (iblk m c 4 t) (iblk m c 5 t) (iblk m c 6 t) (iblk m c 7 t)) (iblk m c 4 t) r n
/-- Column `n` of the projection of a token. -/
def prm (r : Fin 32) (n : Fin 7256) : EReal :=
  prs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r n
/-- A turned head of a token. -/
def hdm (r : Fin 32) (o : ℕ) (ho : o + 64 ≤ 7256) : Fin 64 → EReal :=
  hds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r o ho

theorem pbk_of (t : Fin cfg0.N) (r : Fin 32) (n : Fin 7296) (n' : Fin 7256)
    (h : ∀ k : Fin 1024, iblk m c 4 t (ix2 k n) = (m ((c.tc : Thread nD τ).loc main_arg4) : FVec Ideal S1x1024x7256 .f32) (ix3 0 k n')) :
    pbk m c t r n = prm m c r n' := by
  unfold pbk pb prm prs
  refine Finset.sum_congr rfl fun k _ => ?_
  rw [pay41_at, h k]
  simp only [rd0, rd1, rd2, rd3]
theorem pbk_zero (t : Fin cfg0.N) (r : Fin 32) (n : Fin 7296) (h : ∀ k : Fin 1024, iblk m c 4 t (ix2 k n) = (0 : EReal)) : pbk m c t r n = 0 := by
  unfold pbk pb
  refine Finset.sum_eq_zero fun k _ => ?_
  rw [h k]; exact mul_zero _

theorem col_w0 (t : Fin cfg0.N) (r : Fin 32) (n : Fin 1024) : pbk m c t r ⟨0 + n.val, by omega⟩ = prm m c r ⟨0 + n.val, by omega⟩ :=
  pbk_of m c t r _ _ fun k => (w4 m c t k _).trans (Host.w0 _ k n)
theorem col_w1 (t : Fin cfg0.N) (r : Fin 32) (n : Fin 256) : pbk m c t r ⟨1024 + n.val, by omega⟩ = prm m c r ⟨1024 + n.val, by omega⟩ :=
  pbk_of m c t r _ _ fun k => (w4 m c t k _).trans (Host.w1 _ k n)
theorem col_w2 (t : Fin cfg0.N) (r : Fin 32) (n : Fin 256) : pbk m c t r ⟨1280 + n.val, by omega⟩ = prm m c r ⟨1280 + n.val, by omega⟩ :=
  pbk_of m c t r _ _ fun k => (w4 m c t k _).trans (Host.w2 _ k n)
theorem col_w3 (t : Fin cfg0.N) (r : Fin 32) (n : Fin 512) : pbk m c t r ⟨1536 + n.val, by omega⟩ = prm m c r ⟨1536 + n.val, by omega⟩ :=
  pbk_of m c t r _ _ fun k => (w4 m c t k _).trans (Host.w3 _ k n)
theorem col_u0 (t : Fin cfg0.N) (r : Fin 32) (n : Fin 64) : pbk m c t r ⟨2048 + n.val, by omega⟩ = prm m c r ⟨2048 + n.val, by omega⟩ :=
  pbk_of m c t r _ _ fun k => (w4 m c t k _).trans (Host.u0 _ k n)
theorem col_u1 (t : Fin cfg0.N) (r : Fin 32) (n : Fin 8) : pbk m c t r ⟨2112 + n.val, by omega⟩ = prm m c r ⟨2112 + n.val, by omega⟩ :=
  pbk_of m c t r _ _ fun k => (w4 m c t k _).trans (Host.u1 _ k n)
theorem col_u2 (t : Fin cfg0.N) (r : Fin 32) (n : Fin 16) : pbk m c t r ⟨2120 + n.val, by omega⟩ = prm m c r ⟨5192 + n.val, by omega⟩ :=
  pbk_of m c t r _ _ fun k => (w4 m c t k _).trans (Host.u2 _ k n)
theorem col_w5 (t : Fin cfg0.N) (r : Fin 32) (n : Fin 1024) : pbk m c t r ⟨2176 + n.val, by omega⟩ = prm m c r ⟨2120 + n.val, by omega⟩ :=
  pbk_of m c t r _ _ fun k => (w4 m c t k _).trans (Host.w5 _ k n)
theorem col_w6 (t : Fin cfg0.N) (r : Fin 32) (n : Fin 2048) : pbk m c t r ⟨3200 + n.val, by omega⟩ = prm m c r ⟨3144 + n.val, by omega⟩ :=
  pbk_of m c t r _ _ fun k => (w4 m c t k _).trans (Host.w6 _ k n)
theorem col_w7 (t : Fin cfg0.N) (r : Fin 32) (n : Fin 1024) : pbk m c t r ⟨5248 + n.val, by omega⟩ = prm m c r ⟨5208 + n.val, by omega⟩ :=
  pbk_of m c t r _ _ fun k => (w4 m c t k _).trans (Host.w7 _ k n)
theorem col_w8 (t : Fin cfg0.N) (r : Fin 32) (n : Fin 1024) : pbk m c t r ⟨6272 + n.val, by omega⟩ = prm m c r ⟨6232 + n.val, by omega⟩ :=
  pbk_of m c t r _ _ fun k => (w4 m c t k _).trans (Host.w8 _ k n)
theorem col_u3 (t : Fin cfg0.N) (r : Fin 32) (n : Fin 40) : pbk m c t r ⟨2136 + n.val, by omega⟩ = 0 :=
  pbk_zero m c t r _ fun k => (w4 m c t k _).trans (Host.u3 _ k n)

/-- The turn over 128 lanes of a block's row is the turn of a head of the token. -/
theorem hd_of (t : Fin cfg0.N) (r : Fin 32) (v : Fin 128 → EReal) (L : Fin 128) (d : Fin 64) (o : ℕ) (ho : o + 64 ≤ 7256) (hd : L.val % 64 = d.val)
    (hv : ∀ e : Fin 64, v ⟨64 * (L.val / 64) + e.val, by omega⟩ = prm m c r ⟨o + e.val, by omega⟩) :
    turn (row (iblk m c 5 t)) (row (iblk m c 6 t)) (row (iblk m c 7 t)) v L = hdm m c r o ho d := by
  rw [rd5, rd6, rd7, turn_eq]
  simp only [hv]
  rw [show (⟨L.val % 64, by omega⟩ : Fin 64) = d from Fin.ext hd]
  rfl

end Cert.InprojsIdeal.Final
-- ==== Proof.Inprojs.FinalA.lean ====
/- The turned results of the sample's in-projection call. -/
module

public import proofs.«01_k».proof.Proof.Inprojs.Reads
public import Idealize.ShloMosaic.Lib.Claim

@[expose] public section

set_option maxRecDepth 16384

noncomputable section

namespace Cert.InprojsIdeal.Final

open Idealize.ShloMosaic Idealize.ShloMosaic.TcCoe Idealize.SL.Sem
open Idealize.ShloMosaic.Pipeline (Dat)
open Cert.InprojsIdeal Cert.InprojsIdeal.Gen
open Cert.Mlp Cert.Inproj Cert.Inprojs Cert.InprojsIdeal.Block

variable (m : (ℓ : Loc nD τ sig) → Buf (Elt Ideal) ℓ) (c : Dev nD)

theorem emb8 (t : Fin cfg0.N) (r : Fin 32) (n : Fin 1024) : ((cfg0.win 8).blk t).view.emb (ix2 r n) = ix2 r n := by
  blk_ext [idx t]

/-- The scaled queries. -/
theorem final8 : (dats m 0 c).arrAt 8 cfg0.N = qS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t _ y => ?_
  blk_simp
  rw [after0_8]
  idx_vars y
  rw [Block.q_at]
  rw [emb8]
  refine congrArg (· * Ideal.ofBits .f32 0x3E000000#32) (hd_of m c t y0 _ _ ⟨y1.val % 64, by omega⟩ (0 + y1.val / 64 * 64) (by omega) (by dsimp only <;> omega) fun e => ?_)
  exact (congrArg (pbk m c t _) (Fin.ext (by dsimp only <;> omega))).trans ((col_w0 m c t _ ⟨y1.val / 64 * 64 + e.val, by omega⟩).trans (congrArg (prm m c _) (Fin.ext (by dsimp only <;> omega))))

theorem emb9 (t : Fin cfg0.N) (r : Fin 32) (n : Fin 256) : ((cfg0.win 9).blk t).view.emb (ix2 r n) = ix2 r n := by
  blk_ext [idx t]

/-- The keys. -/
theorem final9 : (dats m 0 c).arrAt 9 cfg0.N = tnS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32 1024 256 (by omega) (by omega) := by
  refine (dats m 0 c).arrAt_eq_of_covers 9 _ (by decide +kernel) fun t _ y => ?_
  blk_simp
  rw [after0_9]
  idx_vars y
  rw [Block.k_at]
  rw [emb9]
  refine hd_of m c t y0 _ _ ⟨y1.val % 64, by omega⟩ (1024 + y1.val / 64 * 64) (by omega) (by dsimp only <;> omega) fun e => ?_
  exact (congrArg (pbk m c t _) (Fin.ext (by dsimp only <;> omega))).trans ((col_w1 m c t _ ⟨y1.val / 64 * 64 + e.val, by omega⟩).trans (congrArg (prm m c _) (Fin.ext (by dsimp only <;> omega))))

theorem emb11 (t : Fin cfg0.N) (r : Fin 32) (n : Fin 512) : ((cfg0.win 11).blk t).view.emb (ix2 r n) = ix2 r n := by
  blk_ext [idx t]

/-- The index queries. -/
theorem final11 : (dats m 0 c).arrAt 11 cfg0.N = tnS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 1536 512 (by omega) (by omega) := by
  refine (dats m 0 c).arrAt_eq_of_covers 11 _ (by decide +kernel) fun t _ y => ?_
  blk_simp
  rw [after0_11]
  idx_vars y
  rw [Block.iq_at]
  rw [emb11]
  refine hd_of m c t y0 _ _ ⟨y1.val % 64, by omega⟩ (1536 + y1.val / 64 * 64) (by omega) (by dsimp only <;> omega) fun e => ?_
  exact (congrArg (pbk m c t _) (Fin.ext (by dsimp only <;> omega))).trans ((col_w3 m c t _ ⟨y1.val / 64 * 64 + e.val, by omega⟩).trans (congrArg (prm m c _) (Fin.ext (by dsimp only <;> omega))))

end Cert.InprojsIdeal.Final
-- ==== Proof.Inprojs.FinalB.lean ====
/- The results of the sample's in-projection call that keep the columns as they are, and the mixed one. -/
module

public import proofs.«01_k».proof.Proof.Inprojs.Reads
public import Idealize.ShloMosaic.Lib.Claim

@[expose] public section

set_option maxRecDepth 16384

noncomputable section

namespace Cert.InprojsIdeal.Final

open Idealize.ShloMosaic Idealize.ShloMosaic.TcCoe Idealize.SL.Sem
open Idealize.ShloMosaic.Pipeline (Dat)
open Cert.InprojsIdeal Cert.InprojsIdeal.Gen
open Cert.Mlp Cert.Inproj Cert.Inprojs Cert.InprojsIdeal.Block

variable (m : (ℓ : Loc nD τ sig) → Buf (Elt Ideal) ℓ) (c : Dev nD)

theorem emb10 (t : Fin cfg0.N) (r : Fin 32) (n : Fin 256) : ((cfg0.win 10).blk t).view.emb (ix2 r n) = ix2 r n := by
  blk_ext [idx t]

/-- The values. -/
theorem final10 : (dats m 0 c).arrAt 10 cfg0.N = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 1280 256 (by omega) := by
  refine (dats m 0 c).arrAt_eq_of_covers 10 _ (by decide +kernel) fun t _ y => ?_
  blk_simp
  rw [after0_10]
  idx_vars y
  rw [Block.v_at]
  rw [emb10]
  exact col_w2 m c t y0 y1

theorem emb13 (t : Fin cfg0.N) (r : Fin 32) (n : Fin 1024) : ((cfg0.win 13).blk t).view.emb (ix2 r n) = ix2 r n := by
  blk_ext [idx t]

/-- The recurrence's gate. -/
theorem final13 : (dats m 0 c).arrAt 13 cfg0.N = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 2120 1024 (by omega) := by
  refine (dats m 0 c).arrAt_eq_of_covers 13 _ (by decide +kernel) fun t _ y => ?_
  blk_simp
  rw [after0_13]
  idx_vars y
  rw [Block.z_at]
  rw [emb13]
  exact col_w5 m c t y0 y1

theorem emb14 (t : Fin cfg0.N) (r : Fin 32) (n : Fin 2048) : ((cfg0.win 14).blk t).view.emb (ix2 r n) = ix2 r n := by
  blk_ext [idx t]

/-- The recurrence's inputs. -/
theorem final14 : (dats m 0 c).arrAt 14 cfg0.N = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 3144 2048 (by omega) := by
  refine (dats m 0 c).arrAt_eq_of_covers 14 _ (by decide +kernel) fun t _ y => ?_
  blk_simp
  rw [after0_14]
  idx_vars y
  rw [Block.xbc_at]
  rw [emb14]
  exact col_w6 m c t y0 y1

theorem emb15 (t : Fin cfg0.N) (r : Fin 32) (n : Fin 1024) : ((cfg0.win 15).blk t).view.emb (ix2 r n) = ix2 r n := by
  blk_ext [idx t]

/-- The attention's gate. -/
theorem final15 : (dats m 0 c).arrAt 15 cfg0.N = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 5208 1024 (by omega) := by
  refine (dats m 0 c).arrAt_eq_of_covers 15 _ (by decide +kernel) fun t _ y => ?_
  blk_simp
  rw [after0_15]
  idx_vars y
  rw [Block.ga_at]
  rw [emb15]
  exact col_w7 m c t y0 y1

theorem emb16 (t : Fin cfg0.N) (r : Fin 32) (n : Fin 1024) : ((cfg0.win 16).blk t).view.emb (ix2 r n) = ix2 r n := by
  blk_ext [idx t]

/-- The recurrence's output gate. -/
theorem final16 : (dats m 0 c).arrAt 16 cfg0.N = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 6232 1024 (by omega) := by
  refine (dats m 0 c).arrAt_eq_of_covers 16 _ (by decide +kernel) fun t _ y => ?_
  blk_simp
  rw [after0_16]
  idx_vars y
  rw [Block.gs_at]
  rw [emb16]
  exact col_w8 m c t y0 y1

/-- An entry of `miS`. -/
theorem mi_val (x : FVec Ideal ⟨3, ![32, 1, 1024]⟩ .f32) (sc sh : FVec Ideal ⟨3, ![1, 32, 1024]⟩ .f32) (nw : FVec Ideal ⟨2, ![1, 1024]⟩ .f32)
    (w : FVec Ideal ⟨3, ![1, 1024, 7256]⟩ .f32) (r : Fin 32) (l : Fin 128) :
    miS x sc sh nw w (ix2 r l) = if h : l.val < 64 then hds x sc sh nw w r 2048 (by omega) ⟨l.val, h⟩
      else if h : l.val < 72 then prs x sc sh nw w r ⟨2048 + l.val, by omega⟩
      else if h : l.val < 88 then prs x sc sh nw w r ⟨5120 + l.val, by omega⟩ else 0 := rfl

theorem emb12 (t : Fin cfg0.N) (r : Fin 32) (n : Fin 128) : ((cfg0.win 12).blk t).view.emb (ix2 r n) = ix2 r n := by
  blk_ext [idx t]

/-- The index keys, the index weights, the step sizes and forty zeros. -/
theorem final12 : (dats m 0 c).arrAt 12 cfg0.N = miS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 12 _ (by decide +kernel) fun t _ y => ?_
  blk_simp
  rw [after0_12]
  idx_vars y
  rw [Block.mi_at]
  rw [emb12]
  refine Eq.trans ?_ (mi_val _ _ _ _ _ y0 y1).symm
  by_cases h : y1.val < 64
  · rw [if_pos h, dif_pos h]
    refine hd_of m c t y0 _ _ ⟨y1.val, h⟩ 2048 (by omega) (by dsimp only <;> omega) fun e => ?_
    exact (congrArg (pbk m c t _) (Fin.ext (by dsimp only <;> omega))).trans ((col_u0 m c t _ ⟨e.val, by omega⟩).trans (congrArg (prm m c _) (Fin.ext (by dsimp only <;> omega))))
  · rw [if_neg h, dif_neg h]
    by_cases h2 : y1.val < 72
    · rw [dif_pos h2]
      exact (congrArg (pbk m c t _) (Fin.ext (by dsimp only <;> omega))).trans ((col_u1 m c t _ ⟨y1.val - 64, by omega⟩).trans (congrArg (prm m c _) (Fin.ext (by dsimp only <;> omega))))
    · rw [dif_neg h2]
      by_cases h3 : y1.val < 88
      · rw [dif_pos h3]
        exact (congrArg (pbk m c t _) (Fin.ext (by dsimp only <;> omega))).trans ((col_u2 m c t _ ⟨y1.val - 72, by omega⟩).trans (congrArg (prm m c _) (Fin.ext (by dsimp only <;> omega))))
      · rw [dif_neg h3]
        exact (congrArg (pbk m c t _) (Fin.ext (by dsimp only <;> omega))).trans (col_u3 m c t y0 ⟨y1.val - 88, by omega⟩)

end Cert.InprojsIdeal.Final
-- ==== Proof.Inprojs.Ref.lean ====
/- What the reference of the sample's in-projection computes, token by token. -/
module

public import proofs.«01_k».proof.Proof.Inprojs.Rows
public import proofs.«01_k».proof.Proof.Gen.InprojsRefIdeal.Run

@[expose] public section

set_option maxRecDepth 16384

noncomputable section

namespace Cert.InprojsRefIdeal.Stage

open Idealize.ShloMosaic Idealize.ShloMosaic.TcCoe Idealize.SL.Sem
open Cert.InprojsRefIdeal Cert.InprojsRefIdeal.Gen Cert.InprojsRefIdeal.Value
open Cert.Mlp Cert.Inproj Cert.Inprojs

variable (V0 : Valuation τ sig (Elt Ideal))

/-- A column of the projection, of the reference's arguments. -/
abbrev P (r : Fin 32) (n : Fin 7256) : EReal :=
  prs (V0 (Proc.devRef .tc main_arg0)) (V0 (Proc.devRef .tc main_arg1)) (V0 (Proc.devRef .tc main_arg2))
    (V0 (Proc.devRef .tc main_arg3)) (V0 (Proc.devRef .tc main_arg4)) r n

theorem v24_at (r : Fin 32) (t : Fin 1) (n : Fin 7256) : res_main_v24 V0 (ix3 r t n) = P V0 r n := by
  obtain rfl : t = 0 := Subsingleton.elim _ _
  pointwise [res_main_v24, prs, hid, nrm]

/-! The cosines and sines of the angles. -/

theorem pos0 : IntOp.addi 8192#32 0#32 = 8192#32 := by decide
theorem v51_at (p z : Fin 1) (j : Fin 8) : res_main_v51 V0 (ix3 p z j) = csS j := by
  obtain rfl : p = 0 := Subsingleton.elim _ _
  pointwise [res_main_v51, res_main_v49, res_main_v4, csS, ang]
  rw [pos0]
theorem v53_at (p z : Fin 1) (j : Fin 8) : res_main_v53 V0 (ix3 p z j) = snS j := by
  obtain rfl : p = 0 := Subsingleton.elim _ _
  pointwise [res_main_v53, res_main_v49, res_main_v4, snS, ang]
  rw [pos0]
theorem v87_at (p z : Fin 1) (j : Fin 8) : res_main_v87 V0 (ix3 p z j) = csS j := by
  obtain rfl : p = 0 := Subsingleton.elim _ _
  pointwise [res_main_v87, res_main_v85, res_main_v4, csS, ang]
  rw [pos0]
theorem v89_at (p z : Fin 1) (j : Fin 8) : res_main_v89 V0 (ix3 p z j) = snS j := by
  obtain rfl : p = 0 := Subsingleton.elim _ _
  pointwise [res_main_v89, res_main_v85, res_main_v4, snS, ang]
  rw [pos0]
theorem v124_at (p z : Fin 1) (j : Fin 8) : res_main_v124 V0 (ix3 p z j) = csS j := by
  obtain rfl : p = 0 := Subsingleton.elim _ _
  pointwise [res_main_v124, res_main_v122, res_main_v4, csS, ang]
  rw [pos0]
theorem v126_at (p z : Fin 1) (j : Fin 8) : res_main_v126 V0 (ix3 p z j) = snS j := by
  obtain rfl : p = 0 := Subsingleton.elim _ _
  pointwise [res_main_v126, res_main_v122, res_main_v4, snS, ang]
  rw [pos0]
theorem v160_at (p z : Fin 1) (j : Fin 8) : res_main_v160 V0 (ix3 p z j) = csS j := by
  obtain rfl : p = 0 := Subsingleton.elim _ _
  pointwise [res_main_v160, res_main_v158, res_main_v4, csS, ang]
  rw [pos0]
theorem v162_at (p z : Fin 1) (j : Fin 8) : res_main_v162 V0 (ix3 p z j) = snS j := by
  obtain rfl : p = 0 := Subsingleton.elim _ _
  pointwise [res_main_v162, res_main_v158, res_main_v4, snS, ang]
  rw [pos0]

/-- The turned head whose columns start at `o`. -/
abbrev H (r : Fin 32) (o : ℕ) (ho : o + 64 ≤ 7256) : Fin 64 → EReal :=
  hds (V0 (Proc.devRef .tc main_arg0)) (V0 (Proc.devRef .tc main_arg1)) (V0 (Proc.devRef .tc main_arg2))
    (V0 (Proc.devRef .tc main_arg3)) (V0 (Proc.devRef .tc main_arg4)) r o ho

end Cert.InprojsRefIdeal.Stage
-- ==== Proof.Inprojs.RefQ.lean ====
/- The reference's queries. -/
module

public import proofs.«01_k».proof.Proof.Inprojs.Ref

@[expose] public section

set_option maxRecDepth 16384

noncomputable section

namespace Cert.InprojsRefIdeal.Stage

open Idealize.ShloMosaic Idealize.ShloMosaic.TcCoe Idealize.SL.Sem
open Cert.InprojsRefIdeal Cert.InprojsRefIdeal.Gen Cert.InprojsRefIdeal.Value
open Cert.Mlp Cert.Inproj Cert.Inprojs

variable (V0 : Valuation τ sig (Elt Ideal))

/-- The scaled, turned queries, head by head. -/
theorem q_eq : (shapeCast _ (mulf ((concatenate S32x1x16x64 3 [⟨S32x1x16x8, ((subf (mulf (res_main_v54 V0) (broadcastInDim S32x1x16x8 ![0, 1, 2, 3] bcast_S1x1x1x8_S32x1x16x8_0_1_2_3 (broadcastInDim S1x1x1x8 ![1, 2, 3] bcast_S1x1x8_S1x1x1x8_1_2_3 (res_main_v51 V0)))) (mulf (res_main_v55 V0) (broadcastInDim S32x1x16x8 ![0, 1, 2, 3] bcast_S1x1x1x8_S32x1x16x8_0_1_2_3 (broadcastInDim S1x1x1x8 ![1, 2, 3] bcast_S1x1x8_S1x1x1x8_1_2_3 (res_main_v53 V0))))) : (⟨S32x1x16x8, .f32⟩ : BufTy).Contents (Elt Ideal))⟩, ⟨S32x1x16x8, ((addf (mulf (res_main_v54 V0) (broadcastInDim S32x1x16x8 ![0, 1, 2, 3] bcast_S1x1x1x8_S32x1x16x8_0_1_2_3 (broadcastInDim S1x1x1x8 ![1, 2, 3] bcast_S1x1x8_S1x1x1x8_1_2_3 (res_main_v53 V0)))) (mulf (res_main_v55 V0) (broadcastInDim S32x1x16x8 ![0, 1, 2, 3] bcast_S1x1x1x8_S32x1x16x8_0_1_2_3 (broadcastInDim S1x1x1x8 ![1, 2, 3] bcast_S1x1x8_S1x1x1x8_1_2_3 (res_main_v51 V0))))) : (⟨S32x1x16x8, .f32⟩ : BufTy).Contents (Elt Ideal))⟩, ⟨S32x1x16x48, ((extractStridedSlice S32x1x16x48 ![0, 0, 0, 16] (res_main_v36 V0) slices_S32x1x16x64_S32x1x16x48_0_0_0_16) : (⟨S32x1x16x48, .f32⟩ : BufTy).Contents (Elt Ideal))⟩] concatenates_S32x1x16x8_S32x1x16x8_S32x1x16x48_S32x1x16x64_d3 : (⟨S32x1x16x64, .f32⟩ : BufTy).Contents (Elt Ideal))) (broadcastInDim S32x1x16x64 ![] bcast_S_S32x1x16x64 (constant (F := Ideal) S_ .f32 0x3E000000#32))) shapeCasts_S32x1x16x64_S32x1024 : FVec Ideal S32x1024 .f32) =
    qS (V0 (Proc.devRef .tc main_arg0)) (V0 (Proc.devRef .tc main_arg1)) (V0 (Proc.devRef .tc main_arg2))
    (V0 (Proc.devRef .tc main_arg3)) (V0 (Proc.devRef .tc main_arg4)) := by
  funext i; idx_vars i
  refine Eq.trans ?_ (congrArg (· * Ideal.ofBits .f32 0x3E000000#32) (rope_cat (P V0 i0) csS snS (0 + i1.val / 64 * 64) (by omega) ⟨i1.val % 64, by omega⟩))
  pointwise []
  simp only [v51_at, v53_at]
  pointwise [res_main_v54, res_main_v55, res_main_v36]
  simp only [v24_at, Nat.add_assoc, Nat.div_add_mod', Nat.zero_add]

end Cert.InprojsRefIdeal.Stage
-- ==== Proof.Inprojs.RefK.lean ====
/- The reference's keys. -/
module

public import proofs.«01_k».proof.Proof.Inprojs.Ref

@[expose] public section

set_option maxRecDepth 16384

noncomputable section

namespace Cert.InprojsRefIdeal.Stage

open Idealize.ShloMosaic Idealize.ShloMosaic.TcCoe Idealize.SL.Sem
open Cert.InprojsRefIdeal Cert.InprojsRefIdeal.Gen Cert.InprojsRefIdeal.Value
open Cert.Mlp Cert.Inproj Cert.Inprojs

variable (V0 : Valuation τ sig (Elt Ideal))

/-- The turned keys, head by head. -/
theorem k_eq : (shapeCast _ ((concatenate S32x1x4x64 3 [⟨S32x1x4x8, ((subf (mulf (res_main_v90 V0) (broadcastInDim S32x1x4x8 ![0, 1, 2, 3] bcast_S1x1x1x8_S32x1x4x8_0_1_2_3 (broadcastInDim S1x1x1x8 ![1, 2, 3] bcast_S1x1x8_S1x1x1x8_1_2_3 (res_main_v87 V0)))) (mulf (res_main_v91 V0) (broadcastInDim S32x1x4x8 ![0, 1, 2, 3] bcast_S1x1x1x8_S32x1x4x8_0_1_2_3 (broadcastInDim S1x1x1x8 ![1, 2, 3] bcast_S1x1x8_S1x1x1x8_1_2_3 (res_main_v89 V0))))) : (⟨S32x1x4x8, .f32⟩ : BufTy).Contents (Elt Ideal))⟩, ⟨S32x1x4x8, ((addf (mulf (res_main_v90 V0) (broadcastInDim S32x1x4x8 ![0, 1, 2, 3] bcast_S1x1x1x8_S32x1x4x8_0_1_2_3 (broadcastInDim S1x1x1x8 ![1, 2, 3] bcast_S1x1x8_S1x1x1x8_1_2_3 (res_main_v89 V0)))) (mulf (res_main_v91 V0) (broadcastInDim S32x1x4x8 ![0, 1, 2, 3] bcast_S1x1x1x8_S32x1x4x8_0_1_2_3 (broadcastInDim S1x1x1x8 ![1, 2, 3] bcast_S1x1x8_S1x1x1x8_1_2_3 (res_main_v87 V0))))) : (⟨S32x1x4x8, .f32⟩ : BufTy).Contents (Elt Ideal))⟩, ⟨S32x1x4x48, ((extractStridedSlice S32x1x4x48 ![0, 0, 0, 16] (res_main_v72 V0) slices_S32x1x4x64_S32x1x4x48_0_0_0_16) : (⟨S32x1x4x48, .f32⟩ : BufTy).Contents (Elt Ideal))⟩] concatenates_S32x1x4x8_S32x1x4x8_S32x1x4x48_S32x1x4x64_d3 : (⟨S32x1x4x64, .f32⟩ : BufTy).Contents (Elt Ideal))) shapeCasts_S32x1x4x64_S32x256 : FVec Ideal S32x256 .f32) =
    tnS (V0 (Proc.devRef .tc main_arg0)) (V0 (Proc.devRef .tc main_arg1)) (V0 (Proc.devRef .tc main_arg2))
    (V0 (Proc.devRef .tc main_arg3)) (V0 (Proc.devRef .tc main_arg4)) .f32 1024 256 (by omega) (by omega) := by
  funext i; idx_vars i
  refine Eq.trans ?_ (rope_cat (P V0 i0) csS snS (1024 + i1.val / 64 * 64) (by omega) ⟨i1.val % 64, by omega⟩)
  pointwise []
  simp only [v87_at, v89_at]
  pointwise [res_main_v90, res_main_v91, res_main_v72]
  simp only [v24_at, Nat.add_assoc, Nat.div_add_mod', Nat.zero_add]

end Cert.InprojsRefIdeal.Stage
-- ==== Proof.Inprojs.RefIq.lean ====
/- The reference's index queries. -/
module

public import proofs.«01_k».proof.Proof.Inprojs.Ref

@[expose] public section

set_option maxRecDepth 16384

noncomputable section

namespace Cert.InprojsRefIdeal.Stage

open Idealize.ShloMosaic Idealize.ShloMosaic.TcCoe Idealize.SL.Sem
open Cert.InprojsRefIdeal Cert.InprojsRefIdeal.Gen Cert.InprojsRefIdeal.Value
open Cert.Mlp Cert.Inproj Cert.Inprojs

variable (V0 : Valuation τ sig (Elt Ideal))

/-- The turned index queries, head by head. -/
theorem iq_eq : (truncf .bf16 (shapeCast _ ((concatenate S32x1x8x64 3 [⟨S32x1x8x8, ((subf (mulf (res_main_v127 V0) (broadcastInDim S32x1x8x8 ![0, 1, 2, 3] bcast_S1x1x1x8_S32x1x8x8_0_1_2_3 (broadcastInDim S1x1x1x8 ![1, 2, 3] bcast_S1x1x8_S1x1x1x8_1_2_3 (res_main_v124 V0)))) (mulf (res_main_v128 V0) (broadcastInDim S32x1x8x8 ![0, 1, 2, 3] bcast_S1x1x1x8_S32x1x8x8_0_1_2_3 (broadcastInDim S1x1x1x8 ![1, 2, 3] bcast_S1x1x8_S1x1x1x8_1_2_3 (res_main_v126 V0))))) : (⟨S32x1x8x8, .f32⟩ : BufTy).Contents (Elt Ideal))⟩, ⟨S32x1x8x8, ((addf (mulf (res_main_v127 V0) (broadcastInDim S32x1x8x8 ![0, 1, 2, 3] bcast_S1x1x1x8_S32x1x8x8_0_1_2_3 (broadcastInDim S1x1x1x8 ![1, 2, 3] bcast_S1x1x8_S1x1x1x8_1_2_3 (res_main_v126 V0)))) (mulf (res_main_v128 V0) (broadcastInDim S32x1x8x8 ![0, 1, 2, 3] bcast_S1x1x1x8_S32x1x8x8_0_1_2_3 (broadcastInDim S1x1x1x8 ![1, 2, 3] bcast_S1x1x8_S1x1x1x8_1_2_3 (res_main_v124 V0))))) : (⟨S32x1x8x8, .f32⟩ : BufTy).Contents (Elt Ideal))⟩, ⟨S32x1x8x48, ((extractStridedSlice S32x1x8x48 ![0, 0, 0, 16] (res_main_v109 V0) slices_S32x1x8x64_S32x1x8x48_0_0_0_16) : (⟨S32x1x8x48, .f32⟩ : BufTy).Contents (Elt Ideal))⟩] concatenates_S32x1x8x8_S32x1x8x8_S32x1x8x48_S32x1x8x64_d3 : (⟨S32x1x8x64, .f32⟩ : BufTy).Contents (Elt Ideal))) shapeCasts_S32x1x8x64_S32x512) bitsLt_bf16_f32 : FVec Ideal S32x512 .bf16) =
    tnS (V0 (Proc.devRef .tc main_arg0)) (V0 (Proc.devRef .tc main_arg1)) (V0 (Proc.devRef .tc main_arg2))
    (V0 (Proc.devRef .tc main_arg3)) (V0 (Proc.devRef .tc main_arg4)) .bf16 1536 512 (by omega) (by omega) := by
  funext i; idx_vars i
  refine Eq.trans ?_ (rope_cat (P V0 i0) csS snS (1536 + i1.val / 64 * 64) (by omega) ⟨i1.val % 64, by omega⟩)
  pointwise []
  simp only [v124_at, v126_at]
  pointwise [res_main_v127, res_main_v128, res_main_v109]
  simp only [v24_at, Nat.add_assoc, Nat.div_add_mod', Nat.zero_add]

end Cert.InprojsRefIdeal.Stage
-- ==== Proof.Inprojs.RefSt.lean ====
/- The stretches of columns that the reference returns as they are. -/
module

public import proofs.«01_k».proof.Proof.Inprojs.Ref

@[expose] public section

set_option maxRecDepth 16384

noncomputable section

namespace Cert.InprojsRefIdeal.Stage

open Idealize.ShloMosaic Idealize.ShloMosaic.TcCoe Idealize.SL.Sem
open Cert.InprojsRefIdeal Cert.InprojsRefIdeal.Gen Cert.InprojsRefIdeal.Value
open Cert.Mlp Cert.Inproj Cert.Inprojs

attribute [local irreducible] res_main_v24 prs

variable (V0 : Valuation τ sig (Elt Ideal))

/-- The values. -/
theorem v_eq : (shapeCast _ (shapeCast _ (extractStridedSlice S32x1x256 ![0, 0, 1280] (res_main_v24 V0) slices_S32x1x7256_S32x1x256_0_0_1280) shapeCasts_S32x1x256_S32x1x4x64) shapeCasts_S32x1x4x64_S32x256 : FVec Ideal S32x256 .f32) =
    stS (V0 (Proc.devRef .tc main_arg0)) (V0 (Proc.devRef .tc main_arg1)) (V0 (Proc.devRef .tc main_arg2))
    (V0 (Proc.devRef .tc main_arg3)) (V0 (Proc.devRef .tc main_arg4)) 1280 256 (by omega) := by
  funext i; idx_vars i
  pointwise [stS]
  simp only [v24_at]

/-- The recurrence's gate. -/
theorem z_eq : (shapeCast _ (extractStridedSlice S32x1x1024 ![0, 0, 2120] (res_main_v24 V0) slices_S32x1x7256_S32x1x1024_0_0_2120) shapeCasts_S32x1x1024_S32x1024 : FVec Ideal S32x1024 .f32) =
    stS (V0 (Proc.devRef .tc main_arg0)) (V0 (Proc.devRef .tc main_arg1)) (V0 (Proc.devRef .tc main_arg2))
    (V0 (Proc.devRef .tc main_arg3)) (V0 (Proc.devRef .tc main_arg4)) 2120 1024 (by omega) := by
  funext i; idx_vars i
  pointwise [stS]
  simp only [v24_at]

/-- The recurrence's inputs. -/
theorem xbc_eq : (shapeCast _ (extractStridedSlice S32x1x2048 ![0, 0, 3144] (res_main_v24 V0) slices_S32x1x7256_S32x1x2048_0_0_3144) shapeCasts_S32x1x2048_S32x2048 : FVec Ideal S32x2048 .f32) =
    stS (V0 (Proc.devRef .tc main_arg0)) (V0 (Proc.devRef .tc main_arg1)) (V0 (Proc.devRef .tc main_arg2))
    (V0 (Proc.devRef .tc main_arg3)) (V0 (Proc.devRef .tc main_arg4)) 3144 2048 (by omega) := by
  funext i; idx_vars i
  pointwise [stS]
  simp only [v24_at]

/-- The attention's gate. -/
theorem ga_eq : (shapeCast _ (extractStridedSlice S32x1x1024 ![0, 0, 5208] (res_main_v24 V0) slices_S32x1x7256_S32x1x1024_0_0_5208) shapeCasts_S32x1x1024_S32x1024 : FVec Ideal S32x1024 .f32) =
    stS (V0 (Proc.devRef .tc main_arg0)) (V0 (Proc.devRef .tc main_arg1)) (V0 (Proc.devRef .tc main_arg2))
    (V0 (Proc.devRef .tc main_arg3)) (V0 (Proc.devRef .tc main_arg4)) 5208 1024 (by omega) := by
  funext i; idx_vars i
  pointwise [stS]
  simp only [v24_at]

/-- The recurrence's output gate. -/
theorem gs_eq : (shapeCast _ (extractStridedSlice S32x1x1024 ![0, 0, 6232] (res_main_v24 V0) slices_S32x1x7256_S32x1x1024_0_0_6232) shapeCasts_S32x1x1024_S32x1024 : FVec Ideal S32x1024 .f32) =
    stS (V0 (Proc.devRef .tc main_arg0)) (V0 (Proc.devRef .tc main_arg1)) (V0 (Proc.devRef .tc main_arg2))
    (V0 (Proc.devRef .tc main_arg3)) (V0 (Proc.devRef .tc main_arg4)) 6232 1024 (by omega) := by
  funext i; idx_vars i
  pointwise [stS]
  simp only [v24_at]

end Cert.InprojsRefIdeal.Stage
-- ==== Proof.Inprojs.RefMi.lean ====
/- The reference's index keys, index weights and step sizes. -/
module

public import proofs.«01_k».proof.Proof.Inprojs.Ref

@[expose] public section

set_option maxRecDepth 16384

noncomputable section

namespace Cert.InprojsRefIdeal.Stage

open Idealize.ShloMosaic Idealize.ShloMosaic.TcCoe Idealize.SL.Sem
open Cert.InprojsRefIdeal Cert.InprojsRefIdeal.Gen Cert.InprojsRefIdeal.Value
open Cert.Mlp Cert.Inproj Cert.Inprojs

variable (V0 : Valuation τ sig (Elt Ideal))

/-- The reference's index keys. -/
def ikT : FVec Ideal S32x1x64 .f32 := (shapeCast _ ((concatenate S32x1x1x64 3 [⟨S32x1x1x8, ((subf (mulf (res_main_v163 V0) (broadcastInDim S32x1x1x8 ![0, 1, 2, 3] bcast_S1x1x1x8_S32x1x1x8_0_1_2_3 (broadcastInDim S1x1x1x8 ![1, 2, 3] bcast_S1x1x8_S1x1x1x8_1_2_3 (res_main_v160 V0)))) (mulf (res_main_v164 V0) (broadcastInDim S32x1x1x8 ![0, 1, 2, 3] bcast_S1x1x1x8_S32x1x1x8_0_1_2_3 (broadcastInDim S1x1x1x8 ![1, 2, 3] bcast_S1x1x8_S1x1x1x8_1_2_3 (res_main_v162 V0))))) : (⟨S32x1x1x8, .f32⟩ : BufTy).Contents (Elt Ideal))⟩, ⟨S32x1x1x8, ((addf (mulf (res_main_v163 V0) (broadcastInDim S32x1x1x8 ![0, 1, 2, 3] bcast_S1x1x1x8_S32x1x1x8_0_1_2_3 (broadcastInDim S1x1x1x8 ![1, 2, 3] bcast_S1x1x8_S1x1x1x8_1_2_3 (res_main_v162 V0)))) (mulf (res_main_v164 V0) (broadcastInDim S32x1x1x8 ![0, 1, 2, 3] bcast_S1x1x1x8_S32x1x1x8_0_1_2_3 (broadcastInDim S1x1x1x8 ![1, 2, 3] bcast_S1x1x8_S1x1x1x8_1_2_3 (res_main_v160 V0))))) : (⟨S32x1x1x8, .f32⟩ : BufTy).Contents (Elt Ideal))⟩, ⟨S32x1x1x48, ((extractStridedSlice S32x1x1x48 ![0, 0, 0, 16] (res_main_v145 V0) slices_S32x1x1x64_S32x1x1x48_0_0_0_16) : (⟨S32x1x1x48, .f32⟩ : BufTy).Contents (Elt Ideal))⟩] concatenates_S32x1x1x8_S32x1x1x8_S32x1x1x48_S32x1x1x64_d3 : (⟨S32x1x1x64, .f32⟩ : BufTy).Contents (Elt Ideal))) shapeCasts_S32x1x1x64_S32x1x64)

/-- The turned index keys. -/
theorem ik_at (r : Fin 32) (t : Fin 1) (e : Fin 64) : ikT V0 (ix3 r t e) = H V0 r 2048 (by omega) e := by
  obtain rfl : t = 0 := Subsingleton.elim _ _
  refine Eq.trans ?_ (rope_cat (P V0 r) csS snS 2048 (by omega) e)
  pointwise [ikT]
  simp only [v160_at, v162_at]
  pointwise [res_main_v163, res_main_v164, res_main_v145]
  simp only [v24_at]

section
attribute [local irreducible] res_main_v24 hds prs ikT

/-- The index keys, the index weights, the step sizes and zeros. -/
theorem mi_eq' : (shapeCast _ ((concatenate S32x1x128 2 [⟨S32x1x64, (ikT V0 : (⟨S32x1x64, .f32⟩ : BufTy).Contents (Elt Ideal))⟩, ⟨S32x1x8, ((extractStridedSlice S32x1x8 ![0, 0, 2112] (res_main_v24 V0) slices_S32x1x7256_S32x1x8_0_0_2112) : (⟨S32x1x8, .f32⟩ : BufTy).Contents (Elt Ideal))⟩, ⟨S32x1x16, ((extractStridedSlice S32x1x16 ![0, 0, 5192] (res_main_v24 V0) slices_S32x1x7256_S32x1x16_0_0_5192) : (⟨S32x1x16, .f32⟩ : BufTy).Contents (Elt Ideal))⟩, ⟨S32x1x40, ((broadcastInDim S32x1x40 ![] bcast_S_S32x1x40 (constant (F := Ideal) S_ .f32 0x00000000#32)) : (⟨S32x1x40, .f32⟩ : BufTy).Contents (Elt Ideal))⟩] concatenates_S32x1x64_S32x1x8_S32x1x16_S32x1x40_S32x1x128_d2 : (⟨S32x1x128, .f32⟩ : BufTy).Contents (Elt Ideal))) shapeCasts_S32x1x128_S32x128 : FVec Ideal S32x128 .f32) =
    miS (V0 (Proc.devRef .tc main_arg0)) (V0 (Proc.devRef .tc main_arg1)) (V0 (Proc.devRef .tc main_arg2))
    (V0 (Proc.devRef .tc main_arg3)) (V0 (Proc.devRef .tc main_arg4)) := by
  funext i; idx_vars i
  pointwise [miS]
  simp only [ik_at, v24_at]
  by_cases h : i1.val < 64
  · simp only [dif_pos h]
  · by_cases h2 : i1.val < 72
    · have h3 : i1.val - 64 < 8 := by omega
      simp only [dif_neg h, dif_pos h2, dif_pos h3]
      exact congrArg (P V0 _) (Fin.ext (by show 2112 + (i1.val - 64) = 2048 + i1.val; omega))
    · have h3 : ¬i1.val - 64 < 8 := by omega
      by_cases h4 : i1.val < 88
      · have h5 : i1.val - 64 - 8 < 16 := by omega
        simp only [dif_neg h, dif_neg h2, dif_neg h3, dif_pos h4, dif_pos h5]
        exact congrArg (P V0 _) (Fin.ext (by show 5192 + (i1.val - 64 - 8) = 5120 + i1.val; omega))
      · have h5 : ¬i1.val - 64 - 8 < 16 := by omega
        simp only [dif_neg h, dif_neg h2, dif_neg h3, dif_neg h4, dif_neg h5]
end

/-- The index keys, the index weights, the step sizes and zeros, as the reference writes them. -/
theorem mi_eq : (shapeCast _ ((concatenate S32x1x128 2 [⟨S32x1x64, ((shapeCast _ ((concatenate S32x1x1x64 3 [⟨S32x1x1x8, ((subf (mulf (res_main_v163 V0) (broadcastInDim S32x1x1x8 ![0, 1, 2, 3] bcast_S1x1x1x8_S32x1x1x8_0_1_2_3 (broadcastInDim S1x1x1x8 ![1, 2, 3] bcast_S1x1x8_S1x1x1x8_1_2_3 (res_main_v160 V0)))) (mulf (res_main_v164 V0) (broadcastInDim S32x1x1x8 ![0, 1, 2, 3] bcast_S1x1x1x8_S32x1x1x8_0_1_2_3 (broadcastInDim S1x1x1x8 ![1, 2, 3] bcast_S1x1x8_S1x1x1x8_1_2_3 (res_main_v162 V0))))) : (⟨S32x1x1x8, .f32⟩ : BufTy).Contents (Elt Ideal))⟩, ⟨S32x1x1x8, ((addf (mulf (res_main_v163 V0) (broadcastInDim S32x1x1x8 ![0, 1, 2, 3] bcast_S1x1x1x8_S32x1x1x8_0_1_2_3 (broadcastInDim S1x1x1x8 ![1, 2, 3] bcast_S1x1x8_S1x1x1x8_1_2_3 (res_main_v162 V0)))) (mulf (res_main_v164 V0) (broadcastInDim S32x1x1x8 ![0, 1, 2, 3] bcast_S1x1x1x8_S32x1x1x8_0_1_2_3 (broadcastInDim S1x1x1x8 ![1, 2, 3] bcast_S1x1x8_S1x1x1x8_1_2_3 (res_main_v160 V0))))) : (⟨S32x1x1x8, .f32⟩ : BufTy).Contents (Elt Ideal))⟩, ⟨S32x1x1x48, ((extractStridedSlice S32x1x1x48 ![0, 0, 0, 16] (res_main_v145 V0) slices_S32x1x1x64_S32x1x1x48_0_0_0_16) : (⟨S32x1x1x48, .f32⟩ : BufTy).Contents (Elt Ideal))⟩] concatenates_S32x1x1x8_S32x1x1x8_S32x1x1x48_S32x1x1x64_d3 : (⟨S32x1x1x64, .f32⟩ : BufTy).Contents (Elt Ideal))) shapeCasts_S32x1x1x64_S32x1x64) : (⟨S32x1x64, .f32⟩ : BufTy).Contents (Elt Ideal))⟩, ⟨S32x1x8, ((extractStridedSlice S32x1x8 ![0, 0, 2112] (res_main_v24 V0) slices_S32x1x7256_S32x1x8_0_0_2112) : (⟨S32x1x8, .f32⟩ : BufTy).Contents (Elt Ideal))⟩, ⟨S32x1x16, ((extractStridedSlice S32x1x16 ![0, 0, 5192] (res_main_v24 V0) slices_S32x1x7256_S32x1x16_0_0_5192) : (⟨S32x1x16, .f32⟩ : BufTy).Contents (Elt Ideal))⟩, ⟨S32x1x40, ((broadcastInDim S32x1x40 ![] bcast_S_S32x1x40 (constant (F := Ideal) S_ .f32 0x00000000#32)) : (⟨S32x1x40, .f32⟩ : BufTy).Contents (Elt Ideal))⟩] concatenates_S32x1x64_S32x1x8_S32x1x16_S32x1x40_S32x1x128_d2 : (⟨S32x1x128, .f32⟩ : BufTy).Contents (Elt Ideal))) shapeCasts_S32x1x128_S32x128 : FVec Ideal S32x128 .f32) =
    miS (V0 (Proc.devRef .tc main_arg0)) (V0 (Proc.devRef .tc main_arg1)) (V0 (Proc.devRef .tc main_arg2))
    (V0 (Proc.devRef .tc main_arg3)) (V0 (Proc.devRef .tc main_arg4)) := mi_eq' V0

end Cert.InprojsRefIdeal.Stage
-- ==== Proof.Inprojs.Claims.lean ====
/- The sample's in-projection call and its reference: both runs end with the same results. -/
module

public import proofs.«01_k».proof.Proof.Inprojs.FinalA
public import proofs.«01_k».proof.Proof.Inprojs.FinalB
public import proofs.«01_k».proof.Proof.Inprojs.RefQ
public import proofs.«01_k».proof.Proof.Inprojs.RefK
public import proofs.«01_k».proof.Proof.Inprojs.RefIq
public import proofs.«01_k».proof.Proof.Inprojs.RefSt
public import proofs.«01_k».proof.Proof.Inprojs.RefMi
public import proofs.«01_k».proof.Defs
public import proofs.«01_k».proof.Proof.Gen.InprojsIdeal.Value
public import proofs.«01_k».proof.Proof.Gen.InprojsRefIdeal.Run
public import Idealize.ShloMosaic.Lib.Claim

@[expose] public section

set_option maxRecDepth 16384

noncomputable section

open Idealize.ShloMosaic Idealize.ShloMosaic.TcCoe Idealize.ShloMosaic.StableHlo Idealize.SL.Sem
open Cert.Inprojs

namespace Cert.InprojsIdeal.Final
open Cert.InprojsIdeal Cert.InprojsIdeal.Gen

/-- The run's results as functions of the arguments. -/
theorem runF (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v49_0) = qS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v49_1) = tnS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32 1024 256 (by omega) (by omega)
    ∧ r.2.mem ((c.tc : Thread nD τ).loc main_v49_2) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 1280 256 (by omega)
    ∧ r.2.mem ((c.tc : Thread nD τ).loc main_v49_3) = tnS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 1536 512 (by omega) (by omega)
    ∧ r.2.mem ((c.tc : Thread nD τ).loc main_v49_4) = miS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v49_5) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 2120 1024 (by omega)
    ∧ r.2.mem ((c.tc : Thread nD τ).loc main_v49_6) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 3144 2048 (by omega)
    ∧ r.2.mem ((c.tc : Thread nD τ).loc main_v49_7) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 5208 1024 (by omega)
    ∧ r.2.mem ((c.tc : Thread nD τ).loc main_v49_8) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 6232 1024 (by omega)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2.1.trans (final14 m c), (h c).2.2.2.2.2.2.2.1.trans (final15 m c), (h c).2.2.2.2.2.2.2.2.1.trans (final16 m c), (h c).2.2.2.2.2.2.2.2.2⟩) (Cert.InprojsIdeal.Value.run_blocks m g)

end Cert.InprojsIdeal.Final

namespace Cert.InprojsRefIdeal.Stage
open Cert.InprojsRefIdeal Cert.InprojsRefIdeal.Gen

/-- The run's results as functions of the arguments. -/
theorem runF (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v186) = qS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v187) = tnS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32 1024 256 (by omega) (by omega)
    ∧ r.2.mem ((c.tc : Thread nD τ).loc main_v188) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 1280 256 (by omega)
    ∧ r.2.mem ((c.tc : Thread nD τ).loc main_v190) = tnS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 1536 512 (by omega) (by omega)
    ∧ r.2.mem ((c.tc : Thread nD τ).loc main_v191) = miS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v192) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 2120 1024 (by omega)
    ∧ r.2.mem ((c.tc : Thread nD τ).loc main_v193) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 3144 2048 (by omega)
    ∧ r.2.mem ((c.tc : Thread nD τ).loc main_v194) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 5208 1024 (by omega)
    ∧ r.2.mem ((c.tc : Thread nD τ).loc main_v195) = stS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 6232 1024 (by omega)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (q_eq (launchContents m c)), (h c).2.1.trans (k_eq (launchContents m c)), (h c).2.2.1.trans (v_eq (launchContents m c)), (h c).2.2.2.1.trans (iq_eq (launchContents m c)), (h c).2.2.2.2.1.trans (mi_eq (launchContents m c)), (h c).2.2.2.2.2.1.trans (z_eq (launchContents m c)), (h c).2.2.2.2.2.2.1.trans (xbc_eq (launchContents m c)), (h c).2.2.2.2.2.2.2.1.trans (ga_eq (launchContents m c)), (h c).2.2.2.2.2.2.2.2.1.trans (gs_eq (launchContents m c)), (h c).2.2.2.2.2.2.2.2.2⟩) (Cert.InprojsRefIdeal.Value.run (F := Ideal) m g)

end Cert.InprojsRefIdeal.Stage

/-- The reference leaves its arguments unchanged. -/
theorem Cert.InprojsRefIdeal.Claims.frame : Cert.quiescent_InprojsRefIdeal := fun m g _ =>
  (θ_run Cert.InprojsRefIdeal.defs _ _).mono (fun r h => ⟨fun c => (h c).2.2.2.2.2.2.2.2.2, sem_eq_zero_of_no_sems (by decide) r.2⟩)
    (Cert.InprojsRefIdeal.Value.run (F := Ideal) m g)

/-- The sample's in-projection kernel and its reference end with the same nine results. -/
theorem Cert.InprojsIdeal.Claims.algebraic : Cert.algebraic_InprojsIdeal_InprojsRefIdeal := by
  pair_intro
  · run_from Cert.InprojsIdeal.Final.runF m g
  · run_from Cert.InprojsRefIdeal.Stage.runF m' g'
-- ==== Proof.lean ====
/- The claims of the feed-forward calls and of the in-projection calls (prompt and sample) and of the recurrence step, from the modules that prove them. -/
module

public import proofs.«01_k».proof.Proof.Mlp.Claims
public import proofs.«01_k».proof.Proof.Inproj.Claims
public import proofs.«01_k».proof.Proof.Gen.MlpIdeal.Value
public import proofs.«01_k».proof.Proof.Gen.MlpRefIdeal.Run
public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepIdeal.Value
public import proofs.«01_k».proof.Proof.Gen.StepRefIdeal
public import proofs.«01_k».proof.Proof.Gen.StepRefIdeal.Run
public import proofs.«01_k».proof.Proof.Mlps.Claims
public import proofs.«01_k».proof.Proof.Step.Claims
public import proofs.«01_k».proof.Proof.Inprojs.Claims
public import proofs.«01_k».proof.Proof.Gen.MlpsIdeal.Value
public import proofs.«01_k».proof.Proof.Gen.MlpsRefIdeal.Run
public import proofs.«01_k».proof.Proof.Gen.Mlps
public import proofs.«01_k».proof.Proof.Gen.Mlps.Skeleton
public import proofs.«01_k».proof.Proof.Gen.Mlps.Launch
public import proofs.«01_k».proof.Proof.Gen.Mlps.Points
public import proofs.«01_k».proof.Proof.Gen.Mlps.Frame
public import proofs.«01_k».proof.Proof.Gen.MlpsIdeal
public import proofs.«01_k».proof.Proof.Gen.MlpsIdeal.Skeleton
public import proofs.«01_k».proof.Proof.Gen.MlpsIdeal.Launch
public import proofs.«01_k».proof.Proof.Gen.MlpsIdeal.Points
public import proofs.«01_k».proof.Proof.Gen.MlpsIdeal.Frame
public import proofs.«01_k».proof.Proof.Gen.MlpsRefIdeal
public import proofs.«01_k».proof.Proof.Gen.Inprojs
public import proofs.«01_k».proof.Proof.Gen.Inprojs.Skeleton
public import proofs.«01_k».proof.Proof.Gen.Inprojs.Launch
public import proofs.«01_k».proof.Proof.Gen.Inprojs.Points
public import proofs.«01_k».proof.Proof.Gen.Inprojs.Frame
public import proofs.«01_k».proof.Proof.Gen.InprojsIdeal
public import proofs.«01_k».proof.Proof.Gen.InprojsIdeal.Skeleton
public import proofs.«01_k».proof.Proof.Gen.InprojsIdeal.Launch
public import proofs.«01_k».proof.Proof.Gen.InprojsIdeal.Points
public import proofs.«01_k».proof.Proof.Gen.InprojsIdeal.Frame
public import proofs.«01_k».proof.Proof.Gen.InprojsIdeal.Value
public import proofs.«01_k».proof.Proof.Gen.InprojsRefIdeal
public import proofs.«01_k».proof.Proof.Gen.InprojsRefIdeal.Run
public import Idealize.ShloMosaic.Adequacy
public import Idealize.ShloMosaic.Init

@[expose] public section

noncomputable section

namespace Cert.Proof

open Idealize.ShloMosaic Idealize.SL.Sem Cert.Mlp

/-- Every claim, from the modules that prove the calls one by one. -/
theorem claim : Cert.Claim := ⟨Cert.Mlp.Gen.facts, Cert.MlpIdeal.Gen.facts, Cert.MlpRefIdeal.Gen.facts,
  Cert.Inproj.Gen.facts, Cert.InprojIdeal.Gen.facts, Cert.InprojRefIdeal.Gen.facts,
  Cert.Mlps.Gen.facts, Cert.MlpsIdeal.Gen.facts, Cert.MlpsRefIdeal.Gen.facts,
  Cert.Inprojs.Gen.facts, Cert.InprojsIdeal.Gen.facts, Cert.InprojsRefIdeal.Gen.facts,
  Cert.Step.Gen.facts, Cert.StepIdeal.Gen.facts, Cert.StepRefIdeal.Gen.facts, Cert.Step.preFacts,
  fun m g _ => Cert.Mlp.Gen.frame m g, fun m g _ => Cert.MlpIdeal.Gen.frame m g, Cert.MlpRefIdeal.Claims.frame,
  fun m g _ => Cert.Inproj.Gen.frame m g, fun m g _ => Cert.InprojIdeal.Gen.frame m g, Cert.InprojRefIdeal.Claims.frame,
  fun m g _ => Cert.Mlps.Gen.frame m g, fun m g _ => Cert.MlpsIdeal.Gen.frame m g, Cert.MlpsRefIdeal.Claims.frame,
  fun m g _ => Cert.Inprojs.Gen.frame m g, fun m g _ => Cert.InprojsIdeal.Gen.frame m g, Cert.InprojsRefIdeal.Claims.frame,
  fun m g _ => Cert.Step.Gen.frame m g, fun m g _ => Cert.StepIdeal.Gen.frame m g, fun m g _ => Cert.StepIdeal.Gen.frame m g,
  Cert.StepRefIdeal.Claims.frame, fun m g _ => Cert.StepRefIdeal.Claims.frame m g trivial,
  trivial, Cert.MlpIdeal.Claims.algebraic, trivial, Cert.InprojIdeal.Claims.algebraic,
  trivial, Cert.MlpsIdeal.Claims.algebraic, trivial, Cert.InprojsIdeal.Claims.algebraic,
  trivial, Cert.StepIdeal.Claims.algebraic⟩

end Cert.Proof

end
